-- ==== Defs.lean ====
def Pre_Kernel [hPre_graphs : Cert.Pre_graphs.Facts] (m : (ℓ : Loc Cert.Kernel.nD Cert.Kernel.τ Cert.Kernel.sig) → Buf (Elt Bits) ℓ) : Prop :=
  ∀ c : Dev Cert.Kernel.nD,
    (Cert.Pre_graphs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_graphs : Cert.Pre_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graphs [hPre_graphs : Cert.Pre_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_graphs : Cert.Pre_graphs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_graphs : Cert.Pre_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_graphs [hReferenceIdeal : Cert.ReferenceIdeal.Facts] [hPre_graphs : Cert.Pre_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_graphs : Cert.Pre_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_graphs : Cert.Pre_graphs.Facts),
    quiescent_Kernel (hKernel := hKernel) (hPre_graphs := hPre_graphs)
    ∧ quiescent_KernelIdeal (hKernelIdeal := hKernelIdeal) (hPre_graphs := hPre_graphs)
    ∧ quiescent_ReferenceIdeal (hReferenceIdeal := hReferenceIdeal)
    ∧ quiescent_ReferenceIdeal_pre_graphs (hReferenceIdeal := hReferenceIdeal) (hPre_graphs := hPre_graphs)
    ∧ preserves_Kernel_KernelIdeal
    ∧ algebraic_KernelIdeal_ReferenceIdeal (hKernelIdeal := hKernelIdeal) (hReferenceIdeal := hReferenceIdeal) (hPre_graphs := hPre_graphs)
-- ==== Pre_graphs.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S49999 : Shape := ⟨1, ![49999]⟩
abbrev S1 : Shape := ⟨1, ![1]⟩
abbrev S_ : Shape := ⟨0, ![]⟩

class Facts : Prop where
  slices_S50000_S49999_1 : S50000.Slices ![1] S49999
  slices_S50000_S49999_0 : S50000.Slices ![0] S49999
  slices_S50000_S1_0 : S50000.Slices ![0] S1
  shapeCasts_S1_S_ : S1.ShapeCasts S_
  slices_S50000_S1_49999 : S50000.Slices ![49999] S1
  bcast_S_S49999 : S_.BroadcastsInDim S49999 (![] : Fin 0 → Fin S49999.rank)
  reducesTo_S49999_S_d0 : S49999.ReducesTo [0] S_
  h_S_ : 0 < S_.numel

variable [Facts]

def fn {F : FTy → Type} [FloatOps F] (main_arg0 : FVec F S50000x512 .f32) (main_arg1 : IVec S50000 32) (main_arg2 : FVec F S512x512 .f32) (main_arg3 : FVec F S512 .f32) (main_arg4 : FVec F S512x128 .f32) (main_arg5 : FVec F S128 .f32) : IVec S_ 1 :=
  let main_v0 : IVec S49999 32 := (extractStridedSlice S49999 ![1] · slices_S50000_S49999_1) main_arg1
  let main_v1 : IVec S49999 32 := (extractStridedSlice S49999 ![0] · slices_S50000_S49999_0) main_arg1
  let main_v2 : IVec S49999 32 := subi main_v0 main_v1
  let main_v3 : IVec S1 32 := (extractStridedSlice S1 ![0] · slices_S50000_S1_0) main_arg1
  let main_v4 : IVec S_ 32 := shapeCast S_ main_v3 shapeCasts_S1_S_
  let main_c : IVec S_ 32 := constantI S_ 32 0#32
  let main_v5 : IVec S_ 1 := cmpi .eq main_v4 main_c
  let main_v6 : IVec S1 32 := (extractStridedSlice S1 ![49999] · slices_S50000_S1_49999) main_arg1
  let main_v7 : IVec S_ 32 := shapeCast S_ main_v6 shapeCasts_S1_S_
  let main_c_0 : IVec S_ 32 := constantI S_ 32 127#32
  let main_v8 : IVec S_ 1 := cmpi .eq main_v7 main_c_0
  let main_v9 : IVec S_ 1 := andi main_v5 main_v8
  let main_c_1 : IVec S_ 32 := constantI S_ 32 0#32
  let main_v10 : IVec S49999 32 := broadcastInDim S49999 ![] bcast_S_S49999 main_c_1
  let main_v11 : IVec S49999 1 := cmpi .eq main_v2 main_v10
  let main_c_2 : IVec S_ 32 := constantI S_ 32 1#32
  let main_v12 : IVec S49999 32 := broadcastInDim S49999 ![] bcast_S_S49999 main_c_2
  let main_v13 : IVec S49999 1 := cmpi .eq main_v2 main_v12
  let main_v14 : IVec S49999 1 := ori main_v11 main_v13
  let main_c_3 : IVec S_ 1 := constantI S_ 1 1#1
  let main_v15 : IVec S_ 1 := (fun x v => Host.reduce IntOp.andi x v reducesTo_S49999_S_d0 h_S_) main_v14 main_c_3
  let main_v16 : IVec S_ 1 := andi main_v9 main_v15
  main_v16
-- ==== Kernel.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S50000x1 : Shape := ⟨2, ![50000, 1]⟩
abbrev S250 : Shape := ⟨1, ![250]⟩
abbrev S_ : Shape := ⟨0, ![]⟩
abbrev S250x1 : Shape := ⟨2, ![250, 1]⟩
abbrev S250x2 : Shape := ⟨2, ![250, 2]⟩
abbrev S1x512 : Shape := ⟨2, ![1, 512]⟩
abbrev S1x128 : Shape := ⟨2, ![1, 128]⟩
abbrev S128x128 : Shape := ⟨2, ![128, 128]⟩
abbrev S1000x512 : Shape := ⟨2, ![1000, 512]⟩
abbrev S1000x1 : Shape := ⟨2, ![1000, 1]⟩
abbrev S136x512 : Shape := ⟨2, ![136, 512]⟩
abbrev S200x512 : Shape := ⟨2, ![200, 512]⟩
abbrev S200x1 : Shape := ⟨2, ![200, 1]⟩
abbrev S1x1 : Shape := ⟨2, ![1, 1]⟩
abbrev S128x512 : Shape := ⟨2, ![128, 512]⟩
abbrev S128x1 : Shape := ⟨2, ![128, 1]⟩

abbrev nBuf : Space → Nat
  | .hbm => 40
  | .vmem => 18
  | .smem => 1
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S50000x1, .i32⟩
  | .hbm, ⟨7, _⟩ => ⟨S250, .i32⟩
  | .hbm, ⟨8, _⟩ => ⟨S_, .i32⟩
  | .hbm, ⟨9, _⟩ => ⟨S250, .i32⟩
  | .hbm, ⟨10, _⟩ => ⟨S250, .i32⟩
  | .hbm, ⟨11, _⟩ => ⟨S_, .i32⟩
  | .hbm, ⟨12, _⟩ => ⟨S250, .i32⟩
  | .hbm, ⟨13, _⟩ => ⟨S250, .i1⟩
  | .hbm, ⟨14, _⟩ => ⟨S_, .i32⟩
  | .hbm, ⟨15, _⟩ => ⟨S250, .i32⟩
  | .hbm, ⟨16, _⟩ => ⟨S250, .i32⟩
  | .hbm, ⟨17, _⟩ => ⟨S250, .i32⟩
  | .hbm, ⟨18, _⟩ => ⟨S250x1, .i32⟩
  | .hbm, ⟨19, _⟩ => ⟨S250, .i32⟩
  | .hbm, ⟨20, _⟩ => ⟨S_, .i32⟩
  | .hbm, ⟨21, _⟩ => ⟨S250, .i32⟩
  | .hbm, ⟨22, _⟩ => ⟨S250, .i32⟩
  | .hbm, ⟨23, _⟩ => ⟨S_, .i32⟩
  | .hbm, ⟨24, _⟩ => ⟨S250, .i32⟩
  | .hbm, ⟨25, _⟩ => ⟨S250, .i32⟩
  | .hbm, ⟨26, _⟩ => ⟨S_, .i32⟩
  | .hbm, ⟨27, _⟩ => ⟨S250, .i32⟩
  | .hbm, ⟨28, _⟩ => ⟨S250, .i1⟩
  | .hbm, ⟨29, _⟩ => ⟨S_, .i32⟩
  | .hbm, ⟨30, _⟩ => ⟨S250, .i32⟩
  | .hbm, ⟨31, _⟩ => ⟨S250, .i32⟩
  | .hbm, ⟨32, _⟩ => ⟨S250, .i32⟩
  | .hbm, ⟨33, _⟩ => ⟨S250x1, .i32⟩
  | .hbm, ⟨34, _⟩ => ⟨S250, .i32⟩
  | .hbm, ⟨35, _⟩ => ⟨S250x1, .i32⟩
  | .hbm, ⟨36, _⟩ => ⟨S250x1, .i32⟩
  | .hbm, ⟨37, _⟩ => ⟨S1x512, .f32⟩
  | .hbm, ⟨38, _⟩ => ⟨S1x128, .f32⟩
  | .hbm, ⟨39, _⟩ => ⟨S128x128, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x1, .i32⟩
  | .local _ .vmem, ⟨5, _⟩ => ⟨S1000x1, .i32⟩
  | .local _ .vmem, ⟨6, _⟩ => ⟨S1000x1, .i32⟩
  | .local _ .vmem, ⟨7, _⟩ => ⟨S1000x1, .i32⟩
  | .local _ .vmem, ⟨8, _⟩ => ⟨S1000x1, .i32⟩
  | .local _ .vmem, ⟨9, _⟩ => ⟨S1000x1, .i32⟩
  | .local _ .vmem, ⟨10, _⟩ => ⟨S512x512, .f32⟩
  | .local _ .vmem, ⟨11, _⟩ => ⟨S1x512, .f32⟩
  | .local _ .vmem, ⟨12, _⟩ => ⟨S512x128, .f32⟩
  | .local _ .vmem, ⟨13, _⟩ => ⟨S1x128, .f32⟩
  | .local _ .vmem, ⟨14, _⟩ => ⟨S128x128, .f32⟩
  | .local _ .vmem, ⟨15, _⟩ => ⟨S136x512, .f32⟩
  | .local _ .vmem, ⟨16, _⟩ => ⟨S1000x512, .f32⟩
  | .local _ .vmem, ⟨17, _⟩ => ⟨S1000x512, .f32⟩
  | .local _ .smem, ⟨0, _⟩ => ⟨S250x2, .i32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v24 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![25], ![false]⟩

abbrev pre0 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32 : BitVec 32 := 5#32
  let v17 : BitVec 32 := Scalar.muli v11 c5_i32
  let c0_i32_12 : BitVec 32 := 0#32
  let v18 : BitVec 32 := Scalar.addi v17 c0_i32_12
  let v19 : Index := Scalar.indexCast v18
  let c0_13 : Index := 0#32
  ![v19.toNat, 0]
def k0_off2 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32 : BitVec 32 := 5#32
  let v17 : BitVec 32 := Scalar.muli v11 c5_i32
  let c0_i32_12 : BitVec 32 := 0#32
  let v18 : BitVec 32 := Scalar.addi v17 c0_i32_12
  let v21 : Index := Scalar.indexCast v18
  let c1 : Index := 1#32
  ![v21.toNat, 1]
def k0_off3 (i : grid0.Coords) (v20 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32 : BitVec 32 := 128#32
  let v23 : BitVec 32 := Scalar.select v12 v20 c128_i32
  let v180 : Index := Scalar.indexCast v23
  let c0_104 : Index := 0#32
  ![v180.toNat, 0]
def k0_cond2 (v20 : BitVec 32) (v22 : BitVec 32) : BitVec 1 :=
  let v24 : BitVec 1 := Scalar.cmpi .eq v20 v22
  let v25 : BitVec 32 := Scalar.extui v24
  let c0_i32_14 : BitVec 32 := 0#32
  let v26 : BitVec 1 := Scalar.cmpi .ne v25 c0_i32_14
  v26

def k0_off4 (i : grid0.Coords) (v20 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32 : BitVec 32 := 128#32
  let v23 : BitVec 32 := Scalar.select v12 v20 c128_i32
  let v195 : Index := Scalar.indexCast v23
  let c0_108 : Index := 0#32
  ![v195.toNat, 0]
def k0_cond3 (v20 : BitVec 32) (v22 : BitVec 32) : BitVec 1 :=
  let v27 : BitVec 1 := Scalar.cmpi .ne v20 v22
  let v28 : BitVec 32 := Scalar.extui v27
  let c0_i32_15 : BitVec 32 := 0#32
  let v29 : BitVec 1 := Scalar.cmpi .ne v28 c0_i32_15
  v29

def k0_off5 (i : grid0.Coords) (v22 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_107 : BitVec 32 := 128#32
  let v194 : BitVec 32 := Scalar.select v12 v22 c128_i32_107
  let v202 : Index := Scalar.indexCast v194
  let c0_110 : Index := 0#32
  ![v202.toNat, 0]
@[reducible] def k0_t1_loop (v20 : BitVec 32) (v22 : BitVec 32) : Scf.Loop 32 :=
  let c1_i32_114 : BitVec 32 := 1#32
  let v214 : BitVec 32 := Scalar.addi v20 c1_i32_114
  let v215 : BitVec 32 := Scalar.subi v22 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond4 (i : grid0.Coords) (v20 : BitVec 32) (v22 : BitVec 32) : BitVec 1 :=
  let arg0 : BitVec 32 := BitVec.ofNat 32 (i 0).val
  let c0_i32_7 : BitVec 32 := 0#32
  let v12 : BitVec 1 := Scalar.cmpi .sgt arg0 c0_i32_7
  let c1_i32_112 : BitVec 32 := 1#32
  let v209 : BitVec 32 := Scalar.addi v20 c1_i32_112
  let v210 : BitVec 1 := Scalar.cmpi .sgt v22 v209
  let v211 : BitVec 1 := Scalar.andi v12 v210
  let v212 : BitVec 32 := Scalar.extui v211
  let c0_i32_113 : BitVec 32 := 0#32
  let v213 : BitVec 1 := Scalar.cmpi .ne v212 c0_i32_113
  v213

def k0_off6 (v20 : BitVec 32) (v22 : BitVec 32) (k0_t1 : Fin (k0_t1_loop v20 v22).trips) : Fin 2 → Nat :=
  let c1_i32_114 : BitVec 32 := 1#32
  let v214 : BitVec 32 := Scalar.addi v20 c1_i32_114
  let c1_i32_117 : BitVec 32 := 1#32
  let arg15 : BitVec 32 := Scf.iv v214 c1_i32_117 k0_t1
  let v228 : Index := Scalar.indexCast arg15
  let c0_121 : Index := 0#32
  ![v228.toNat, 0]
@[reducible] def k0_t2_loop (v20 : BitVec 32) (v22 : BitVec 32) : Scf.Loop 32 :=
  let c1_i32_114 : BitVec 32 := 1#32
  let v214 : BitVec 32 := Scalar.addi v20 c1_i32_114
  let v215 : BitVec 32 := Scalar.subi v22 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off7 (v20 : BitVec 32) (v22 : BitVec 32) (k0_t2 : Fin (k0_t2_loop v20 v22).trips) : Fin 2 → Nat :=
  let c1_i32_114 : BitVec 32 := 1#32
  let v214 : BitVec 32 := Scalar.addi v20 c1_i32_114
  let v215 : BitVec 32 := Scalar.subi v22 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t2
  let v228 : Index := Scalar.indexCast arg15
  let c0_121 : Index := 0#32
  ![v228.toNat, 0]

def k0_chk1 (i : grid0.Coords) (v20 : BitVec 32) (v22 : BitVec 32) : Prop :=
  (∀ (k0_h2 : k0_cond2 v20 v22 = 1#1), ∀ a, (k0_off3 i v20) a + S1x512.size a ≤ S136x512.size a) ∧
  (∀ (k0_h3 : k0_cond3 v20 v22 = 1#1), ∀ a, (k0_off4 i v20) a + S1x512.size a ≤ S136x512.size a) ∧
  (∀ (k0_h3 : k0_cond3 v20 v22 = 1#1), ∀ a, (k0_off5 i v22) a + S1x512.size a ≤ S136x512.size a) ∧
  (∀ (k0_h3 : k0_cond3 v20 v22 = 1#1), ∀ (k0_h4 : k0_cond4 i v20 v22 = 1#1), (k0_t1_loop v20 v22).OK) ∧
  (∀ k0_t1 : Fin (k0_t1_loop v20 v22).trips, ∀ (k0_h3 : k0_cond3 v20 v22 = 1#1), ∀ (k0_h4 : k0_cond4 i v20 v22 = 1#1), ∀ a, (k0_off6 v20 v22 k0_t1) a + S1x512.size a ≤ S136x512.size a) ∧
  (∀ (k0_h3 : k0_cond3 v20 v22 = 1#1), ∀ (k0_h4 : k0_cond4 i v20 v22 = 1#1), (k0_t2_loop v20 v22).OK) ∧
  (∀ k0_t2 : Fin (k0_t2_loop v20 v22).trips, ∀ (k0_h3 : k0_cond3 v20 v22 = 1#1), ∀ (k0_h4 : k0_cond4 i v20 v22 = 1#1), ∀ a, (k0_off7 v20 v22 k0_t2) a + S1x512.size a ≤ S136x512.size a)
theorem k0_off3_inb : ∀ (i : grid0.Coords) (v20 : BitVec 32) (v22 : BitVec 32) (k0_hw1 : k0_chk1 i v20 v22), ∀ (k0_h2 : k0_cond2 v20 v22 = 1#1), ∀ a, (k0_off3 i v20) a + S1x512.size a ≤ S136x512.size a := fun i v20 v22 k0_hw1 k0_h2 => k0_hw1.1 k0_h2
theorem k0_off4_inb : ∀ (i : grid0.Coords) (v20 : BitVec 32) (v22 : BitVec 32) (k0_hw1 : k0_chk1 i v20 v22), ∀ (k0_h3 : k0_cond3 v20 v22 = 1#1), ∀ a, (k0_off4 i v20) a + S1x512.size a ≤ S136x512.size a := fun i v20 v22 k0_hw1 k0_h3 => k0_hw1.2.1 k0_h3
theorem k0_off5_inb : ∀ (i : grid0.Coords) (v20 : BitVec 32) (v22 : BitVec 32) (k0_hw1 : k0_chk1 i v20 v22), ∀ (k0_h3 : k0_cond3 v20 v22 = 1#1), ∀ a, (k0_off5 i v22) a + S1x512.size a ≤ S136x512.size a := fun i v20 v22 k0_hw1 k0_h3 => k0_hw1.2.2.1 k0_h3
theorem k0_t1_ok : ∀ (i : grid0.Coords) (v20 : BitVec 32) (v22 : BitVec 32) (k0_hw1 : k0_chk1 i v20 v22), ∀ (k0_h3 : k0_cond3 v20 v22 = 1#1), ∀ (k0_h4 : k0_cond4 i v20 v22 = 1#1), (k0_t1_loop v20 v22).OK := fun i v20 v22 k0_hw1 k0_h3 k0_h4 => k0_hw1.2.2.2.1 k0_h3 k0_h4
theorem k0_off6_inb : ∀ (i : grid0.Coords) (v20 : BitVec 32) (v22 : BitVec 32) (k0_hw1 : k0_chk1 i v20 v22) (k0_t1 : Fin (k0_t1_loop v20 v22).trips), ∀ (k0_h3 : k0_cond3 v20 v22 = 1#1), ∀ (k0_h4 : k0_cond4 i v20 v22 = 1#1), ∀ a, (k0_off6 v20 v22 k0_t1) a + S1x512.size a ≤ S136x512.size a := fun i v20 v22 k0_hw1 k0_t1 k0_h3 k0_h4 => k0_hw1.2.2.2.2.1 k0_t1 k0_h3 k0_h4
theorem k0_t2_ok : ∀ (i : grid0.Coords) (v20 : BitVec 32) (v22 : BitVec 32) (k0_hw1 : k0_chk1 i v20 v22), ∀ (k0_h3 : k0_cond3 v20 v22 = 1#1), ∀ (k0_h4 : k0_cond4 i v20 v22 = 1#1), (k0_t2_loop v20 v22).OK := fun i v20 v22 k0_hw1 k0_h3 k0_h4 => k0_hw1.2.2.2.2.2.1 k0_h3 k0_h4
theorem k0_off7_inb : ∀ (i : grid0.Coords) (v20 : BitVec 32) (v22 : BitVec 32) (k0_hw1 : k0_chk1 i v20 v22) (k0_t2 : Fin (k0_t2_loop v20 v22).trips), ∀ (k0_h3 : k0_cond3 v20 v22 = 1#1), ∀ (k0_h4 : k0_cond4 i v20 v22 = 1#1), ∀ a, (k0_off7 v20 v22 k0_t2) a + S1x512.size a ≤ S136x512.size a := fun i v20 v22 k0_hw1 k0_t2 k0_h3 k0_h4 => k0_hw1.2.2.2.2.2.2 k0_t2 k0_h3 k0_h4

def k0_off8 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32_17 : BitVec 32 := 5#32
  let v32 : BitVec 32 := Scalar.muli v11 c5_i32_17
  let c1_i32_18 : BitVec 32 := 1#32
  let v33 : BitVec 32 := Scalar.addi v32 c1_i32_18
  let v34 : Index := Scalar.indexCast v33
  let c0_19 : Index := 0#32
  ![v34.toNat, 0]
def k0_off9 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32_17 : BitVec 32 := 5#32
  let v32 : BitVec 32 := Scalar.muli v11 c5_i32_17
  let c1_i32_18 : BitVec 32 := 1#32
  let v33 : BitVec 32 := Scalar.addi v32 c1_i32_18
  let v36 : Index := Scalar.indexCast v33
  let c1_20 : Index := 1#32
  ![v36.toNat, 1]
def k0_off10 (i : grid0.Coords) (v35 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_21 : BitVec 32 := 128#32
  let v38 : BitVec 32 := Scalar.select v12 v35 c128_i32_21
  let v180 : Index := Scalar.indexCast v38
  let c0_104 : Index := 0#32
  ![v180.toNat, 0]
def k0_cond5 (v35 : BitVec 32) (v37 : BitVec 32) : BitVec 1 :=
  let v39 : BitVec 1 := Scalar.cmpi .eq v35 v37
  let v40 : BitVec 32 := Scalar.extui v39
  let c0_i32_22 : BitVec 32 := 0#32
  let v41 : BitVec 1 := Scalar.cmpi .ne v40 c0_i32_22
  v41

def k0_off11 (i : grid0.Coords) (v35 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_21 : BitVec 32 := 128#32
  let v38 : BitVec 32 := Scalar.select v12 v35 c128_i32_21
  let v195 : Index := Scalar.indexCast v38
  let c0_108 : Index := 0#32
  ![v195.toNat, 0]
def k0_cond6 (v35 : BitVec 32) (v37 : BitVec 32) : BitVec 1 :=
  let v42 : BitVec 1 := Scalar.cmpi .ne v35 v37
  let v43 : BitVec 32 := Scalar.extui v42
  let c0_i32_23 : BitVec 32 := 0#32
  let v44 : BitVec 1 := Scalar.cmpi .ne v43 c0_i32_23
  v44

def k0_off12 (i : grid0.Coords) (v37 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_107 : BitVec 32 := 128#32
  let v194 : BitVec 32 := Scalar.select v12 v37 c128_i32_107
  let v202 : Index := Scalar.indexCast v194
  let c0_110 : Index := 0#32
  ![v202.toNat, 0]
@[reducible] def k0_t3_loop (v35 : BitVec 32) (v37 : BitVec 32) : Scf.Loop 32 :=
  let c1_i32_114 : BitVec 32 := 1#32
  let v214 : BitVec 32 := Scalar.addi v35 c1_i32_114
  let v215 : BitVec 32 := Scalar.subi v37 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond7 (i : grid0.Coords) (v35 : BitVec 32) (v37 : BitVec 32) : BitVec 1 :=
  let arg0 : BitVec 32 := BitVec.ofNat 32 (i 0).val
  let c0_i32_7 : BitVec 32 := 0#32
  let v12 : BitVec 1 := Scalar.cmpi .sgt arg0 c0_i32_7
  let c1_i32_112 : BitVec 32 := 1#32
  let v209 : BitVec 32 := Scalar.addi v35 c1_i32_112
  let v210 : BitVec 1 := Scalar.cmpi .sgt v37 v209
  let v211 : BitVec 1 := Scalar.andi v12 v210
  let v212 : BitVec 32 := Scalar.extui v211
  let c0_i32_113 : BitVec 32 := 0#32
  let v213 : BitVec 1 := Scalar.cmpi .ne v212 c0_i32_113
  v213

def k0_off13 (v35 : BitVec 32) (v37 : BitVec 32) (k0_t3 : Fin (k0_t3_loop v35 v37).trips) : Fin 2 → Nat :=
  let c1_i32_114 : BitVec 32 := 1#32
  let v214 : BitVec 32 := Scalar.addi v35 c1_i32_114
  let c1_i32_117 : BitVec 32 := 1#32
  let arg15 : BitVec 32 := Scf.iv v214 c1_i32_117 k0_t3
  let v228 : Index := Scalar.indexCast arg15
  let c0_121 : Index := 0#32
  ![v228.toNat, 0]
@[reducible] def k0_t4_loop (v35 : BitVec 32) (v37 : BitVec 32) : Scf.Loop 32 :=
  let c1_i32_114 : BitVec 32 := 1#32
  let v214 : BitVec 32 := Scalar.addi v35 c1_i32_114
  let v215 : BitVec 32 := Scalar.subi v37 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off14 (v35 : BitVec 32) (v37 : BitVec 32) (k0_t4 : Fin (k0_t4_loop v35 v37).trips) : Fin 2 → Nat :=
  let c1_i32_114 : BitVec 32 := 1#32
  let v214 : BitVec 32 := Scalar.addi v35 c1_i32_114
  let v215 : BitVec 32 := Scalar.subi v37 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t4
  let v228 : Index := Scalar.indexCast arg15
  let c0_121 : Index := 0#32
  ![v228.toNat, 0]

def k0_chk2 (i : grid0.Coords) (v35 : BitVec 32) (v37 : BitVec 32) : Prop :=
  (∀ (k0_h5 : k0_cond5 v35 v37 = 1#1), ∀ a, (k0_off10 i v35) a + S1x512.size a ≤ S136x512.size a) ∧
  (∀ (k0_h6 : k0_cond6 v35 v37 = 1#1), ∀ a, (k0_off11 i v35) a + S1x512.size a ≤ S136x512.size a) ∧
  (∀ (k0_h6 : k0_cond6 v35 v37 = 1#1), ∀ a, (k0_off12 i v37) a + S1x512.size a ≤ S136x512.size a) ∧
  (∀ (k0_h6 : k0_cond6 v35 v37 = 1#1), ∀ (k0_h7 : k0_cond7 i v35 v37 = 1#1), (k0_t3_loop v35 v37).OK) ∧
  (∀ k0_t3 : Fin (k0_t3_loop v35 v37).trips, ∀ (k0_h6 : k0_cond6 v35 v37 = 1#1), ∀ (k0_h7 : k0_cond7 i v35 v37 = 1#1), ∀ a, (k0_off13 v35 v37 k0_t3) a + S1x512.size a ≤ S136x512.size a) ∧
  (∀ (k0_h6 : k0_cond6 v35 v37 = 1#1), ∀ (k0_h7 : k0_cond7 i v35 v37 = 1#1), (k0_t4_loop v35 v37).OK) ∧
  (∀ k0_t4 : Fin (k0_t4_loop v35 v37).trips, ∀ (k0_h6 : k0_cond6 v35 v37 = 1#1), ∀ (k0_h7 : k0_cond7 i v35 v37 = 1#1), ∀ a, (k0_off14 v35 v37 k0_t4) a + S1x512.size a ≤ S136x512.size a)
theorem k0_off10_inb : ∀ (i : grid0.Coords) (v35 : BitVec 32) (v37 : BitVec 32) (k0_hw2 : k0_chk2 i v35 v37), ∀ (k0_h5 : k0_cond5 v35 v37 = 1#1), ∀ a, (k0_off10 i v35) a + S1x512.size a ≤ S136x512.size a := fun i v35 v37 k0_hw2 k0_h5 => k0_hw2.1 k0_h5
theorem k0_off11_inb : ∀ (i : grid0.Coords) (v35 : BitVec 32) (v37 : BitVec 32) (k0_hw2 : k0_chk2 i v35 v37), ∀ (k0_h6 : k0_cond6 v35 v37 = 1#1), ∀ a, (k0_off11 i v35) a + S1x512.size a ≤ S136x512.size a := fun i v35 v37 k0_hw2 k0_h6 => k0_hw2.2.1 k0_h6
theorem k0_off12_inb : ∀ (i : grid0.Coords) (v35 : BitVec 32) (v37 : BitVec 32) (k0_hw2 : k0_chk2 i v35 v37), ∀ (k0_h6 : k0_cond6 v35 v37 = 1#1), ∀ a, (k0_off12 i v37) a + S1x512.size a ≤ S136x512.size a := fun i v35 v37 k0_hw2 k0_h6 => k0_hw2.2.2.1 k0_h6
theorem k0_t3_ok : ∀ (i : grid0.Coords) (v35 : BitVec 32) (v37 : BitVec 32) (k0_hw2 : k0_chk2 i v35 v37), ∀ (k0_h6 : k0_cond6 v35 v37 = 1#1), ∀ (k0_h7 : k0_cond7 i v35 v37 = 1#1), (k0_t3_loop v35 v37).OK := fun i v35 v37 k0_hw2 k0_h6 k0_h7 => k0_hw2.2.2.2.1 k0_h6 k0_h7
theorem k0_off13_inb : ∀ (i : grid0.Coords) (v35 : BitVec 32) (v37 : BitVec 32) (k0_hw2 : k0_chk2 i v35 v37) (k0_t3 : Fin (k0_t3_loop v35 v37).trips), ∀ (k0_h6 : k0_cond6 v35 v37 = 1#1), ∀ (k0_h7 : k0_cond7 i v35 v37 = 1#1), ∀ a, (k0_off13 v35 v37 k0_t3) a + S1x512.size a ≤ S136x512.size a := fun i v35 v37 k0_hw2 k0_t3 k0_h6 k0_h7 => k0_hw2.2.2.2.2.1 k0_t3 k0_h6 k0_h7
theorem k0_t4_ok : ∀ (i : grid0.Coords) (v35 : BitVec 32) (v37 : BitVec 32) (k0_hw2 : k0_chk2 i v35 v37), ∀ (k0_h6 : k0_cond6 v35 v37 = 1#1), ∀ (k0_h7 : k0_cond7 i v35 v37 = 1#1), (k0_t4_loop v35 v37).OK := fun i v35 v37 k0_hw2 k0_h6 k0_h7 => k0_hw2.2.2.2.2.2.1 k0_h6 k0_h7
theorem k0_off14_inb : ∀ (i : grid0.Coords) (v35 : BitVec 32) (v37 : BitVec 32) (k0_hw2 : k0_chk2 i v35 v37) (k0_t4 : Fin (k0_t4_loop v35 v37).trips), ∀ (k0_h6 : k0_cond6 v35 v37 = 1#1), ∀ (k0_h7 : k0_cond7 i v35 v37 = 1#1), ∀ a, (k0_off14 v35 v37 k0_t4) a + S1x512.size a ≤ S136x512.size a := fun i v35 v37 k0_hw2 k0_t4 k0_h6 k0_h7 => k0_hw2.2.2.2.2.2.2 k0_t4 k0_h6 k0_h7

def k0_off15 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32_25 : BitVec 32 := 5#32
  let v47 : BitVec 32 := Scalar.muli v11 c5_i32_25
  let c2_i32_26 : BitVec 32 := 2#32
  let v48 : BitVec 32 := Scalar.addi v47 c2_i32_26
  let v49 : Index := Scalar.indexCast v48
  let c0_27 : Index := 0#32
  ![v49.toNat, 0]
def k0_off16 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32_25 : BitVec 32 := 5#32
  let v47 : BitVec 32 := Scalar.muli v11 c5_i32_25
  let c2_i32_26 : BitVec 32 := 2#32
  let v48 : BitVec 32 := Scalar.addi v47 c2_i32_26
  let v51 : Index := Scalar.indexCast v48
  let c1_28 : Index := 1#32
  ![v51.toNat, 1]
def k0_off17 (i : grid0.Coords) (v50 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_29 : BitVec 32 := 128#32
  let v53 : BitVec 32 := Scalar.select v12 v50 c128_i32_29
  let v180 : Index := Scalar.indexCast v53
  let c0_104 : Index := 0#32
  ![v180.toNat, 0]
def k0_cond8 (v50 : BitVec 32) (v52 : BitVec 32) : BitVec 1 :=
  let v54 : BitVec 1 := Scalar.cmpi .eq v50 v52
  let v55 : BitVec 32 := Scalar.extui v54
  let c0_i32_30 : BitVec 32 := 0#32
  let v56 : BitVec 1 := Scalar.cmpi .ne v55 c0_i32_30
  v56

def k0_off18 (i : grid0.Coords) (v50 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_29 : BitVec 32 := 128#32
  let v53 : BitVec 32 := Scalar.select v12 v50 c128_i32_29
  let v195 : Index := Scalar.indexCast v53
  let c0_108 : Index := 0#32
  ![v195.toNat, 0]
def k0_cond9 (v50 : BitVec 32) (v52 : BitVec 32) : BitVec 1 :=
  let v57 : BitVec 1 := Scalar.cmpi .ne v50 v52
  let v58 : BitVec 32 := Scalar.extui v57
  let c0_i32_31 : BitVec 32 := 0#32
  let v59 : BitVec 1 := Scalar.cmpi .ne v58 c0_i32_31
  v59

def k0_off19 (i : grid0.Coords) (v52 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_107 : BitVec 32 := 128#32
  let v194 : BitVec 32 := Scalar.select v12 v52 c128_i32_107
  let v202 : Index := Scalar.indexCast v194
  let c0_110 : Index := 0#32
  ![v202.toNat, 0]
@[reducible] def k0_t5_loop (v50 : BitVec 32) (v52 : BitVec 32) : Scf.Loop 32 :=
  let c1_i32_114 : BitVec 32 := 1#32
  let v214 : BitVec 32 := Scalar.addi v50 c1_i32_114
  let v215 : BitVec 32 := Scalar.subi v52 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond10 (i : grid0.Coords) (v50 : BitVec 32) (v52 : BitVec 32) : BitVec 1 :=
  let arg0 : BitVec 32 := BitVec.ofNat 32 (i 0).val
  let c0_i32_7 : BitVec 32 := 0#32
  let v12 : BitVec 1 := Scalar.cmpi .sgt arg0 c0_i32_7
  let c1_i32_112 : BitVec 32 := 1#32
  let v209 : BitVec 32 := Scalar.addi v50 c1_i32_112
  let v210 : BitVec 1 := Scalar.cmpi .sgt v52 v209
  let v211 : BitVec 1 := Scalar.andi v12 v210
  let v212 : BitVec 32 := Scalar.extui v211
  let c0_i32_113 : BitVec 32 := 0#32
  let v213 : BitVec 1 := Scalar.cmpi .ne v212 c0_i32_113
  v213

def k0_off20 (v50 : BitVec 32) (v52 : BitVec 32) (k0_t5 : Fin (k0_t5_loop v50 v52).trips) : Fin 2 → Nat :=
  let c1_i32_114 : BitVec 32 := 1#32
  let v214 : BitVec 32 := Scalar.addi v50 c1_i32_114
  let c1_i32_117 : BitVec 32 := 1#32
  let arg15 : BitVec 32 := Scf.iv v214 c1_i32_117 k0_t5
  let v228 : Index := Scalar.indexCast arg15
  let c0_121 : Index := 0#32
  ![v228.toNat, 0]
@[reducible] def k0_t6_loop (v50 : BitVec 32) (v52 : BitVec 32) : Scf.Loop 32 :=
  let c1_i32_114 : BitVec 32 := 1#32
  let v214 : BitVec 32 := Scalar.addi v50 c1_i32_114
  let v215 : BitVec 32 := Scalar.subi v52 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off21 (v50 : BitVec 32) (v52 : BitVec 32) (k0_t6 : Fin (k0_t6_loop v50 v52).trips) : Fin 2 → Nat :=
  let c1_i32_114 : BitVec 32 := 1#32
  let v214 : BitVec 32 := Scalar.addi v50 c1_i32_114
  let v215 : BitVec 32 := Scalar.subi v52 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t6
  let v228 : Index := Scalar.indexCast arg15
  let c0_121 : Index := 0#32
  ![v228.toNat, 0]

def k0_chk3 (i : grid0.Coords) (v50 : BitVec 32) (v52 : BitVec 32) : Prop :=
  (∀ (k0_h8 : k0_cond8 v50 v52 = 1#1), ∀ a, (k0_off17 i v50) a + S1x512.size a ≤ S136x512.size a) ∧
  (∀ (k0_h9 : k0_cond9 v50 v52 = 1#1), ∀ a, (k0_off18 i v50) a + S1x512.size a ≤ S136x512.size a) ∧
  (∀ (k0_h9 : k0_cond9 v50 v52 = 1#1), ∀ a, (k0_off19 i v52) a + S1x512.size a ≤ S136x512.size a) ∧
  (∀ (k0_h9 : k0_cond9 v50 v52 = 1#1), ∀ (k0_h10 : k0_cond10 i v50 v52 = 1#1), (k0_t5_loop v50 v52).OK) ∧
  (∀ k0_t5 : Fin (k0_t5_loop v50 v52).trips, ∀ (k0_h9 : k0_cond9 v50 v52 = 1#1), ∀ (k0_h10 : k0_cond10 i v50 v52 = 1#1), ∀ a, (k0_off20 v50 v52 k0_t5) a + S1x512.size a ≤ S136x512.size a) ∧
  (∀ (k0_h9 : k0_cond9 v50 v52 = 1#1), ∀ (k0_h10 : k0_cond10 i v50 v52 = 1#1), (k0_t6_loop v50 v52).OK) ∧
  (∀ k0_t6 : Fin (k0_t6_loop v50 v52).trips, ∀ (k0_h9 : k0_cond9 v50 v52 = 1#1), ∀ (k0_h10 : k0_cond10 i v50 v52 = 1#1), ∀ a, (k0_off21 v50 v52 k0_t6) a + S1x512.size a ≤ S136x512.size a)
theorem k0_off17_inb : ∀ (i : grid0.Coords) (v50 : BitVec 32) (v52 : BitVec 32) (k0_hw3 : k0_chk3 i v50 v52), ∀ (k0_h8 : k0_cond8 v50 v52 = 1#1), ∀ a, (k0_off17 i v50) a + S1x512.size a ≤ S136x512.size a := fun i v50 v52 k0_hw3 k0_h8 => k0_hw3.1 k0_h8
theorem k0_off18_inb : ∀ (i : grid0.Coords) (v50 : BitVec 32) (v52 : BitVec 32) (k0_hw3 : k0_chk3 i v50 v52), ∀ (k0_h9 : k0_cond9 v50 v52 = 1#1), ∀ a, (k0_off18 i v50) a + S1x512.size a ≤ S136x512.size a := fun i v50 v52 k0_hw3 k0_h9 => k0_hw3.2.1 k0_h9
theorem k0_off19_inb : ∀ (i : grid0.Coords) (v50 : BitVec 32) (v52 : BitVec 32) (k0_hw3 : k0_chk3 i v50 v52), ∀ (k0_h9 : k0_cond9 v50 v52 = 1#1), ∀ a, (k0_off19 i v52) a + S1x512.size a ≤ S136x512.size a := fun i v50 v52 k0_hw3 k0_h9 => k0_hw3.2.2.1 k0_h9
theorem k0_t5_ok : ∀ (i : grid0.Coords) (v50 : BitVec 32) (v52 : BitVec 32) (k0_hw3 : k0_chk3 i v50 v52), ∀ (k0_h9 : k0_cond9 v50 v52 = 1#1), ∀ (k0_h10 : k0_cond10 i v50 v52 = 1#1), (k0_t5_loop v50 v52).OK := fun i v50 v52 k0_hw3 k0_h9 k0_h10 => k0_hw3.2.2.2.1 k0_h9 k0_h10
theorem k0_off20_inb : ∀ (i : grid0.Coords) (v50 : BitVec 32) (v52 : BitVec 32) (k0_hw3 : k0_chk3 i v50 v52) (k0_t5 : Fin (k0_t5_loop v50 v52).trips), ∀ (k0_h9 : k0_cond9 v50 v52 = 1#1), ∀ (k0_h10 : k0_cond10 i v50 v52 = 1#1), ∀ a, (k0_off20 v50 v52 k0_t5) a + S1x512.size a ≤ S136x512.size a := fun i v50 v52 k0_hw3 k0_t5 k0_h9 k0_h10 => k0_hw3.2.2.2.2.1 k0_t5 k0_h9 k0_h10
theorem k0_t6_ok : ∀ (i : grid0.Coords) (v50 : BitVec 32) (v52 : BitVec 32) (k0_hw3 : k0_chk3 i v50 v52), ∀ (k0_h9 : k0_cond9 v50 v52 = 1#1), ∀ (k0_h10 : k0_cond10 i v50 v52 = 1#1), (k0_t6_loop v50 v52).OK := fun i v50 v52 k0_hw3 k0_h9 k0_h10 => k0_hw3.2.2.2.2.2.1 k0_h9 k0_h10
theorem k0_off21_inb : ∀ (i : grid0.Coords) (v50 : BitVec 32) (v52 : BitVec 32) (k0_hw3 : k0_chk3 i v50 v52) (k0_t6 : Fin (k0_t6_loop v50 v52).trips), ∀ (k0_h9 : k0_cond9 v50 v52 = 1#1), ∀ (k0_h10 : k0_cond10 i v50 v52 = 1#1), ∀ a, (k0_off21 v50 v52 k0_t6) a + S1x512.size a ≤ S136x512.size a := fun i v50 v52 k0_hw3 k0_t6 k0_h9 k0_h10 => k0_hw3.2.2.2.2.2.2 k0_t6 k0_h9 k0_h10

def k0_off22 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32_33 : BitVec 32 := 5#32
  let v62 : BitVec 32 := Scalar.muli v11 c5_i32_33
  let c3_i32 : BitVec 32 := 3#32
  let v63 : BitVec 32 := Scalar.addi v62 c3_i32
  let v64 : Index := Scalar.indexCast v63
  let c0_34 : Index := 0#32
  ![v64.toNat, 0]
def k0_off23 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32_33 : BitVec 32 := 5#32
  let v62 : BitVec 32 := Scalar.muli v11 c5_i32_33
  let c3_i32 : BitVec 32 := 3#32
  let v63 : BitVec 32 := Scalar.addi v62 c3_i32
  let v66 : Index := Scalar.indexCast v63
  let c1_35 : Index := 1#32
  ![v66.toNat, 1]
def k0_off24 (i : grid0.Coords) (v65 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_36 : BitVec 32 := 128#32
  let v68 : BitVec 32 := Scalar.select v12 v65 c128_i32_36
  let v180 : Index := Scalar.indexCast v68
  let c0_104 : Index := 0#32
  ![v180.toNat, 0]
def k0_cond11 (v65 : BitVec 32) (v67 : BitVec 32) : BitVec 1 :=
  let v69 : BitVec 1 := Scalar.cmpi .eq v65 v67
  let v70 : BitVec 32 := Scalar.extui v69
  let c0_i32_37 : BitVec 32 := 0#32
  let v71 : BitVec 1 := Scalar.cmpi .ne v70 c0_i32_37
  v71

def k0_off25 (i : grid0.Coords) (v65 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_36 : BitVec 32 := 128#32
  let v68 : BitVec 32 := Scalar.select v12 v65 c128_i32_36
  let v195 : Index := Scalar.indexCast v68
  let c0_108 : Index := 0#32
  ![v195.toNat, 0]
def k0_cond12 (v65 : BitVec 32) (v67 : BitVec 32) : BitVec 1 :=
  let v72 : BitVec 1 := Scalar.cmpi .ne v65 v67
  let v73 : BitVec 32 := Scalar.extui v72
  let c0_i32_38 : BitVec 32 := 0#32
  let v74 : BitVec 1 := Scalar.cmpi .ne v73 c0_i32_38
  v74

def k0_off26 (i : grid0.Coords) (v67 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_107 : BitVec 32 := 128#32
  let v194 : BitVec 32 := Scalar.select v12 v67 c128_i32_107
  let v202 : Index := Scalar.indexCast v194
  let c0_110 : Index := 0#32
  ![v202.toNat, 0]
@[reducible] def k0_t7_loop (v65 : BitVec 32) (v67 : BitVec 32) : Scf.Loop 32 :=
  let c1_i32_114 : BitVec 32 := 1#32
  let v214 : BitVec 32 := Scalar.addi v65 c1_i32_114
  let v215 : BitVec 32 := Scalar.subi v67 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond13 (i : grid0.Coords) (v65 : BitVec 32) (v67 : BitVec 32) : BitVec 1 :=
  let arg0 : BitVec 32 := BitVec.ofNat 32 (i 0).val
  let c0_i32_7 : BitVec 32 := 0#32
  let v12 : BitVec 1 := Scalar.cmpi .sgt arg0 c0_i32_7
  let c1_i32_112 : BitVec 32 := 1#32
  let v209 : BitVec 32 := Scalar.addi v65 c1_i32_112
  let v210 : BitVec 1 := Scalar.cmpi .sgt v67 v209
  let v211 : BitVec 1 := Scalar.andi v12 v210
  let v212 : BitVec 32 := Scalar.extui v211
  let c0_i32_113 : BitVec 32 := 0#32
  let v213 : BitVec 1 := Scalar.cmpi .ne v212 c0_i32_113
  v213

def k0_off27 (v65 : BitVec 32) (v67 : BitVec 32) (k0_t7 : Fin (k0_t7_loop v65 v67).trips) : Fin 2 → Nat :=
  let c1_i32_114 : BitVec 32 := 1#32
  let v214 : BitVec 32 := Scalar.addi v65 c1_i32_114
  let c1_i32_117 : BitVec 32 := 1#32
  let arg15 : BitVec 32 := Scf.iv v214 c1_i32_117 k0_t7
  let v228 : Index := Scalar.indexCast arg15
  let c0_121 : Index := 0#32
  ![v228.toNat, 0]
@[reducible] def k0_t8_loop (v65 : BitVec 32) (v67 : BitVec 32) : Scf.Loop 32 :=
  let c1_i32_114 : BitVec 32 := 1#32
  let v214 : BitVec 32 := Scalar.addi v65 c1_i32_114
  let v215 : BitVec 32 := Scalar.subi v67 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off28 (v65 : BitVec 32) (v67 : BitVec 32) (k0_t8 : Fin (k0_t8_loop v65 v67).trips) : Fin 2 → Nat :=
  let c1_i32_114 : BitVec 32 := 1#32
  let v214 : BitVec 32 := Scalar.addi v65 c1_i32_114
  let v215 : BitVec 32 := Scalar.subi v67 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t8
  let v228 : Index := Scalar.indexCast arg15
  let c0_121 : Index := 0#32
  ![v228.toNat, 0]

def k0_chk4 (i : grid0.Coords) (v65 : BitVec 32) (v67 : BitVec 32) : Prop :=
  (∀ (k0_h11 : k0_cond11 v65 v67 = 1#1), ∀ a, (k0_off24 i v65) a + S1x512.size a ≤ S136x512.size a) ∧
  (∀ (k0_h12 : k0_cond12 v65 v67 = 1#1), ∀ a, (k0_off25 i v65) a + S1x512.size a ≤ S136x512.size a) ∧
  (∀ (k0_h12 : k0_cond12 v65 v67 = 1#1), ∀ a, (k0_off26 i v67) a + S1x512.size a ≤ S136x512.size a) ∧
  (∀ (k0_h12 : k0_cond12 v65 v67 = 1#1), ∀ (k0_h13 : k0_cond13 i v65 v67 = 1#1), (k0_t7_loop v65 v67).OK) ∧
  (∀ k0_t7 : Fin (k0_t7_loop v65 v67).trips, ∀ (k0_h12 : k0_cond12 v65 v67 = 1#1), ∀ (k0_h13 : k0_cond13 i v65 v67 = 1#1), ∀ a, (k0_off27 v65 v67 k0_t7) a + S1x512.size a ≤ S136x512.size a) ∧
  (∀ (k0_h12 : k0_cond12 v65 v67 = 1#1), ∀ (k0_h13 : k0_cond13 i v65 v67 = 1#1), (k0_t8_loop v65 v67).OK) ∧
  (∀ k0_t8 : Fin (k0_t8_loop v65 v67).trips, ∀ (k0_h12 : k0_cond12 v65 v67 = 1#1), ∀ (k0_h13 : k0_cond13 i v65 v67 = 1#1), ∀ a, (k0_off28 v65 v67 k0_t8) a + S1x512.size a ≤ S136x512.size a)
theorem k0_off24_inb : ∀ (i : grid0.Coords) (v65 : BitVec 32) (v67 : BitVec 32) (k0_hw4 : k0_chk4 i v65 v67), ∀ (k0_h11 : k0_cond11 v65 v67 = 1#1), ∀ a, (k0_off24 i v65) a + S1x512.size a ≤ S136x512.size a := fun i v65 v67 k0_hw4 k0_h11 => k0_hw4.1 k0_h11
theorem k0_off25_inb : ∀ (i : grid0.Coords) (v65 : BitVec 32) (v67 : BitVec 32) (k0_hw4 : k0_chk4 i v65 v67), ∀ (k0_h12 : k0_cond12 v65 v67 = 1#1), ∀ a, (k0_off25 i v65) a + S1x512.size a ≤ S136x512.size a := fun i v65 v67 k0_hw4 k0_h12 => k0_hw4.2.1 k0_h12
theorem k0_off26_inb : ∀ (i : grid0.Coords) (v65 : BitVec 32) (v67 : BitVec 32) (k0_hw4 : k0_chk4 i v65 v67), ∀ (k0_h12 : k0_cond12 v65 v67 = 1#1), ∀ a, (k0_off26 i v67) a + S1x512.size a ≤ S136x512.size a := fun i v65 v67 k0_hw4 k0_h12 => k0_hw4.2.2.1 k0_h12
theorem k0_t7_ok : ∀ (i : grid0.Coords) (v65 : BitVec 32) (v67 : BitVec 32) (k0_hw4 : k0_chk4 i v65 v67), ∀ (k0_h12 : k0_cond12 v65 v67 = 1#1), ∀ (k0_h13 : k0_cond13 i v65 v67 = 1#1), (k0_t7_loop v65 v67).OK := fun i v65 v67 k0_hw4 k0_h12 k0_h13 => k0_hw4.2.2.2.1 k0_h12 k0_h13
theorem k0_off27_inb : ∀ (i : grid0.Coords) (v65 : BitVec 32) (v67 : BitVec 32) (k0_hw4 : k0_chk4 i v65 v67) (k0_t7 : Fin (k0_t7_loop v65 v67).trips), ∀ (k0_h12 : k0_cond12 v65 v67 = 1#1), ∀ (k0_h13 : k0_cond13 i v65 v67 = 1#1), ∀ a, (k0_off27 v65 v67 k0_t7) a + S1x512.size a ≤ S136x512.size a := fun i v65 v67 k0_hw4 k0_t7 k0_h12 k0_h13 => k0_hw4.2.2.2.2.1 k0_t7 k0_h12 k0_h13
theorem k0_t8_ok : ∀ (i : grid0.Coords) (v65 : BitVec 32) (v67 : BitVec 32) (k0_hw4 : k0_chk4 i v65 v67), ∀ (k0_h12 : k0_cond12 v65 v67 = 1#1), ∀ (k0_h13 : k0_cond13 i v65 v67 = 1#1), (k0_t8_loop v65 v67).OK := fun i v65 v67 k0_hw4 k0_h12 k0_h13 => k0_hw4.2.2.2.2.2.1 k0_h12 k0_h13
theorem k0_off28_inb : ∀ (i : grid0.Coords) (v65 : BitVec 32) (v67 : BitVec 32) (k0_hw4 : k0_chk4 i v65 v67) (k0_t8 : Fin (k0_t8_loop v65 v67).trips), ∀ (k0_h12 : k0_cond12 v65 v67 = 1#1), ∀ (k0_h13 : k0_cond13 i v65 v67 = 1#1), ∀ a, (k0_off28 v65 v67 k0_t8) a + S1x512.size a ≤ S136x512.size a := fun i v65 v67 k0_hw4 k0_t8 k0_h12 k0_h13 => k0_hw4.2.2.2.2.2.2 k0_t8 k0_h12 k0_h13

def k0_off29 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32_40 : BitVec 32 := 5#32
  let v77 : BitVec 32 := Scalar.muli v11 c5_i32_40
  let c4_i32 : BitVec 32 := 4#32
  let v78 : BitVec 32 := Scalar.addi v77 c4_i32
  let v79 : Index := Scalar.indexCast v78
  let c0_41 : Index := 0#32
  ![v79.toNat, 0]
def k0_off30 (i : grid0.Coords) : Fin 2 → Nat :=
  let c2_i32 : BitVec 32 := 2#32
  let arg0 : BitVec 32 := BitVec.ofNat 32 (i 0).val
  let v9 : BitVec 32 := Scalar.muli c2_i32 arg0
  let c1_i32 : BitVec 32 := 1#32
  let v10 : BitVec 32 := Scalar.subi v9 c1_i32
  let c0_i32_6 : BitVec 32 := 0#32
  let v11 : BitVec 32 := Scalar.maxsi v10 c0_i32_6
  let c5_i32_40 : BitVec 32 := 5#32
  let v77 : BitVec 32 := Scalar.muli v11 c5_i32_40
  let c4_i32 : BitVec 32 := 4#32
  let v78 : BitVec 32 := Scalar.addi v77 c4_i32
  let v81 : Index := Scalar.indexCast v78
  let c1_42 : Index := 1#32
  ![v81.toNat, 1]
def k0_off31 (i : grid0.Coords) (v80 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_43 : BitVec 32 := 128#32
  let v83 : BitVec 32 := Scalar.select v12 v80 c128_i32_43
  let v180 : Index := Scalar.indexCast v83
  let c0_104 : Index := 0#32
  ![v180.toNat, 0]
def k0_cond14 (v80 : BitVec 32) (v82 : BitVec 32) : BitVec 1 :=
  let v84 : BitVec 1 := Scalar.cmpi .eq v80 v82
  let v85 : BitVec 32 := Scalar.extui v84
  let c0_i32_44 : BitVec 32 := 0#32
  let v86 : BitVec 1 := Scalar.cmpi .ne v85 c0_i32_44
  v86

def k0_off32 (i : grid0.Coords) (v80 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_43 : BitVec 32 := 128#32
  let v83 : BitVec 32 := Scalar.select v12 v80 c128_i32_43
  let v195 : Index := Scalar.indexCast v83
  let c0_108 : Index := 0#32
  ![v195.toNat, 0]
def k0_cond15 (v80 : BitVec 32) (v82 : BitVec 32) : BitVec 1 :=
  let v87 : BitVec 1 := Scalar.cmpi .ne v80 v82
  let v88 : BitVec 32 := Scalar.extui v87
  let c0_i32_45 : BitVec 32 := 0#32
  let v89 : BitVec 1 := Scalar.cmpi .ne v88 c0_i32_45
  v89

def k0_off33 (i : grid0.Coords) (v82 : BitVec 32) : Fin 2 → Nat :=
  let arg0 : BitVec 32 := BitVec.ofNat 32 (i 0).val
  let c0_i32_7 : BitVec 32 := 0#32
  let v12 : BitVec 1 := Scalar.cmpi .sgt arg0 c0_i32_7
  let c128_i32_107 : BitVec 32 := 128#32
  let v194 : BitVec 32 := Scalar.select v12 v82 c128_i32_107
  let v202 : Index := Scalar.indexCast v194
  let c0_110 : Index := 0#32
  ![v202.toNat, 0]
@[reducible] def k0_t9_loop (v80 : BitVec 32) (v82 : BitVec 32) : Scf.Loop 32 :=
  let c1_i32_114 : BitVec 32 := 1#32
  let v214 : BitVec 32 := Scalar.addi v80 c1_i32_114
  let v215 : BitVec 32 := Scalar.subi v82 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond16 (i : grid0.Coords) (v80 : BitVec 32) (v82 : BitVec 32) : BitVec 1 :=
  let arg0 : BitVec 32 := BitVec.ofNat 32 (i 0).val
  let c0_i32_7 : BitVec 32 := 0#32
  let v12 : BitVec 1 := Scalar.cmpi .sgt arg0 c0_i32_7
  let c1_i32_112 : BitVec 32 := 1#32
  let v209 : BitVec 32 := Scalar.addi v80 c1_i32_112
  let v210 : BitVec 1 := Scalar.cmpi .sgt v82 v209
  let v211 : BitVec 1 := Scalar.andi v12 v210
  let v212 : BitVec 32 := Scalar.extui v211
  let c0_i32_113 : BitVec 32 := 0#32
  let v213 : BitVec 1 := Scalar.cmpi .ne v212 c0_i32_113
  v213

def k0_off34 (v80 : BitVec 32) (v82 : BitVec 32) (k0_t9 : Fin (k0_t9_loop v80 v82).trips) : Fin 2 → Nat :=
  let c1_i32_114 : BitVec 32 := 1#32
  let v214 : BitVec 32 := Scalar.addi v80 c1_i32_114
  let c1_i32_117 : BitVec 32 := 1#32
  let arg15 : BitVec 32 := Scf.iv v214 c1_i32_117 k0_t9
  let v228 : Index := Scalar.indexCast arg15
  let c0_121 : Index := 0#32
  ![v228.toNat, 0]
@[reducible] def k0_t10_loop (v80 : BitVec 32) (v82 : BitVec 32) : Scf.Loop 32 :=
  let c1_i32_114 : BitVec 32 := 1#32
  let v214 : BitVec 32 := Scalar.addi v80 c1_i32_114
  let v215 : BitVec 32 := Scalar.subi v82 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off35 (v80 : BitVec 32) (v82 : BitVec 32) (k0_t10 : Fin (k0_t10_loop v80 v82).trips) : Fin 2 → Nat :=
  let c1_i32_114 : BitVec 32 := 1#32
  let v214 : BitVec 32 := Scalar.addi v80 c1_i32_114
  let v215 : BitVec 32 := Scalar.subi v82 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t10
  let v228 : Index := Scalar.indexCast arg15
  let c0_121 : Index := 0#32
  ![v228.toNat, 0]

def k0_chk5 (i : grid0.Coords) (v80 : BitVec 32) (v82 : BitVec 32) : Prop :=
  (∀ (k0_h14 : k0_cond14 v80 v82 = 1#1), ∀ a, (k0_off31 i v80) a + S1x512.size a ≤ S136x512.size a) ∧
  (∀ (k0_h15 : k0_cond15 v80 v82 = 1#1), ∀ a, (k0_off32 i v80) a + S1x512.size a ≤ S136x512.size a) ∧
  (∀ (k0_h15 : k0_cond15 v80 v82 = 1#1), ∀ a, (k0_off33 i v82) a + S1x512.size a ≤ S136x512.size a) ∧
  (∀ (k0_h15 : k0_cond15 v80 v82 = 1#1), ∀ (k0_h16 : k0_cond16 i v80 v82 = 1#1), (k0_t9_loop v80 v82).OK) ∧
  (∀ k0_t9 : Fin (k0_t9_loop v80 v82).trips, ∀ (k0_h15 : k0_cond15 v80 v82 = 1#1), ∀ (k0_h16 : k0_cond16 i v80 v82 = 1#1), ∀ a, (k0_off34 v80 v82 k0_t9) a + S1x512.size a ≤ S136x512.size a) ∧
  (∀ (k0_h15 : k0_cond15 v80 v82 = 1#1), ∀ (k0_h16 : k0_cond16 i v80 v82 = 1#1), (k0_t10_loop v80 v82).OK) ∧
  (∀ k0_t10 : Fin (k0_t10_loop v80 v82).trips, ∀ (k0_h15 : k0_cond15 v80 v82 = 1#1), ∀ (k0_h16 : k0_cond16 i v80 v82 = 1#1), ∀ a, (k0_off35 v80 v82 k0_t10) a + S1x512.size a ≤ S136x512.size a)
theorem k0_off31_inb : ∀ (i : grid0.Coords) (v80 : BitVec 32) (v82 : BitVec 32) (k0_hw5 : k0_chk5 i v80 v82), ∀ (k0_h14 : k0_cond14 v80 v82 = 1#1), ∀ a, (k0_off31 i v80) a + S1x512.size a ≤ S136x512.size a := fun i v80 v82 k0_hw5 k0_h14 => k0_hw5.1 k0_h14
theorem k0_off32_inb : ∀ (i : grid0.Coords) (v80 : BitVec 32) (v82 : BitVec 32) (k0_hw5 : k0_chk5 i v80 v82), ∀ (k0_h15 : k0_cond15 v80 v82 = 1#1), ∀ a, (k0_off32 i v80) a + S1x512.size a ≤ S136x512.size a := fun i v80 v82 k0_hw5 k0_h15 => k0_hw5.2.1 k0_h15
theorem k0_off33_inb : ∀ (i : grid0.Coords) (v80 : BitVec 32) (v82 : BitVec 32) (k0_hw5 : k0_chk5 i v80 v82), ∀ (k0_h15 : k0_cond15 v80 v82 = 1#1), ∀ a, (k0_off33 i v82) a + S1x512.size a ≤ S136x512.size a := fun i v80 v82 k0_hw5 k0_h15 => k0_hw5.2.2.1 k0_h15
theorem k0_t9_ok : ∀ (i : grid0.Coords) (v80 : BitVec 32) (v82 : BitVec 32) (k0_hw5 : k0_chk5 i v80 v82), ∀ (k0_h15 : k0_cond15 v80 v82 = 1#1), ∀ (k0_h16 : k0_cond16 i v80 v82 = 1#1), (k0_t9_loop v80 v82).OK := fun i v80 v82 k0_hw5 k0_h15 k0_h16 => k0_hw5.2.2.2.1 k0_h15 k0_h16
theorem k0_off34_inb : ∀ (i : grid0.Coords) (v80 : BitVec 32) (v82 : BitVec 32) (k0_hw5 : k0_chk5 i v80 v82) (k0_t9 : Fin (k0_t9_loop v80 v82).trips), ∀ (k0_h15 : k0_cond15 v80 v82 = 1#1), ∀ (k0_h16 : k0_cond16 i v80 v82 = 1#1), ∀ a, (k0_off34 v80 v82 k0_t9) a + S1x512.size a ≤ S136x512.size a := fun i v80 v82 k0_hw5 k0_t9 k0_h15 k0_h16 => k0_hw5.2.2.2.2.1 k0_t9 k0_h15 k0_h16
theorem k0_t10_ok : ∀ (i : grid0.Coords) (v80 : BitVec 32) (v82 : BitVec 32) (k0_hw5 : k0_chk5 i v80 v82), ∀ (k0_h15 : k0_cond15 v80 v82 = 1#1), ∀ (k0_h16 : k0_cond16 i v80 v82 = 1#1), (k0_t10_loop v80 v82).OK := fun i v80 v82 k0_hw5 k0_h15 k0_h16 => k0_hw5.2.2.2.2.2.1 k0_h15 k0_h16
theorem k0_off35_inb : ∀ (i : grid0.Coords) (v80 : BitVec 32) (v82 : BitVec 32) (k0_hw5 : k0_chk5 i v80 v82) (k0_t10 : Fin (k0_t10_loop v80 v82).trips), ∀ (k0_h15 : k0_cond15 v80 v82 = 1#1), ∀ (k0_h16 : k0_cond16 i v80 v82 = 1#1), ∀ a, (k0_off35 v80 v82 k0_t10) a + S1x512.size a ≤ S136x512.size a := fun i v80 v82 k0_hw5 k0_t10 k0_h15 k0_h16 => k0_hw5.2.2.2.2.2.2 k0_t10 k0_h15 k0_h16

def k0_off36 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_59 : BitVec 32 := 5#32
  let v102 : BitVec 32 := Scalar.muli v96 c5_i32_59
  let c0_i32_60 : BitVec 32 := 0#32
  let v103 : BitVec 32 := Scalar.addi v102 c0_i32_60
  let v104 : Index := Scalar.indexCast v103
  let c0_61 : Index := 0#32
  ![v104.toNat, 0]
def k0_off37 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_59 : BitVec 32 := 5#32
  let v102 : BitVec 32 := Scalar.muli v96 c5_i32_59
  let c0_i32_60 : BitVec 32 := 0#32
  let v103 : BitVec 32 := Scalar.addi v102 c0_i32_60
  let v106 : Index := Scalar.indexCast v103
  let c1_62 : Index := 1#32
  ![v106.toNat, 1]
def k0_off38 (i : grid0.Coords) (v105 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_63 : BitVec 32 := 128#32
  let v108 : BitVec 32 := Scalar.select v97 v105 c128_i32_63
  let v180 : Index := Scalar.indexCast v108
  let c0_104 : Index := 0#32
  ![v180.toNat, 0]
def k0_cond17 (v105 : BitVec 32) (v107 : BitVec 32) : BitVec 1 :=
  let v109 : BitVec 1 := Scalar.cmpi .eq v105 v107
  let v110 : BitVec 32 := Scalar.extui v109
  let c0_i32_64 : BitVec 32 := 0#32
  let v111 : BitVec 1 := Scalar.cmpi .ne v110 c0_i32_64
  v111

def k0_off39 (i : grid0.Coords) (v105 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_63 : BitVec 32 := 128#32
  let v108 : BitVec 32 := Scalar.select v97 v105 c128_i32_63
  let v195 : Index := Scalar.indexCast v108
  let c0_108 : Index := 0#32
  ![v195.toNat, 0]
def k0_cond18 (v105 : BitVec 32) (v107 : BitVec 32) : BitVec 1 :=
  let v112 : BitVec 1 := Scalar.cmpi .ne v105 v107
  let v113 : BitVec 32 := Scalar.extui v112
  let c0_i32_65 : BitVec 32 := 0#32
  let v114 : BitVec 1 := Scalar.cmpi .ne v113 c0_i32_65
  v114

def k0_off40 (i : grid0.Coords) (v107 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_107 : BitVec 32 := 128#32
  let v194 : BitVec 32 := Scalar.select v97 v107 c128_i32_107
  let v202 : Index := Scalar.indexCast v194
  let c0_110 : Index := 0#32
  ![v202.toNat, 0]
@[reducible] def k0_t11_loop (v105 : BitVec 32) (v107 : BitVec 32) : Scf.Loop 32 :=
  let c1_i32_114 : BitVec 32 := 1#32
  let v214 : BitVec 32 := Scalar.addi v105 c1_i32_114
  let v215 : BitVec 32 := Scalar.subi v107 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond19 (i : grid0.Coords) (v105 : BitVec 32) (v107 : BitVec 32) : BitVec 1 :=
  let arg0 : BitVec 32 := BitVec.ofNat 32 (i 0).val
  let c0_i32_54 : BitVec 32 := 0#32
  let v97 : BitVec 1 := Scalar.cmpi .sge arg0 c0_i32_54
  let c1_i32_112 : BitVec 32 := 1#32
  let v209 : BitVec 32 := Scalar.addi v105 c1_i32_112
  let v210 : BitVec 1 := Scalar.cmpi .sgt v107 v209
  let v211 : BitVec 1 := Scalar.andi v97 v210
  let v212 : BitVec 32 := Scalar.extui v211
  let c0_i32_113 : BitVec 32 := 0#32
  let v213 : BitVec 1 := Scalar.cmpi .ne v212 c0_i32_113
  v213

def k0_off41 (v105 : BitVec 32) (v107 : BitVec 32) (k0_t11 : Fin (k0_t11_loop v105 v107).trips) : Fin 2 → Nat :=
  let c1_i32_114 : BitVec 32 := 1#32
  let v214 : BitVec 32 := Scalar.addi v105 c1_i32_114
  let c1_i32_117 : BitVec 32 := 1#32
  let arg15 : BitVec 32 := Scf.iv v214 c1_i32_117 k0_t11
  let v228 : Index := Scalar.indexCast arg15
  let c0_121 : Index := 0#32
  ![v228.toNat, 0]
@[reducible] def k0_t12_loop (v105 : BitVec 32) (v107 : BitVec 32) : Scf.Loop 32 :=
  let c1_i32_114 : BitVec 32 := 1#32
  let v214 : BitVec 32 := Scalar.addi v105 c1_i32_114
  let v215 : BitVec 32 := Scalar.subi v107 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off42 (v105 : BitVec 32) (v107 : BitVec 32) (k0_t12 : Fin (k0_t12_loop v105 v107).trips) : Fin 2 → Nat :=
  let c1_i32_114 : BitVec 32 := 1#32
  let v214 : BitVec 32 := Scalar.addi v105 c1_i32_114
  let v215 : BitVec 32 := Scalar.subi v107 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t12
  let v228 : Index := Scalar.indexCast arg15
  let c0_121 : Index := 0#32
  ![v228.toNat, 0]

def k0_chk6 (i : grid0.Coords) (v105 : BitVec 32) (v107 : BitVec 32) : Prop :=
  (∀ (k0_h17 : k0_cond17 v105 v107 = 1#1), ∀ a, (k0_off38 i v105) a + S1x512.size a ≤ S136x512.size a) ∧
  (∀ (k0_h18 : k0_cond18 v105 v107 = 1#1), ∀ a, (k0_off39 i v105) a + S1x512.size a ≤ S136x512.size a) ∧
  (∀ (k0_h18 : k0_cond18 v105 v107 = 1#1), ∀ a, (k0_off40 i v107) a + S1x512.size a ≤ S136x512.size a) ∧
  (∀ (k0_h18 : k0_cond18 v105 v107 = 1#1), ∀ (k0_h19 : k0_cond19 i v105 v107 = 1#1), (k0_t11_loop v105 v107).OK) ∧
  (∀ k0_t11 : Fin (k0_t11_loop v105 v107).trips, ∀ (k0_h18 : k0_cond18 v105 v107 = 1#1), ∀ (k0_h19 : k0_cond19 i v105 v107 = 1#1), ∀ a, (k0_off41 v105 v107 k0_t11) a + S1x512.size a ≤ S136x512.size a) ∧
  (∀ (k0_h18 : k0_cond18 v105 v107 = 1#1), ∀ (k0_h19 : k0_cond19 i v105 v107 = 1#1), (k0_t12_loop v105 v107).OK) ∧
  (∀ k0_t12 : Fin (k0_t12_loop v105 v107).trips, ∀ (k0_h18 : k0_cond18 v105 v107 = 1#1), ∀ (k0_h19 : k0_cond19 i v105 v107 = 1#1), ∀ a, (k0_off42 v105 v107 k0_t12) a + S1x512.size a ≤ S136x512.size a)
theorem k0_off38_inb : ∀ (i : grid0.Coords) (v105 : BitVec 32) (v107 : BitVec 32) (k0_hw6 : k0_chk6 i v105 v107), ∀ (k0_h17 : k0_cond17 v105 v107 = 1#1), ∀ a, (k0_off38 i v105) a + S1x512.size a ≤ S136x512.size a := fun i v105 v107 k0_hw6 k0_h17 => k0_hw6.1 k0_h17
theorem k0_off39_inb : ∀ (i : grid0.Coords) (v105 : BitVec 32) (v107 : BitVec 32) (k0_hw6 : k0_chk6 i v105 v107), ∀ (k0_h18 : k0_cond18 v105 v107 = 1#1), ∀ a, (k0_off39 i v105) a + S1x512.size a ≤ S136x512.size a := fun i v105 v107 k0_hw6 k0_h18 => k0_hw6.2.1 k0_h18
theorem k0_off40_inb : ∀ (i : grid0.Coords) (v105 : BitVec 32) (v107 : BitVec 32) (k0_hw6 : k0_chk6 i v105 v107), ∀ (k0_h18 : k0_cond18 v105 v107 = 1#1), ∀ a, (k0_off40 i v107) a + S1x512.size a ≤ S136x512.size a := fun i v105 v107 k0_hw6 k0_h18 => k0_hw6.2.2.1 k0_h18
theorem k0_t11_ok : ∀ (i : grid0.Coords) (v105 : BitVec 32) (v107 : BitVec 32) (k0_hw6 : k0_chk6 i v105 v107), ∀ (k0_h18 : k0_cond18 v105 v107 = 1#1), ∀ (k0_h19 : k0_cond19 i v105 v107 = 1#1), (k0_t11_loop v105 v107).OK := fun i v105 v107 k0_hw6 k0_h18 k0_h19 => k0_hw6.2.2.2.1 k0_h18 k0_h19
theorem k0_off41_inb : ∀ (i : grid0.Coords) (v105 : BitVec 32) (v107 : BitVec 32) (k0_hw6 : k0_chk6 i v105 v107) (k0_t11 : Fin (k0_t11_loop v105 v107).trips), ∀ (k0_h18 : k0_cond18 v105 v107 = 1#1), ∀ (k0_h19 : k0_cond19 i v105 v107 = 1#1), ∀ a, (k0_off41 v105 v107 k0_t11) a + S1x512.size a ≤ S136x512.size a := fun i v105 v107 k0_hw6 k0_t11 k0_h18 k0_h19 => k0_hw6.2.2.2.2.1 k0_t11 k0_h18 k0_h19
theorem k0_t12_ok : ∀ (i : grid0.Coords) (v105 : BitVec 32) (v107 : BitVec 32) (k0_hw6 : k0_chk6 i v105 v107), ∀ (k0_h18 : k0_cond18 v105 v107 = 1#1), ∀ (k0_h19 : k0_cond19 i v105 v107 = 1#1), (k0_t12_loop v105 v107).OK := fun i v105 v107 k0_hw6 k0_h18 k0_h19 => k0_hw6.2.2.2.2.2.1 k0_h18 k0_h19
theorem k0_off42_inb : ∀ (i : grid0.Coords) (v105 : BitVec 32) (v107 : BitVec 32) (k0_hw6 : k0_chk6 i v105 v107) (k0_t12 : Fin (k0_t12_loop v105 v107).trips), ∀ (k0_h18 : k0_cond18 v105 v107 = 1#1), ∀ (k0_h19 : k0_cond19 i v105 v107 = 1#1), ∀ a, (k0_off42 v105 v107 k0_t12) a + S1x512.size a ≤ S136x512.size a := fun i v105 v107 k0_hw6 k0_t12 k0_h18 k0_h19 => k0_hw6.2.2.2.2.2.2 k0_t12 k0_h18 k0_h19

def k0_off43 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_68 : BitVec 32 := 5#32
  let v117 : BitVec 32 := Scalar.muli v96 c5_i32_68
  let c1_i32_69 : BitVec 32 := 1#32
  let v118 : BitVec 32 := Scalar.addi v117 c1_i32_69
  let v119 : Index := Scalar.indexCast v118
  let c0_70 : Index := 0#32
  ![v119.toNat, 0]
def k0_off44 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_68 : BitVec 32 := 5#32
  let v117 : BitVec 32 := Scalar.muli v96 c5_i32_68
  let c1_i32_69 : BitVec 32 := 1#32
  let v118 : BitVec 32 := Scalar.addi v117 c1_i32_69
  let v121 : Index := Scalar.indexCast v118
  let c1_71 : Index := 1#32
  ![v121.toNat, 1]
def k0_off45 (i : grid0.Coords) (v120 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_72 : BitVec 32 := 128#32
  let v123 : BitVec 32 := Scalar.select v97 v120 c128_i32_72
  let v180 : Index := Scalar.indexCast v123
  let c0_104 : Index := 0#32
  ![v180.toNat, 0]
def k0_cond20 (v120 : BitVec 32) (v122 : BitVec 32) : BitVec 1 :=
  let v124 : BitVec 1 := Scalar.cmpi .eq v120 v122
  let v125 : BitVec 32 := Scalar.extui v124
  let c0_i32_73 : BitVec 32 := 0#32
  let v126 : BitVec 1 := Scalar.cmpi .ne v125 c0_i32_73
  v126

def k0_off46 (i : grid0.Coords) (v120 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_72 : BitVec 32 := 128#32
  let v123 : BitVec 32 := Scalar.select v97 v120 c128_i32_72
  let v195 : Index := Scalar.indexCast v123
  let c0_108 : Index := 0#32
  ![v195.toNat, 0]
def k0_cond21 (v120 : BitVec 32) (v122 : BitVec 32) : BitVec 1 :=
  let v127 : BitVec 1 := Scalar.cmpi .ne v120 v122
  let v128 : BitVec 32 := Scalar.extui v127
  let c0_i32_74 : BitVec 32 := 0#32
  let v129 : BitVec 1 := Scalar.cmpi .ne v128 c0_i32_74
  v129

def k0_off47 (i : grid0.Coords) (v122 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_107 : BitVec 32 := 128#32
  let v194 : BitVec 32 := Scalar.select v97 v122 c128_i32_107
  let v202 : Index := Scalar.indexCast v194
  let c0_110 : Index := 0#32
  ![v202.toNat, 0]
@[reducible] def k0_t13_loop (v120 : BitVec 32) (v122 : BitVec 32) : Scf.Loop 32 :=
  let c1_i32_114 : BitVec 32 := 1#32
  let v214 : BitVec 32 := Scalar.addi v120 c1_i32_114
  let v215 : BitVec 32 := Scalar.subi v122 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond22 (i : grid0.Coords) (v120 : BitVec 32) (v122 : BitVec 32) : BitVec 1 :=
  let arg0 : BitVec 32 := BitVec.ofNat 32 (i 0).val
  let c0_i32_54 : BitVec 32 := 0#32
  let v97 : BitVec 1 := Scalar.cmpi .sge arg0 c0_i32_54
  let c1_i32_112 : BitVec 32 := 1#32
  let v209 : BitVec 32 := Scalar.addi v120 c1_i32_112
  let v210 : BitVec 1 := Scalar.cmpi .sgt v122 v209
  let v211 : BitVec 1 := Scalar.andi v97 v210
  let v212 : BitVec 32 := Scalar.extui v211
  let c0_i32_113 : BitVec 32 := 0#32
  let v213 : BitVec 1 := Scalar.cmpi .ne v212 c0_i32_113
  v213

def k0_off48 (v120 : BitVec 32) (v122 : BitVec 32) (k0_t13 : Fin (k0_t13_loop v120 v122).trips) : Fin 2 → Nat :=
  let c1_i32_114 : BitVec 32 := 1#32
  let v214 : BitVec 32 := Scalar.addi v120 c1_i32_114
  let c1_i32_117 : BitVec 32 := 1#32
  let arg15 : BitVec 32 := Scf.iv v214 c1_i32_117 k0_t13
  let v228 : Index := Scalar.indexCast arg15
  let c0_121 : Index := 0#32
  ![v228.toNat, 0]
@[reducible] def k0_t14_loop (v120 : BitVec 32) (v122 : BitVec 32) : Scf.Loop 32 :=
  let c1_i32_114 : BitVec 32 := 1#32
  let v214 : BitVec 32 := Scalar.addi v120 c1_i32_114
  let v215 : BitVec 32 := Scalar.subi v122 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off49 (v120 : BitVec 32) (v122 : BitVec 32) (k0_t14 : Fin (k0_t14_loop v120 v122).trips) : Fin 2 → Nat :=
  let c1_i32_114 : BitVec 32 := 1#32
  let v214 : BitVec 32 := Scalar.addi v120 c1_i32_114
  let v215 : BitVec 32 := Scalar.subi v122 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t14
  let v228 : Index := Scalar.indexCast arg15
  let c0_121 : Index := 0#32
  ![v228.toNat, 0]

def k0_chk7 (i : grid0.Coords) (v120 : BitVec 32) (v122 : BitVec 32) : Prop :=
  (∀ (k0_h20 : k0_cond20 v120 v122 = 1#1), ∀ a, (k0_off45 i v120) a + S1x512.size a ≤ S136x512.size a) ∧
  (∀ (k0_h21 : k0_cond21 v120 v122 = 1#1), ∀ a, (k0_off46 i v120) a + S1x512.size a ≤ S136x512.size a) ∧
  (∀ (k0_h21 : k0_cond21 v120 v122 = 1#1), ∀ a, (k0_off47 i v122) a + S1x512.size a ≤ S136x512.size a) ∧
  (∀ (k0_h21 : k0_cond21 v120 v122 = 1#1), ∀ (k0_h22 : k0_cond22 i v120 v122 = 1#1), (k0_t13_loop v120 v122).OK) ∧
  (∀ k0_t13 : Fin (k0_t13_loop v120 v122).trips, ∀ (k0_h21 : k0_cond21 v120 v122 = 1#1), ∀ (k0_h22 : k0_cond22 i v120 v122 = 1#1), ∀ a, (k0_off48 v120 v122 k0_t13) a + S1x512.size a ≤ S136x512.size a) ∧
  (∀ (k0_h21 : k0_cond21 v120 v122 = 1#1), ∀ (k0_h22 : k0_cond22 i v120 v122 = 1#1), (k0_t14_loop v120 v122).OK) ∧
  (∀ k0_t14 : Fin (k0_t14_loop v120 v122).trips, ∀ (k0_h21 : k0_cond21 v120 v122 = 1#1), ∀ (k0_h22 : k0_cond22 i v120 v122 = 1#1), ∀ a, (k0_off49 v120 v122 k0_t14) a + S1x512.size a ≤ S136x512.size a)
theorem k0_off45_inb : ∀ (i : grid0.Coords) (v120 : BitVec 32) (v122 : BitVec 32) (k0_hw7 : k0_chk7 i v120 v122), ∀ (k0_h20 : k0_cond20 v120 v122 = 1#1), ∀ a, (k0_off45 i v120) a + S1x512.size a ≤ S136x512.size a := fun i v120 v122 k0_hw7 k0_h20 => k0_hw7.1 k0_h20
theorem k0_off46_inb : ∀ (i : grid0.Coords) (v120 : BitVec 32) (v122 : BitVec 32) (k0_hw7 : k0_chk7 i v120 v122), ∀ (k0_h21 : k0_cond21 v120 v122 = 1#1), ∀ a, (k0_off46 i v120) a + S1x512.size a ≤ S136x512.size a := fun i v120 v122 k0_hw7 k0_h21 => k0_hw7.2.1 k0_h21
theorem k0_off47_inb : ∀ (i : grid0.Coords) (v120 : BitVec 32) (v122 : BitVec 32) (k0_hw7 : k0_chk7 i v120 v122), ∀ (k0_h21 : k0_cond21 v120 v122 = 1#1), ∀ a, (k0_off47 i v122) a + S1x512.size a ≤ S136x512.size a := fun i v120 v122 k0_hw7 k0_h21 => k0_hw7.2.2.1 k0_h21
theorem k0_t13_ok : ∀ (i : grid0.Coords) (v120 : BitVec 32) (v122 : BitVec 32) (k0_hw7 : k0_chk7 i v120 v122), ∀ (k0_h21 : k0_cond21 v120 v122 = 1#1), ∀ (k0_h22 : k0_cond22 i v120 v122 = 1#1), (k0_t13_loop v120 v122).OK := fun i v120 v122 k0_hw7 k0_h21 k0_h22 => k0_hw7.2.2.2.1 k0_h21 k0_h22
theorem k0_off48_inb : ∀ (i : grid0.Coords) (v120 : BitVec 32) (v122 : BitVec 32) (k0_hw7 : k0_chk7 i v120 v122) (k0_t13 : Fin (k0_t13_loop v120 v122).trips), ∀ (k0_h21 : k0_cond21 v120 v122 = 1#1), ∀ (k0_h22 : k0_cond22 i v120 v122 = 1#1), ∀ a, (k0_off48 v120 v122 k0_t13) a + S1x512.size a ≤ S136x512.size a := fun i v120 v122 k0_hw7 k0_t13 k0_h21 k0_h22 => k0_hw7.2.2.2.2.1 k0_t13 k0_h21 k0_h22
theorem k0_t14_ok : ∀ (i : grid0.Coords) (v120 : BitVec 32) (v122 : BitVec 32) (k0_hw7 : k0_chk7 i v120 v122), ∀ (k0_h21 : k0_cond21 v120 v122 = 1#1), ∀ (k0_h22 : k0_cond22 i v120 v122 = 1#1), (k0_t14_loop v120 v122).OK := fun i v120 v122 k0_hw7 k0_h21 k0_h22 => k0_hw7.2.2.2.2.2.1 k0_h21 k0_h22
theorem k0_off49_inb : ∀ (i : grid0.Coords) (v120 : BitVec 32) (v122 : BitVec 32) (k0_hw7 : k0_chk7 i v120 v122) (k0_t14 : Fin (k0_t14_loop v120 v122).trips), ∀ (k0_h21 : k0_cond21 v120 v122 = 1#1), ∀ (k0_h22 : k0_cond22 i v120 v122 = 1#1), ∀ a, (k0_off49 v120 v122 k0_t14) a + S1x512.size a ≤ S136x512.size a := fun i v120 v122 k0_hw7 k0_t14 k0_h21 k0_h22 => k0_hw7.2.2.2.2.2.2 k0_t14 k0_h21 k0_h22

def k0_off50 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_77 : BitVec 32 := 5#32
  let v132 : BitVec 32 := Scalar.muli v96 c5_i32_77
  let c2_i32_78 : BitVec 32 := 2#32
  let v133 : BitVec 32 := Scalar.addi v132 c2_i32_78
  let v134 : Index := Scalar.indexCast v133
  let c0_79 : Index := 0#32
  ![v134.toNat, 0]
def k0_off51 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_77 : BitVec 32 := 5#32
  let v132 : BitVec 32 := Scalar.muli v96 c5_i32_77
  let c2_i32_78 : BitVec 32 := 2#32
  let v133 : BitVec 32 := Scalar.addi v132 c2_i32_78
  let v136 : Index := Scalar.indexCast v133
  let c1_80 : Index := 1#32
  ![v136.toNat, 1]
def k0_off52 (i : grid0.Coords) (v135 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_81 : BitVec 32 := 128#32
  let v138 : BitVec 32 := Scalar.select v97 v135 c128_i32_81
  let v180 : Index := Scalar.indexCast v138
  let c0_104 : Index := 0#32
  ![v180.toNat, 0]
def k0_cond23 (v135 : BitVec 32) (v137 : BitVec 32) : BitVec 1 :=
  let v139 : BitVec 1 := Scalar.cmpi .eq v135 v137
  let v140 : BitVec 32 := Scalar.extui v139
  let c0_i32_82 : BitVec 32 := 0#32
  let v141 : BitVec 1 := Scalar.cmpi .ne v140 c0_i32_82
  v141

def k0_off53 (i : grid0.Coords) (v135 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_81 : BitVec 32 := 128#32
  let v138 : BitVec 32 := Scalar.select v97 v135 c128_i32_81
  let v195 : Index := Scalar.indexCast v138
  let c0_108 : Index := 0#32
  ![v195.toNat, 0]
def k0_cond24 (v135 : BitVec 32) (v137 : BitVec 32) : BitVec 1 :=
  let v142 : BitVec 1 := Scalar.cmpi .ne v135 v137
  let v143 : BitVec 32 := Scalar.extui v142
  let c0_i32_83 : BitVec 32 := 0#32
  let v144 : BitVec 1 := Scalar.cmpi .ne v143 c0_i32_83
  v144

def k0_off54 (i : grid0.Coords) (v137 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_107 : BitVec 32 := 128#32
  let v194 : BitVec 32 := Scalar.select v97 v137 c128_i32_107
  let v202 : Index := Scalar.indexCast v194
  let c0_110 : Index := 0#32
  ![v202.toNat, 0]
@[reducible] def k0_t15_loop (v135 : BitVec 32) (v137 : BitVec 32) : Scf.Loop 32 :=
  let c1_i32_114 : BitVec 32 := 1#32
  let v214 : BitVec 32 := Scalar.addi v135 c1_i32_114
  let v215 : BitVec 32 := Scalar.subi v137 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond25 (i : grid0.Coords) (v135 : BitVec 32) (v137 : BitVec 32) : BitVec 1 :=
  let arg0 : BitVec 32 := BitVec.ofNat 32 (i 0).val
  let c0_i32_54 : BitVec 32 := 0#32
  let v97 : BitVec 1 := Scalar.cmpi .sge arg0 c0_i32_54
  let c1_i32_112 : BitVec 32 := 1#32
  let v209 : BitVec 32 := Scalar.addi v135 c1_i32_112
  let v210 : BitVec 1 := Scalar.cmpi .sgt v137 v209
  let v211 : BitVec 1 := Scalar.andi v97 v210
  let v212 : BitVec 32 := Scalar.extui v211
  let c0_i32_113 : BitVec 32 := 0#32
  let v213 : BitVec 1 := Scalar.cmpi .ne v212 c0_i32_113
  v213

def k0_off55 (v135 : BitVec 32) (v137 : BitVec 32) (k0_t15 : Fin (k0_t15_loop v135 v137).trips) : Fin 2 → Nat :=
  let c1_i32_114 : BitVec 32 := 1#32
  let v214 : BitVec 32 := Scalar.addi v135 c1_i32_114
  let c1_i32_117 : BitVec 32 := 1#32
  let arg15 : BitVec 32 := Scf.iv v214 c1_i32_117 k0_t15
  let v228 : Index := Scalar.indexCast arg15
  let c0_121 : Index := 0#32
  ![v228.toNat, 0]
@[reducible] def k0_t16_loop (v135 : BitVec 32) (v137 : BitVec 32) : Scf.Loop 32 :=
  let c1_i32_114 : BitVec 32 := 1#32
  let v214 : BitVec 32 := Scalar.addi v135 c1_i32_114
  let v215 : BitVec 32 := Scalar.subi v137 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off56 (v135 : BitVec 32) (v137 : BitVec 32) (k0_t16 : Fin (k0_t16_loop v135 v137).trips) : Fin 2 → Nat :=
  let c1_i32_114 : BitVec 32 := 1#32
  let v214 : BitVec 32 := Scalar.addi v135 c1_i32_114
  let v215 : BitVec 32 := Scalar.subi v137 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t16
  let v228 : Index := Scalar.indexCast arg15
  let c0_121 : Index := 0#32
  ![v228.toNat, 0]

def k0_chk8 (i : grid0.Coords) (v135 : BitVec 32) (v137 : BitVec 32) : Prop :=
  (∀ (k0_h23 : k0_cond23 v135 v137 = 1#1), ∀ a, (k0_off52 i v135) a + S1x512.size a ≤ S136x512.size a) ∧
  (∀ (k0_h24 : k0_cond24 v135 v137 = 1#1), ∀ a, (k0_off53 i v135) a + S1x512.size a ≤ S136x512.size a) ∧
  (∀ (k0_h24 : k0_cond24 v135 v137 = 1#1), ∀ a, (k0_off54 i v137) a + S1x512.size a ≤ S136x512.size a) ∧
  (∀ (k0_h24 : k0_cond24 v135 v137 = 1#1), ∀ (k0_h25 : k0_cond25 i v135 v137 = 1#1), (k0_t15_loop v135 v137).OK) ∧
  (∀ k0_t15 : Fin (k0_t15_loop v135 v137).trips, ∀ (k0_h24 : k0_cond24 v135 v137 = 1#1), ∀ (k0_h25 : k0_cond25 i v135 v137 = 1#1), ∀ a, (k0_off55 v135 v137 k0_t15) a + S1x512.size a ≤ S136x512.size a) ∧
  (∀ (k0_h24 : k0_cond24 v135 v137 = 1#1), ∀ (k0_h25 : k0_cond25 i v135 v137 = 1#1), (k0_t16_loop v135 v137).OK) ∧
  (∀ k0_t16 : Fin (k0_t16_loop v135 v137).trips, ∀ (k0_h24 : k0_cond24 v135 v137 = 1#1), ∀ (k0_h25 : k0_cond25 i v135 v137 = 1#1), ∀ a, (k0_off56 v135 v137 k0_t16) a + S1x512.size a ≤ S136x512.size a)
theorem k0_off52_inb : ∀ (i : grid0.Coords) (v135 : BitVec 32) (v137 : BitVec 32) (k0_hw8 : k0_chk8 i v135 v137), ∀ (k0_h23 : k0_cond23 v135 v137 = 1#1), ∀ a, (k0_off52 i v135) a + S1x512.size a ≤ S136x512.size a := fun i v135 v137 k0_hw8 k0_h23 => k0_hw8.1 k0_h23
theorem k0_off53_inb : ∀ (i : grid0.Coords) (v135 : BitVec 32) (v137 : BitVec 32) (k0_hw8 : k0_chk8 i v135 v137), ∀ (k0_h24 : k0_cond24 v135 v137 = 1#1), ∀ a, (k0_off53 i v135) a + S1x512.size a ≤ S136x512.size a := fun i v135 v137 k0_hw8 k0_h24 => k0_hw8.2.1 k0_h24
theorem k0_off54_inb : ∀ (i : grid0.Coords) (v135 : BitVec 32) (v137 : BitVec 32) (k0_hw8 : k0_chk8 i v135 v137), ∀ (k0_h24 : k0_cond24 v135 v137 = 1#1), ∀ a, (k0_off54 i v137) a + S1x512.size a ≤ S136x512.size a := fun i v135 v137 k0_hw8 k0_h24 => k0_hw8.2.2.1 k0_h24
theorem k0_t15_ok : ∀ (i : grid0.Coords) (v135 : BitVec 32) (v137 : BitVec 32) (k0_hw8 : k0_chk8 i v135 v137), ∀ (k0_h24 : k0_cond24 v135 v137 = 1#1), ∀ (k0_h25 : k0_cond25 i v135 v137 = 1#1), (k0_t15_loop v135 v137).OK := fun i v135 v137 k0_hw8 k0_h24 k0_h25 => k0_hw8.2.2.2.1 k0_h24 k0_h25
theorem k0_off55_inb : ∀ (i : grid0.Coords) (v135 : BitVec 32) (v137 : BitVec 32) (k0_hw8 : k0_chk8 i v135 v137) (k0_t15 : Fin (k0_t15_loop v135 v137).trips), ∀ (k0_h24 : k0_cond24 v135 v137 = 1#1), ∀ (k0_h25 : k0_cond25 i v135 v137 = 1#1), ∀ a, (k0_off55 v135 v137 k0_t15) a + S1x512.size a ≤ S136x512.size a := fun i v135 v137 k0_hw8 k0_t15 k0_h24 k0_h25 => k0_hw8.2.2.2.2.1 k0_t15 k0_h24 k0_h25
theorem k0_t16_ok : ∀ (i : grid0.Coords) (v135 : BitVec 32) (v137 : BitVec 32) (k0_hw8 : k0_chk8 i v135 v137), ∀ (k0_h24 : k0_cond24 v135 v137 = 1#1), ∀ (k0_h25 : k0_cond25 i v135 v137 = 1#1), (k0_t16_loop v135 v137).OK := fun i v135 v137 k0_hw8 k0_h24 k0_h25 => k0_hw8.2.2.2.2.2.1 k0_h24 k0_h25
theorem k0_off56_inb : ∀ (i : grid0.Coords) (v135 : BitVec 32) (v137 : BitVec 32) (k0_hw8 : k0_chk8 i v135 v137) (k0_t16 : Fin (k0_t16_loop v135 v137).trips), ∀ (k0_h24 : k0_cond24 v135 v137 = 1#1), ∀ (k0_h25 : k0_cond25 i v135 v137 = 1#1), ∀ a, (k0_off56 v135 v137 k0_t16) a + S1x512.size a ≤ S136x512.size a := fun i v135 v137 k0_hw8 k0_t16 k0_h24 k0_h25 => k0_hw8.2.2.2.2.2.2 k0_t16 k0_h24 k0_h25

def k0_off57 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_86 : BitVec 32 := 5#32
  let v147 : BitVec 32 := Scalar.muli v96 c5_i32_86
  let c3_i32_87 : BitVec 32 := 3#32
  let v148 : BitVec 32 := Scalar.addi v147 c3_i32_87
  let v149 : Index := Scalar.indexCast v148
  let c0_88 : Index := 0#32
  ![v149.toNat, 0]
def k0_off58 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_86 : BitVec 32 := 5#32
  let v147 : BitVec 32 := Scalar.muli v96 c5_i32_86
  let c3_i32_87 : BitVec 32 := 3#32
  let v148 : BitVec 32 := Scalar.addi v147 c3_i32_87
  let v151 : Index := Scalar.indexCast v148
  let c1_89 : Index := 1#32
  ![v151.toNat, 1]
def k0_off59 (i : grid0.Coords) (v150 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_90 : BitVec 32 := 128#32
  let v153 : BitVec 32 := Scalar.select v97 v150 c128_i32_90
  let v180 : Index := Scalar.indexCast v153
  let c0_104 : Index := 0#32
  ![v180.toNat, 0]
def k0_cond26 (v150 : BitVec 32) (v152 : BitVec 32) : BitVec 1 :=
  let v154 : BitVec 1 := Scalar.cmpi .eq v150 v152
  let v155 : BitVec 32 := Scalar.extui v154
  let c0_i32_91 : BitVec 32 := 0#32
  let v156 : BitVec 1 := Scalar.cmpi .ne v155 c0_i32_91
  v156

def k0_off60 (i : grid0.Coords) (v150 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_90 : BitVec 32 := 128#32
  let v153 : BitVec 32 := Scalar.select v97 v150 c128_i32_90
  let v195 : Index := Scalar.indexCast v153
  let c0_108 : Index := 0#32
  ![v195.toNat, 0]
def k0_cond27 (v150 : BitVec 32) (v152 : BitVec 32) : BitVec 1 :=
  let v157 : BitVec 1 := Scalar.cmpi .ne v150 v152
  let v158 : BitVec 32 := Scalar.extui v157
  let c0_i32_92 : BitVec 32 := 0#32
  let v159 : BitVec 1 := Scalar.cmpi .ne v158 c0_i32_92
  v159

def k0_off61 (i : grid0.Coords) (v152 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_107 : BitVec 32 := 128#32
  let v194 : BitVec 32 := Scalar.select v97 v152 c128_i32_107
  let v202 : Index := Scalar.indexCast v194
  let c0_110 : Index := 0#32
  ![v202.toNat, 0]
@[reducible] def k0_t17_loop (v150 : BitVec 32) (v152 : BitVec 32) : Scf.Loop 32 :=
  let c1_i32_114 : BitVec 32 := 1#32
  let v214 : BitVec 32 := Scalar.addi v150 c1_i32_114
  let v215 : BitVec 32 := Scalar.subi v152 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond28 (i : grid0.Coords) (v150 : BitVec 32) (v152 : BitVec 32) : BitVec 1 :=
  let arg0 : BitVec 32 := BitVec.ofNat 32 (i 0).val
  let c0_i32_54 : BitVec 32 := 0#32
  let v97 : BitVec 1 := Scalar.cmpi .sge arg0 c0_i32_54
  let c1_i32_112 : BitVec 32 := 1#32
  let v209 : BitVec 32 := Scalar.addi v150 c1_i32_112
  let v210 : BitVec 1 := Scalar.cmpi .sgt v152 v209
  let v211 : BitVec 1 := Scalar.andi v97 v210
  let v212 : BitVec 32 := Scalar.extui v211
  let c0_i32_113 : BitVec 32 := 0#32
  let v213 : BitVec 1 := Scalar.cmpi .ne v212 c0_i32_113
  v213

def k0_off62 (v150 : BitVec 32) (v152 : BitVec 32) (k0_t17 : Fin (k0_t17_loop v150 v152).trips) : Fin 2 → Nat :=
  let c1_i32_114 : BitVec 32 := 1#32
  let v214 : BitVec 32 := Scalar.addi v150 c1_i32_114
  let c1_i32_117 : BitVec 32 := 1#32
  let arg15 : BitVec 32 := Scf.iv v214 c1_i32_117 k0_t17
  let v228 : Index := Scalar.indexCast arg15
  let c0_121 : Index := 0#32
  ![v228.toNat, 0]
@[reducible] def k0_t18_loop (v150 : BitVec 32) (v152 : BitVec 32) : Scf.Loop 32 :=
  let c1_i32_114 : BitVec 32 := 1#32
  let v214 : BitVec 32 := Scalar.addi v150 c1_i32_114
  let v215 : BitVec 32 := Scalar.subi v152 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off63 (v150 : BitVec 32) (v152 : BitVec 32) (k0_t18 : Fin (k0_t18_loop v150 v152).trips) : Fin 2 → Nat :=
  let c1_i32_114 : BitVec 32 := 1#32
  let v214 : BitVec 32 := Scalar.addi v150 c1_i32_114
  let v215 : BitVec 32 := Scalar.subi v152 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t18
  let v228 : Index := Scalar.indexCast arg15
  let c0_121 : Index := 0#32
  ![v228.toNat, 0]

def k0_chk9 (i : grid0.Coords) (v150 : BitVec 32) (v152 : BitVec 32) : Prop :=
  (∀ (k0_h26 : k0_cond26 v150 v152 = 1#1), ∀ a, (k0_off59 i v150) a + S1x512.size a ≤ S136x512.size a) ∧
  (∀ (k0_h27 : k0_cond27 v150 v152 = 1#1), ∀ a, (k0_off60 i v150) a + S1x512.size a ≤ S136x512.size a) ∧
  (∀ (k0_h27 : k0_cond27 v150 v152 = 1#1), ∀ a, (k0_off61 i v152) a + S1x512.size a ≤ S136x512.size a) ∧
  (∀ (k0_h27 : k0_cond27 v150 v152 = 1#1), ∀ (k0_h28 : k0_cond28 i v150 v152 = 1#1), (k0_t17_loop v150 v152).OK) ∧
  (∀ k0_t17 : Fin (k0_t17_loop v150 v152).trips, ∀ (k0_h27 : k0_cond27 v150 v152 = 1#1), ∀ (k0_h28 : k0_cond28 i v150 v152 = 1#1), ∀ a, (k0_off62 v150 v152 k0_t17) a + S1x512.size a ≤ S136x512.size a) ∧
  (∀ (k0_h27 : k0_cond27 v150 v152 = 1#1), ∀ (k0_h28 : k0_cond28 i v150 v152 = 1#1), (k0_t18_loop v150 v152).OK) ∧
  (∀ k0_t18 : Fin (k0_t18_loop v150 v152).trips, ∀ (k0_h27 : k0_cond27 v150 v152 = 1#1), ∀ (k0_h28 : k0_cond28 i v150 v152 = 1#1), ∀ a, (k0_off63 v150 v152 k0_t18) a + S1x512.size a ≤ S136x512.size a)
theorem k0_off59_inb : ∀ (i : grid0.Coords) (v150 : BitVec 32) (v152 : BitVec 32) (k0_hw9 : k0_chk9 i v150 v152), ∀ (k0_h26 : k0_cond26 v150 v152 = 1#1), ∀ a, (k0_off59 i v150) a + S1x512.size a ≤ S136x512.size a := fun i v150 v152 k0_hw9 k0_h26 => k0_hw9.1 k0_h26
theorem k0_off60_inb : ∀ (i : grid0.Coords) (v150 : BitVec 32) (v152 : BitVec 32) (k0_hw9 : k0_chk9 i v150 v152), ∀ (k0_h27 : k0_cond27 v150 v152 = 1#1), ∀ a, (k0_off60 i v150) a + S1x512.size a ≤ S136x512.size a := fun i v150 v152 k0_hw9 k0_h27 => k0_hw9.2.1 k0_h27
theorem k0_off61_inb : ∀ (i : grid0.Coords) (v150 : BitVec 32) (v152 : BitVec 32) (k0_hw9 : k0_chk9 i v150 v152), ∀ (k0_h27 : k0_cond27 v150 v152 = 1#1), ∀ a, (k0_off61 i v152) a + S1x512.size a ≤ S136x512.size a := fun i v150 v152 k0_hw9 k0_h27 => k0_hw9.2.2.1 k0_h27
theorem k0_t17_ok : ∀ (i : grid0.Coords) (v150 : BitVec 32) (v152 : BitVec 32) (k0_hw9 : k0_chk9 i v150 v152), ∀ (k0_h27 : k0_cond27 v150 v152 = 1#1), ∀ (k0_h28 : k0_cond28 i v150 v152 = 1#1), (k0_t17_loop v150 v152).OK := fun i v150 v152 k0_hw9 k0_h27 k0_h28 => k0_hw9.2.2.2.1 k0_h27 k0_h28
theorem k0_off62_inb : ∀ (i : grid0.Coords) (v150 : BitVec 32) (v152 : BitVec 32) (k0_hw9 : k0_chk9 i v150 v152) (k0_t17 : Fin (k0_t17_loop v150 v152).trips), ∀ (k0_h27 : k0_cond27 v150 v152 = 1#1), ∀ (k0_h28 : k0_cond28 i v150 v152 = 1#1), ∀ a, (k0_off62 v150 v152 k0_t17) a + S1x512.size a ≤ S136x512.size a := fun i v150 v152 k0_hw9 k0_t17 k0_h27 k0_h28 => k0_hw9.2.2.2.2.1 k0_t17 k0_h27 k0_h28
theorem k0_t18_ok : ∀ (i : grid0.Coords) (v150 : BitVec 32) (v152 : BitVec 32) (k0_hw9 : k0_chk9 i v150 v152), ∀ (k0_h27 : k0_cond27 v150 v152 = 1#1), ∀ (k0_h28 : k0_cond28 i v150 v152 = 1#1), (k0_t18_loop v150 v152).OK := fun i v150 v152 k0_hw9 k0_h27 k0_h28 => k0_hw9.2.2.2.2.2.1 k0_h27 k0_h28
theorem k0_off63_inb : ∀ (i : grid0.Coords) (v150 : BitVec 32) (v152 : BitVec 32) (k0_hw9 : k0_chk9 i v150 v152) (k0_t18 : Fin (k0_t18_loop v150 v152).trips), ∀ (k0_h27 : k0_cond27 v150 v152 = 1#1), ∀ (k0_h28 : k0_cond28 i v150 v152 = 1#1), ∀ a, (k0_off63 v150 v152 k0_t18) a + S1x512.size a ≤ S136x512.size a := fun i v150 v152 k0_hw9 k0_t18 k0_h27 k0_h28 => k0_hw9.2.2.2.2.2.2 k0_t18 k0_h27 k0_h28

def k0_off64 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_95 : BitVec 32 := 5#32
  let v162 : BitVec 32 := Scalar.muli v96 c5_i32_95
  let c4_i32_96 : BitVec 32 := 4#32
  let v163 : BitVec 32 := Scalar.addi v162 c4_i32_96
  let v164 : Index := Scalar.indexCast v163
  let c0_97 : Index := 0#32
  ![v164.toNat, 0]
def k0_off65 (i : grid0.Coords) : Fin 2 → Nat :=
  let c2_i32_53 : BitVec 32 := 2#32
  let arg0 : BitVec 32 := BitVec.ofNat 32 (i 0).val
  let v96 : BitVec 32 := Scalar.muli c2_i32_53 arg0
  let c5_i32_95 : BitVec 32 := 5#32
  let v162 : BitVec 32 := Scalar.muli v96 c5_i32_95
  let c4_i32_96 : BitVec 32 := 4#32
  let v163 : BitVec 32 := Scalar.addi v162 c4_i32_96
  let v166 : Index := Scalar.indexCast v163
  let c1_98 : Index := 1#32
  ![v166.toNat, 1]
def k0_off66 (i : grid0.Coords) (v165 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_99 : BitVec 32 := 128#32
  let v168 : BitVec 32 := Scalar.select v97 v165 c128_i32_99
  let v180 : Index := Scalar.indexCast v168
  let c0_104 : Index := 0#32
  ![v180.toNat, 0]
def k0_cond29 (v165 : BitVec 32) (v167 : BitVec 32) : BitVec 1 :=
  let v169 : BitVec 1 := Scalar.cmpi .eq v165 v167
  let v170 : BitVec 32 := Scalar.extui v169
  let c0_i32_100 : BitVec 32 := 0#32
  let v171 : BitVec 1 := Scalar.cmpi .ne v170 c0_i32_100
  v171

def k0_off67 (i : grid0.Coords) (v165 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_99 : BitVec 32 := 128#32
  let v168 : BitVec 32 := Scalar.select v97 v165 c128_i32_99
  let v195 : Index := Scalar.indexCast v168
  let c0_108 : Index := 0#32
  ![v195.toNat, 0]
def k0_cond30 (v165 : BitVec 32) (v167 : BitVec 32) : BitVec 1 :=
  let v172 : BitVec 1 := Scalar.cmpi .ne v165 v167
  let v173 : BitVec 32 := Scalar.extui v172
  let c0_i32_101 : BitVec 32 := 0#32
  let v174 : BitVec 1 := Scalar.cmpi .ne v173 c0_i32_101
  v174

def k0_off68 (i : grid0.Coords) (v167 : BitVec 32) : Fin 2 → Nat :=
  let arg0 : BitVec 32 := BitVec.ofNat 32 (i 0).val
  let c0_i32_54 : BitVec 32 := 0#32
  let v97 : BitVec 1 := Scalar.cmpi .sge arg0 c0_i32_54
  let c128_i32_107 : BitVec 32 := 128#32
  let v194 : BitVec 32 := Scalar.select v97 v167 c128_i32_107
  let v202 : Index := Scalar.indexCast v194
  let c0_110 : Index := 0#32
  ![v202.toNat, 0]
@[reducible] def k0_t19_loop (v165 : BitVec 32) (v167 : BitVec 32) : Scf.Loop 32 :=
  let c1_i32_114 : BitVec 32 := 1#32
  let v214 : BitVec 32 := Scalar.addi v165 c1_i32_114
  let v215 : BitVec 32 := Scalar.subi v167 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_117 : BitVec 32 := 1#32
  ⟨v214, v219, c1_i32_117⟩
def k0_cond31 (i : grid0.Coords) (v165 : BitVec 32) (v167 : BitVec 32) : BitVec 1 :=
  let arg0 : BitVec 32 := BitVec.ofNat 32 (i 0).val
  let c0_i32_54 : BitVec 32 := 0#32
  let v97 : BitVec 1 := Scalar.cmpi .sge arg0 c0_i32_54
  let c1_i32_112 : BitVec 32 := 1#32
  let v209 : BitVec 32 := Scalar.addi v165 c1_i32_112
  let v210 : BitVec 1 := Scalar.cmpi .sgt v167 v209
  let v211 : BitVec 1 := Scalar.andi v97 v210
  let v212 : BitVec 32 := Scalar.extui v211
  let c0_i32_113 : BitVec 32 := 0#32
  let v213 : BitVec 1 := Scalar.cmpi .ne v212 c0_i32_113
  v213

def k0_off69 (v165 : BitVec 32) (v167 : BitVec 32) (k0_t19 : Fin (k0_t19_loop v165 v167).trips) : Fin 2 → Nat :=
  let c1_i32_114 : BitVec 32 := 1#32
  let v214 : BitVec 32 := Scalar.addi v165 c1_i32_114
  let c1_i32_117 : BitVec 32 := 1#32
  let arg15 : BitVec 32 := Scf.iv v214 c1_i32_117 k0_t19
  let v228 : Index := Scalar.indexCast arg15
  let c0_121 : Index := 0#32
  ![v228.toNat, 0]
@[reducible] def k0_t20_loop (v165 : BitVec 32) (v167 : BitVec 32) : Scf.Loop 32 :=
  let c1_i32_114 : BitVec 32 := 1#32
  let v214 : BitVec 32 := Scalar.addi v165 c1_i32_114
  let v215 : BitVec 32 := Scalar.subi v167 v214
  let c1_i32_116 : BitVec 32 := 1#32
  let v217 : BitVec 32 := Scalar.divsi v215 c1_i32_116
  let v218 : BitVec 32 := Scalar.muli v217 c1_i32_116
  let v219 : BitVec 32 := Scalar.addi v214 v218
  let v216 : BitVec 32 := Scalar.addi v214 v215
  let c1_i32_118 : BitVec 32 := 1#32
  ⟨v219, v216, c1_i32_118⟩
def k0_off70 (v165 : BitVec 32) (v167 : BitVec 32) (k0_t20 : Fin (k0_t20_loop v165 v167).trips) : Fin 2 → Nat :=
  let c1_i32_114 : BitVec 32 := 1#32
  let v214 : BitVec 32 := Scalar.addi v165 c1_i32_114
  let v215 : BitVec 32 := Scalar.subi v167 v214
  let c1_i32_116 : BitVec 32 := 1#32
  let v217 : BitVec 32 := Scalar.divsi v215 c1_i32_116
  let v218 : BitVec 32 := Scalar.muli v217 c1_i32_116
  let v219 : BitVec 32 := Scalar.addi v214 v218
  let c1_i32_118 : BitVec 32 := 1#32
  let arg15 : BitVec 32 := Scf.iv v219 c1_i32_118 k0_t20
  let v228 : Index := Scalar.indexCast arg15
  let c0_121 : Index := 0#32
  ![v228.toNat, 0]

def k0_chk10 (i : grid0.Coords) (v165 : BitVec 32) (v167 : BitVec 32) : Prop :=
  (∀ (k0_h29 : k0_cond29 v165 v167 = 1#1), ∀ a, (k0_off66 i v165) a + S1x512.size a ≤ S136x512.size a) ∧
  (∀ (k0_h30 : k0_cond30 v165 v167 = 1#1), ∀ a, (k0_off67 i v165) a + S1x512.size a ≤ S136x512.size a) ∧
  (∀ (k0_h30 : k0_cond30 v165 v167 = 1#1), ∀ a, (k0_off68 i v167) a + S1x512.size a ≤ S136x512.size a) ∧
  (∀ (k0_h30 : k0_cond30 v165 v167 = 1#1), ∀ (k0_h31 : k0_cond31 i v165 v167 = 1#1), (k0_t19_loop v165 v167).OK) ∧
  (∀ k0_t19 : Fin (k0_t19_loop v165 v167).trips, ∀ (k0_h30 : k0_cond30 v165 v167 = 1#1), ∀ (k0_h31 : k0_cond31 i v165 v167 = 1#1), ∀ a, (k0_off69 v165 v167 k0_t19) a + S1x512.size a ≤ S136x512.size a) ∧
  (∀ (k0_h30 : k0_cond30 v165 v167 = 1#1), ∀ (k0_h31 : k0_cond31 i v165 v167 = 1#1), (k0_t20_loop v165 v167).OK) ∧
  (∀ k0_t20 : Fin (k0_t20_loop v165 v167).trips, ∀ (k0_h30 : k0_cond30 v165 v167 = 1#1), ∀ (k0_h31 : k0_cond31 i v165 v167 = 1#1), ∀ a, (k0_off70 v165 v167 k0_t20) a + S1x512.size a ≤ S136x512.size a)
theorem k0_off66_inb : ∀ (i : grid0.Coords) (v165 : BitVec 32) (v167 : BitVec 32) (k0_hw10 : k0_chk10 i v165 v167), ∀ (k0_h29 : k0_cond29 v165 v167 = 1#1), ∀ a, (k0_off66 i v165) a + S1x512.size a ≤ S136x512.size a := fun i v165 v167 k0_hw10 k0_h29 => k0_hw10.1 k0_h29
theorem k0_off67_inb : ∀ (i : grid0.Coords) (v165 : BitVec 32) (v167 : BitVec 32) (k0_hw10 : k0_chk10 i v165 v167), ∀ (k0_h30 : k0_cond30 v165 v167 = 1#1), ∀ a, (k0_off67 i v165) a + S1x512.size a ≤ S136x512.size a := fun i v165 v167 k0_hw10 k0_h30 => k0_hw10.2.1 k0_h30
theorem k0_off68_inb : ∀ (i : grid0.Coords) (v165 : BitVec 32) (v167 : BitVec 32) (k0_hw10 : k0_chk10 i v165 v167), ∀ (k0_h30 : k0_cond30 v165 v167 = 1#1), ∀ a, (k0_off68 i v167) a + S1x512.size a ≤ S136x512.size a := fun i v165 v167 k0_hw10 k0_h30 => k0_hw10.2.2.1 k0_h30
theorem k0_t19_ok : ∀ (i : grid0.Coords) (v165 : BitVec 32) (v167 : BitVec 32) (k0_hw10 : k0_chk10 i v165 v167), ∀ (k0_h30 : k0_cond30 v165 v167 = 1#1), ∀ (k0_h31 : k0_cond31 i v165 v167 = 1#1), (k0_t19_loop v165 v167).OK := fun i v165 v167 k0_hw10 k0_h30 k0_h31 => k0_hw10.2.2.2.1 k0_h30 k0_h31
theorem k0_off69_inb : ∀ (i : grid0.Coords) (v165 : BitVec 32) (v167 : BitVec 32) (k0_hw10 : k0_chk10 i v165 v167) (k0_t19 : Fin (k0_t19_loop v165 v167).trips), ∀ (k0_h30 : k0_cond30 v165 v167 = 1#1), ∀ (k0_h31 : k0_cond31 i v165 v167 = 1#1), ∀ a, (k0_off69 v165 v167 k0_t19) a + S1x512.size a ≤ S136x512.size a := fun i v165 v167 k0_hw10 k0_t19 k0_h30 k0_h31 => k0_hw10.2.2.2.2.1 k0_t19 k0_h30 k0_h31
theorem k0_t20_ok : ∀ (i : grid0.Coords) (v165 : BitVec 32) (v167 : BitVec 32) (k0_hw10 : k0_chk10 i v165 v167), ∀ (k0_h30 : k0_cond30 v165 v167 = 1#1), ∀ (k0_h31 : k0_cond31 i v165 v167 = 1#1), (k0_t20_loop v165 v167).OK := fun i v165 v167 k0_hw10 k0_h30 k0_h31 => k0_hw10.2.2.2.2.2.1 k0_h30 k0_h31
theorem k0_off70_inb : ∀ (i : grid0.Coords) (v165 : BitVec 32) (v167 : BitVec 32) (k0_hw10 : k0_chk10 i v165 v167) (k0_t20 : Fin (k0_t20_loop v165 v167).trips), ∀ (k0_h30 : k0_cond30 v165 v167 = 1#1), ∀ (k0_h31 : k0_cond31 i v165 v167 = 1#1), ∀ a, (k0_off70 v165 v167 k0_t20) a + S1x512.size a ≤ S136x512.size a := fun i v165 v167 k0_hw10 k0_t20 k0_h30 k0_h31 => k0_hw10.2.2.2.2.2.2 k0_t20 k0_h30 k0_h31

def k0_cond32 (i : grid0.Coords) : BitVec 1 :=
  let arg0 : BitVec 32 := BitVec.ofNat 32 (i 0).val
  let c24_i32 : BitVec 32 := 24#32
  let v175 : BitVec 1 := Scalar.cmpi .eq arg0 c24_i32
  let v176 : BitVec 32 := Scalar.extui v175
  let c0_i32_102 : BitVec 32 := 0#32
  let v177 : BitVec 1 := Scalar.cmpi .ne v176 c0_i32_102
  v177

def k0_off71 : Fin 2 → Nat :=
  let c49_i32 : BitVec 32 := 49#32
  let c5_i32_108 : BitVec 32 := 5#32
  let v183 : BitVec 32 := Scalar.muli c49_i32 c5_i32_108
  let c0_i32_109 : BitVec 32 := 0#32
  let v184 : BitVec 32 := Scalar.addi v183 c0_i32_109
  let v185 : Index := Scalar.indexCast v184
  let c0_110 : Index := 0#32
  ![v185.toNat, 0]
def k0_off72 : Fin 2 → Nat :=
  let c49_i32 : BitVec 32 := 49#32
  let c5_i32_108 : BitVec 32 := 5#32
  let v183 : BitVec 32 := Scalar.muli c49_i32 c5_i32_108
  let c0_i32_109 : BitVec 32 := 0#32
  let v184 : BitVec 32 := Scalar.addi v183 c0_i32_109
  let v187 : Index := Scalar.indexCast v184
  let c1_111 : Index := 1#32
  ![v187.toNat, 1]
def k0_off73 (i : grid0.Coords) (v186 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_112 : BitVec 32 := 128#32
  let v189 : BitVec 32 := Scalar.select v178 v186 c128_i32_112
  let v282 : Index := Scalar.indexCast v189
  let c0_170 : Index := 0#32
  ![v282.toNat, 0]
def k0_cond33 (v186 : BitVec 32) (v188 : BitVec 32) : BitVec 1 :=
  let v190 : BitVec 1 := Scalar.cmpi .eq v186 v188
  let v191 : BitVec 32 := Scalar.extui v190
  let c0_i32_113 : BitVec 32 := 0#32
  let v192 : BitVec 1 := Scalar.cmpi .ne v191 c0_i32_113
  v192

def k0_off74 (i : grid0.Coords) (v186 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_112 : BitVec 32 := 128#32
  let v189 : BitVec 32 := Scalar.select v178 v186 c128_i32_112
  let v297 : Index := Scalar.indexCast v189
  let c0_174 : Index := 0#32
  ![v297.toNat, 0]
def k0_cond34 (v186 : BitVec 32) (v188 : BitVec 32) : BitVec 1 :=
  let v193 : BitVec 1 := Scalar.cmpi .ne v186 v188
  let v194 : BitVec 32 := Scalar.extui v193
  let c0_i32_114 : BitVec 32 := 0#32
  let v195 : BitVec 1 := Scalar.cmpi .ne v194 c0_i32_114
  v195

def k0_off75 (i : grid0.Coords) (v188 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_173 : BitVec 32 := 128#32
  let v296 : BitVec 32 := Scalar.select v178 v188 c128_i32_173
  let v304 : Index := Scalar.indexCast v296
  let c0_176 : Index := 0#32
  ![v304.toNat, 0]
@[reducible] def k0_t21_loop (v186 : BitVec 32) (v188 : BitVec 32) : Scf.Loop 32 :=
  let c1_i32_180 : BitVec 32 := 1#32
  let v316 : BitVec 32 := Scalar.addi v186 c1_i32_180
  let v317 : BitVec 32 := Scalar.subi v188 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_183 : BitVec 32 := 1#32
  ⟨v316, v321, c1_i32_183⟩
def k0_cond35 (i : grid0.Coords) (v186 : BitVec 32) (v188 : BitVec 32) : BitVec 1 :=
  let arg0 : BitVec 32 := BitVec.ofNat 32 (i 0).val
  let c0_i32_103 : BitVec 32 := 0#32
  let v178 : BitVec 1 := Scalar.cmpi .sge arg0 c0_i32_103
  let c1_i32_178 : BitVec 32 := 1#32
  let v311 : BitVec 32 := Scalar.addi v186 c1_i32_178
  let v312 : BitVec 1 := Scalar.cmpi .sgt v188 v311
  let v313 : BitVec 1 := Scalar.andi v178 v312
  let v314 : BitVec 32 := Scalar.extui v313
  let c0_i32_179 : BitVec 32 := 0#32
  let v315 : BitVec 1 := Scalar.cmpi .ne v314 c0_i32_179
  v315

def k0_off76 (v186 : BitVec 32) (v188 : BitVec 32) (k0_t21 : Fin (k0_t21_loop v186 v188).trips) : Fin 2 → Nat :=
  let c1_i32_180 : BitVec 32 := 1#32
  let v316 : BitVec 32 := Scalar.addi v186 c1_i32_180
  let c1_i32_183 : BitVec 32 := 1#32
  let arg15 : BitVec 32 := Scf.iv v316 c1_i32_183 k0_t21
  let v330 : Index := Scalar.indexCast arg15
  let c0_187 : Index := 0#32
  ![v330.toNat, 0]
@[reducible] def k0_t22_loop (v186 : BitVec 32) (v188 : BitVec 32) : Scf.Loop 32 :=
  let c1_i32_180 : BitVec 32 := 1#32
  let v316 : BitVec 32 := Scalar.addi v186 c1_i32_180
  let v317 : BitVec 32 := Scalar.subi v188 v316
  let c1_i32_182 : BitVec 32 := 1#32
  let v319 : BitVec 32 := Scalar.divsi v317 c1_i32_182
  let v320 : BitVec 32 := Scalar.muli v319 c1_i32_182
  let v321 : BitVec 32 := Scalar.addi v316 v320
  let v318 : BitVec 32 := Scalar.addi v316 v317
  let c1_i32_184 : BitVec 32 := 1#32
  ⟨v321, v318, c1_i32_184⟩
def k0_off77 (v186 : BitVec 32) (v188 : BitVec 32) (k0_t22 : Fin (k0_t22_loop v186 v188).trips) : Fin 2 → Nat :=
  let c1_i32_180 : BitVec 32 := 1#32
  let v316 : BitVec 32 := Scalar.addi v186 c1_i32_180
  let v317 : BitVec 32 := Scalar.subi v188 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_184 : BitVec 32 := 1#32
  let arg15 : BitVec 32 := Scf.iv v321 c1_i32_184 k0_t22
  let v330 : Index := Scalar.indexCast arg15
  let c0_187 : Index := 0#32
  ![v330.toNat, 0]

def k0_chk11 (i : grid0.Coords) (v186 : BitVec 32) (v188 : BitVec 32) : Prop :=
  (∀ (k0_h32 : k0_cond32 i = 1#1), ∀ (k0_h33 : k0_cond33 v186 v188 = 1#1), ∀ a, (k0_off73 i v186) a + S1x512.size a ≤ S136x512.size a) ∧
  (∀ (k0_h32 : k0_cond32 i = 1#1), ∀ (k0_h34 : k0_cond34 v186 v188 = 1#1), ∀ a, (k0_off74 i v186) a + S1x512.size a ≤ S136x512.size a) ∧
  (∀ (k0_h32 : k0_cond32 i = 1#1), ∀ (k0_h34 : k0_cond34 v186 v188 = 1#1), ∀ a, (k0_off75 i v188) a + S1x512.size a ≤ S136x512.size a) ∧
  (∀ (k0_h32 : k0_cond32 i = 1#1), ∀ (k0_h34 : k0_cond34 v186 v188 = 1#1), ∀ (k0_h35 : k0_cond35 i v186 v188 = 1#1), (k0_t21_loop v186 v188).OK) ∧
  (∀ k0_t21 : Fin (k0_t21_loop v186 v188).trips, ∀ (k0_h32 : k0_cond32 i = 1#1), ∀ (k0_h34 : k0_cond34 v186 v188 = 1#1), ∀ (k0_h35 : k0_cond35 i v186 v188 = 1#1), ∀ a, (k0_off76 v186 v188 k0_t21) a + S1x512.size a ≤ S136x512.size a) ∧
  (∀ (k0_h32 : k0_cond32 i = 1#1), ∀ (k0_h34 : k0_cond34 v186 v188 = 1#1), ∀ (k0_h35 : k0_cond35 i v186 v188 = 1#1), (k0_t22_loop v186 v188).OK) ∧
  (∀ k0_t22 : Fin (k0_t22_loop v186 v188).trips, ∀ (k0_h32 : k0_cond32 i = 1#1), ∀ (k0_h34 : k0_cond34 v186 v188 = 1#1), ∀ (k0_h35 : k0_cond35 i v186 v188 = 1#1), ∀ a, (k0_off77 v186 v188 k0_t22) a + S1x512.size a ≤ S136x512.size a)
theorem k0_off73_inb : ∀ (i : grid0.Coords) (v186 : BitVec 32) (v188 : BitVec 32) (k0_hw11 : k0_chk11 i v186 v188), ∀ (k0_h32 : k0_cond32 i = 1#1), ∀ (k0_h33 : k0_cond33 v186 v188 = 1#1), ∀ a, (k0_off73 i v186) a + S1x512.size a ≤ S136x512.size a := fun i v186 v188 k0_hw11 k0_h32 k0_h33 => k0_hw11.1 k0_h32 k0_h33
theorem k0_off74_inb : ∀ (i : grid0.Coords) (v186 : BitVec 32) (v188 : BitVec 32) (k0_hw11 : k0_chk11 i v186 v188), ∀ (k0_h32 : k0_cond32 i = 1#1), ∀ (k0_h34 : k0_cond34 v186 v188 = 1#1), ∀ a, (k0_off74 i v186) a + S1x512.size a ≤ S136x512.size a := fun i v186 v188 k0_hw11 k0_h32 k0_h34 => k0_hw11.2.1 k0_h32 k0_h34
theorem k0_off75_inb : ∀ (i : grid0.Coords) (v186 : BitVec 32) (v188 : BitVec 32) (k0_hw11 : k0_chk11 i v186 v188), ∀ (k0_h32 : k0_cond32 i = 1#1), ∀ (k0_h34 : k0_cond34 v186 v188 = 1#1), ∀ a, (k0_off75 i v188) a + S1x512.size a ≤ S136x512.size a := fun i v186 v188 k0_hw11 k0_h32 k0_h34 => k0_hw11.2.2.1 k0_h32 k0_h34
theorem k0_t21_ok : ∀ (i : grid0.Coords) (v186 : BitVec 32) (v188 : BitVec 32) (k0_hw11 : k0_chk11 i v186 v188), ∀ (k0_h32 : k0_cond32 i = 1#1), ∀ (k0_h34 : k0_cond34 v186 v188 = 1#1), ∀ (k0_h35 : k0_cond35 i v186 v188 = 1#1), (k0_t21_loop v186 v188).OK := fun i v186 v188 k0_hw11 k0_h32 k0_h34 k0_h35 => k0_hw11.2.2.2.1 k0_h32 k0_h34 k0_h35
theorem k0_off76_inb : ∀ (i : grid0.Coords) (v186 : BitVec 32) (v188 : BitVec 32) (k0_hw11 : k0_chk11 i v186 v188) (k0_t21 : Fin (k0_t21_loop v186 v188).trips), ∀ (k0_h32 : k0_cond32 i = 1#1), ∀ (k0_h34 : k0_cond34 v186 v188 = 1#1), ∀ (k0_h35 : k0_cond35 i v186 v188 = 1#1), ∀ a, (k0_off76 v186 v188 k0_t21) a + S1x512.size a ≤ S136x512.size a := fun i v186 v188 k0_hw11 k0_t21 k0_h32 k0_h34 k0_h35 => k0_hw11.2.2.2.2.1 k0_t21 k0_h32 k0_h34 k0_h35
theorem k0_t22_ok : ∀ (i : grid0.Coords) (v186 : BitVec 32) (v188 : BitVec 32) (k0_hw11 : k0_chk11 i v186 v188), ∀ (k0_h32 : k0_cond32 i = 1#1), ∀ (k0_h34 : k0_cond34 v186 v188 = 1#1), ∀ (k0_h35 : k0_cond35 i v186 v188 = 1#1), (k0_t22_loop v186 v188).OK := fun i v186 v188 k0_hw11 k0_h32 k0_h34 k0_h35 => k0_hw11.2.2.2.2.2.1 k0_h32 k0_h34 k0_h35
theorem k0_off77_inb : ∀ (i : grid0.Coords) (v186 : BitVec 32) (v188 : BitVec 32) (k0_hw11 : k0_chk11 i v186 v188) (k0_t22 : Fin (k0_t22_loop v186 v188).trips), ∀ (k0_h32 : k0_cond32 i = 1#1), ∀ (k0_h34 : k0_cond34 v186 v188 = 1#1), ∀ (k0_h35 : k0_cond35 i v186 v188 = 1#1), ∀ a, (k0_off77 v186 v188 k0_t22) a + S1x512.size a ≤ S136x512.size a := fun i v186 v188 k0_hw11 k0_t22 k0_h32 k0_h34 k0_h35 => k0_hw11.2.2.2.2.2.2 k0_t22 k0_h32 k0_h34 k0_h35

def k0_off78 : Fin 2 → Nat :=
  let c49_i32_117 : BitVec 32 := 49#32
  let c5_i32_118 : BitVec 32 := 5#32
  let v198 : BitVec 32 := Scalar.muli c49_i32_117 c5_i32_118
  let c1_i32_119 : BitVec 32 := 1#32
  let v199 : BitVec 32 := Scalar.addi v198 c1_i32_119
  let v200 : Index := Scalar.indexCast v199
  let c0_120 : Index := 0#32
  ![v200.toNat, 0]
def k0_off79 : Fin 2 → Nat :=
  let c49_i32_117 : BitVec 32 := 49#32
  let c5_i32_118 : BitVec 32 := 5#32
  let v198 : BitVec 32 := Scalar.muli c49_i32_117 c5_i32_118
  let c1_i32_119 : BitVec 32 := 1#32
  let v199 : BitVec 32 := Scalar.addi v198 c1_i32_119
  let v202 : Index := Scalar.indexCast v199
  let c1_121 : Index := 1#32
  ![v202.toNat, 1]
def k0_off80 (i : grid0.Coords) (v201 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_122 : BitVec 32 := 128#32
  let v204 : BitVec 32 := Scalar.select v178 v201 c128_i32_122
  let v282 : Index := Scalar.indexCast v204
  let c0_170 : Index := 0#32
  ![v282.toNat, 0]
def k0_cond36 (v201 : BitVec 32) (v203 : BitVec 32) : BitVec 1 :=
  let v205 : BitVec 1 := Scalar.cmpi .eq v201 v203
  let v206 : BitVec 32 := Scalar.extui v205
  let c0_i32_123 : BitVec 32 := 0#32
  let v207 : BitVec 1 := Scalar.cmpi .ne v206 c0_i32_123
  v207

def k0_off81 (i : grid0.Coords) (v201 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_122 : BitVec 32 := 128#32
  let v204 : BitVec 32 := Scalar.select v178 v201 c128_i32_122
  let v297 : Index := Scalar.indexCast v204
  let c0_174 : Index := 0#32
  ![v297.toNat, 0]
def k0_cond37 (v201 : BitVec 32) (v203 : BitVec 32) : BitVec 1 :=
  let v208 : BitVec 1 := Scalar.cmpi .ne v201 v203
  let v209 : BitVec 32 := Scalar.extui v208
  let c0_i32_124 : BitVec 32 := 0#32
  let v210 : BitVec 1 := Scalar.cmpi .ne v209 c0_i32_124
  v210

def k0_off82 (i : grid0.Coords) (v203 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_173 : BitVec 32 := 128#32
  let v296 : BitVec 32 := Scalar.select v178 v203 c128_i32_173
  let v304 : Index := Scalar.indexCast v296
  let c0_176 : Index := 0#32
  ![v304.toNat, 0]
@[reducible] def k0_t23_loop (v201 : BitVec 32) (v203 : BitVec 32) : Scf.Loop 32 :=
  let c1_i32_180 : BitVec 32 := 1#32
  let v316 : BitVec 32 := Scalar.addi v201 c1_i32_180
  let v317 : BitVec 32 := Scalar.subi v203 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_183 : BitVec 32 := 1#32
  ⟨v316, v321, c1_i32_183⟩
def k0_cond38 (i : grid0.Coords) (v201 : BitVec 32) (v203 : BitVec 32) : BitVec 1 :=
  let arg0 : BitVec 32 := BitVec.ofNat 32 (i 0).val
  let c0_i32_103 : BitVec 32 := 0#32
  let v178 : BitVec 1 := Scalar.cmpi .sge arg0 c0_i32_103
  let c1_i32_178 : BitVec 32 := 1#32
  let v311 : BitVec 32 := Scalar.addi v201 c1_i32_178
  let v312 : BitVec 1 := Scalar.cmpi .sgt v203 v311
  let v313 : BitVec 1 := Scalar.andi v178 v312
  let v314 : BitVec 32 := Scalar.extui v313
  let c0_i32_179 : BitVec 32 := 0#32
  let v315 : BitVec 1 := Scalar.cmpi .ne v314 c0_i32_179
  v315

def k0_off83 (v201 : BitVec 32) (v203 : BitVec 32) (k0_t23 : Fin (k0_t23_loop v201 v203).trips) : Fin 2 → Nat :=
  let c1_i32_180 : BitVec 32 := 1#32
  let v316 : BitVec 32 := Scalar.addi v201 c1_i32_180
  let c1_i32_183 : BitVec 32 := 1#32
  let arg15 : BitVec 32 := Scf.iv v316 c1_i32_183 k0_t23
  let v330 : Index := Scalar.indexCast arg15
  let c0_187 : Index := 0#32
  ![v330.toNat, 0]
@[reducible] def k0_t24_loop (v201 : BitVec 32) (v203 : BitVec 32) : Scf.Loop 32 :=
  let c1_i32_180 : BitVec 32 := 1#32
  let v316 : BitVec 32 := Scalar.addi v201 c1_i32_180
  let v317 : BitVec 32 := Scalar.subi v203 v316
  let c1_i32_182 : BitVec 32 := 1#32
  let v319 : BitVec 32 := Scalar.divsi v317 c1_i32_182
  let v320 : BitVec 32 := Scalar.muli v319 c1_i32_182
  let v321 : BitVec 32 := Scalar.addi v316 v320
  let v318 : BitVec 32 := Scalar.addi v316 v317
  let c1_i32_184 : BitVec 32 := 1#32
  ⟨v321, v318, c1_i32_184⟩
def k0_off84 (v201 : BitVec 32) (v203 : BitVec 32) (k0_t24 : Fin (k0_t24_loop v201 v203).trips) : Fin 2 → Nat :=
  let c1_i32_180 : BitVec 32 := 1#32
  let v316 : BitVec 32 := Scalar.addi v201 c1_i32_180
  let v317 : BitVec 32 := Scalar.subi v203 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_184 : BitVec 32 := 1#32
  let arg15 : BitVec 32 := Scf.iv v321 c1_i32_184 k0_t24
  let v330 : Index := Scalar.indexCast arg15
  let c0_187 : Index := 0#32
  ![v330.toNat, 0]

def k0_chk12 (i : grid0.Coords) (v201 : BitVec 32) (v203 : BitVec 32) : Prop :=
  (∀ (k0_h32 : k0_cond32 i = 1#1), ∀ (k0_h36 : k0_cond36 v201 v203 = 1#1), ∀ a, (k0_off80 i v201) a + S1x512.size a ≤ S136x512.size a) ∧
  (∀ (k0_h32 : k0_cond32 i = 1#1), ∀ (k0_h37 : k0_cond37 v201 v203 = 1#1), ∀ a, (k0_off81 i v201) a + S1x512.size a ≤ S136x512.size a) ∧
  (∀ (k0_h32 : k0_cond32 i = 1#1), ∀ (k0_h37 : k0_cond37 v201 v203 = 1#1), ∀ a, (k0_off82 i v203) a + S1x512.size a ≤ S136x512.size a) ∧
  (∀ (k0_h32 : k0_cond32 i = 1#1), ∀ (k0_h37 : k0_cond37 v201 v203 = 1#1), ∀ (k0_h38 : k0_cond38 i v201 v203 = 1#1), (k0_t23_loop v201 v203).OK) ∧
  (∀ k0_t23 : Fin (k0_t23_loop v201 v203).trips, ∀ (k0_h32 : k0_cond32 i = 1#1), ∀ (k0_h37 : k0_cond37 v201 v203 = 1#1), ∀ (k0_h38 : k0_cond38 i v201 v203 = 1#1), ∀ a, (k0_off83 v201 v203 k0_t23) a + S1x512.size a ≤ S136x512.size a) ∧
  (∀ (k0_h32 : k0_cond32 i = 1#1), ∀ (k0_h37 : k0_cond37 v201 v203 = 1#1), ∀ (k0_h38 : k0_cond38 i v201 v203 = 1#1), (k0_t24_loop v201 v203).OK) ∧
  (∀ k0_t24 : Fin (k0_t24_loop v201 v203).trips, ∀ (k0_h32 : k0_cond32 i = 1#1), ∀ (k0_h37 : k0_cond37 v201 v203 = 1#1), ∀ (k0_h38 : k0_cond38 i v201 v203 = 1#1), ∀ a, (k0_off84 v201 v203 k0_t24) a + S1x512.size a ≤ S136x512.size a)
theorem k0_off80_inb : ∀ (i : grid0.Coords) (v201 : BitVec 32) (v203 : BitVec 32) (k0_hw12 : k0_chk12 i v201 v203), ∀ (k0_h32 : k0_cond32 i = 1#1), ∀ (k0_h36 : k0_cond36 v201 v203 = 1#1), ∀ a, (k0_off80 i v201) a + S1x512.size a ≤ S136x512.size a := fun i v201 v203 k0_hw12 k0_h32 k0_h36 => k0_hw12.1 k0_h32 k0_h36
theorem k0_off81_inb : ∀ (i : grid0.Coords) (v201 : BitVec 32) (v203 : BitVec 32) (k0_hw12 : k0_chk12 i v201 v203), ∀ (k0_h32 : k0_cond32 i = 1#1), ∀ (k0_h37 : k0_cond37 v201 v203 = 1#1), ∀ a, (k0_off81 i v201) a + S1x512.size a ≤ S136x512.size a := fun i v201 v203 k0_hw12 k0_h32 k0_h37 => k0_hw12.2.1 k0_h32 k0_h37
theorem k0_off82_inb : ∀ (i : grid0.Coords) (v201 : BitVec 32) (v203 : BitVec 32) (k0_hw12 : k0_chk12 i v201 v203), ∀ (k0_h32 : k0_cond32 i = 1#1), ∀ (k0_h37 : k0_cond37 v201 v203 = 1#1), ∀ a, (k0_off82 i v203) a + S1x512.size a ≤ S136x512.size a := fun i v201 v203 k0_hw12 k0_h32 k0_h37 => k0_hw12.2.2.1 k0_h32 k0_h37
theorem k0_t23_ok : ∀ (i : grid0.Coords) (v201 : BitVec 32) (v203 : BitVec 32) (k0_hw12 : k0_chk12 i v201 v203), ∀ (k0_h32 : k0_cond32 i = 1#1), ∀ (k0_h37 : k0_cond37 v201 v203 = 1#1), ∀ (k0_h38 : k0_cond38 i v201 v203 = 1#1), (k0_t23_loop v201 v203).OK := fun i v201 v203 k0_hw12 k0_h32 k0_h37 k0_h38 => k0_hw12.2.2.2.1 k0_h32 k0_h37 k0_h38
theorem k0_off83_inb : ∀ (i : grid0.Coords) (v201 : BitVec 32) (v203 : BitVec 32) (k0_hw12 : k0_chk12 i v201 v203) (k0_t23 : Fin (k0_t23_loop v201 v203).trips), ∀ (k0_h32 : k0_cond32 i = 1#1), ∀ (k0_h37 : k0_cond37 v201 v203 = 1#1), ∀ (k0_h38 : k0_cond38 i v201 v203 = 1#1), ∀ a, (k0_off83 v201 v203 k0_t23) a + S1x512.size a ≤ S136x512.size a := fun i v201 v203 k0_hw12 k0_t23 k0_h32 k0_h37 k0_h38 => k0_hw12.2.2.2.2.1 k0_t23 k0_h32 k0_h37 k0_h38
theorem k0_t24_ok : ∀ (i : grid0.Coords) (v201 : BitVec 32) (v203 : BitVec 32) (k0_hw12 : k0_chk12 i v201 v203), ∀ (k0_h32 : k0_cond32 i = 1#1), ∀ (k0_h37 : k0_cond37 v201 v203 = 1#1), ∀ (k0_h38 : k0_cond38 i v201 v203 = 1#1), (k0_t24_loop v201 v203).OK := fun i v201 v203 k0_hw12 k0_h32 k0_h37 k0_h38 => k0_hw12.2.2.2.2.2.1 k0_h32 k0_h37 k0_h38
theorem k0_off84_inb : ∀ (i : grid0.Coords) (v201 : BitVec 32) (v203 : BitVec 32) (k0_hw12 : k0_chk12 i v201 v203) (k0_t24 : Fin (k0_t24_loop v201 v203).trips), ∀ (k0_h32 : k0_cond32 i = 1#1), ∀ (k0_h37 : k0_cond37 v201 v203 = 1#1), ∀ (k0_h38 : k0_cond38 i v201 v203 = 1#1), ∀ a, (k0_off84 v201 v203 k0_t24) a + S1x512.size a ≤ S136x512.size a := fun i v201 v203 k0_hw12 k0_t24 k0_h32 k0_h37 k0_h38 => k0_hw12.2.2.2.2.2.2 k0_t24 k0_h32 k0_h37 k0_h38

def k0_off85 : Fin 2 → Nat :=
  let c49_i32_127 : BitVec 32 := 49#32
  let c5_i32_128 : BitVec 32 := 5#32
  let v213 : BitVec 32 := Scalar.muli c49_i32_127 c5_i32_128
  let c2_i32_129 : BitVec 32 := 2#32
  let v214 : BitVec 32 := Scalar.addi v213 c2_i32_129
  let v215 : Index := Scalar.indexCast v214
  let c0_130 : Index := 0#32
  ![v215.toNat, 0]
def k0_off86 : Fin 2 → Nat :=
  let c49_i32_127 : BitVec 32 := 49#32
  let c5_i32_128 : BitVec 32 := 5#32
  let v213 : BitVec 32 := Scalar.muli c49_i32_127 c5_i32_128
  let c2_i32_129 : BitVec 32 := 2#32
  let v214 : BitVec 32 := Scalar.addi v213 c2_i32_129
  let v217 : Index := Scalar.indexCast v214
  let c1_131 : Index := 1#32
  ![v217.toNat, 1]
def k0_off87 (i : grid0.Coords) (v216 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_132 : BitVec 32 := 128#32
  let v219 : BitVec 32 := Scalar.select v178 v216 c128_i32_132
  let v282 : Index := Scalar.indexCast v219
  let c0_170 : Index := 0#32
  ![v282.toNat, 0]
def k0_cond39 (v216 : BitVec 32) (v218 : BitVec 32) : BitVec 1 :=
  let v220 : BitVec 1 := Scalar.cmpi .eq v216 v218
  let v221 : BitVec 32 := Scalar.extui v220
  let c0_i32_133 : BitVec 32 := 0#32
  let v222 : BitVec 1 := Scalar.cmpi .ne v221 c0_i32_133
  v222

def k0_off88 (i : grid0.Coords) (v216 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_132 : BitVec 32 := 128#32
  let v219 : BitVec 32 := Scalar.select v178 v216 c128_i32_132
  let v297 : Index := Scalar.indexCast v219
  let c0_174 : Index := 0#32
  ![v297.toNat, 0]
def k0_cond40 (v216 : BitVec 32) (v218 : BitVec 32) : BitVec 1 :=
  let v223 : BitVec 1 := Scalar.cmpi .ne v216 v218
  let v224 : BitVec 32 := Scalar.extui v223
  let c0_i32_134 : BitVec 32 := 0#32
  let v225 : BitVec 1 := Scalar.cmpi .ne v224 c0_i32_134
  v225

def k0_off89 (i : grid0.Coords) (v218 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_173 : BitVec 32 := 128#32
  let v296 : BitVec 32 := Scalar.select v178 v218 c128_i32_173
  let v304 : Index := Scalar.indexCast v296
  let c0_176 : Index := 0#32
  ![v304.toNat, 0]
@[reducible] def k0_t25_loop (v216 : BitVec 32) (v218 : BitVec 32) : Scf.Loop 32 :=
  let c1_i32_180 : BitVec 32 := 1#32
  let v316 : BitVec 32 := Scalar.addi v216 c1_i32_180
  let v317 : BitVec 32 := Scalar.subi v218 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_183 : BitVec 32 := 1#32
  ⟨v316, v321, c1_i32_183⟩
def k0_cond41 (i : grid0.Coords) (v216 : BitVec 32) (v218 : BitVec 32) : BitVec 1 :=
  let arg0 : BitVec 32 := BitVec.ofNat 32 (i 0).val
  let c0_i32_103 : BitVec 32 := 0#32
  let v178 : BitVec 1 := Scalar.cmpi .sge arg0 c0_i32_103
  let c1_i32_178 : BitVec 32 := 1#32
  let v311 : BitVec 32 := Scalar.addi v216 c1_i32_178
  let v312 : BitVec 1 := Scalar.cmpi .sgt v218 v311
  let v313 : BitVec 1 := Scalar.andi v178 v312
  let v314 : BitVec 32 := Scalar.extui v313
  let c0_i32_179 : BitVec 32 := 0#32
  let v315 : BitVec 1 := Scalar.cmpi .ne v314 c0_i32_179
  v315

def k0_off90 (v216 : BitVec 32) (v218 : BitVec 32) (k0_t25 : Fin (k0_t25_loop v216 v218).trips) : Fin 2 → Nat :=
  let c1_i32_180 : BitVec 32 := 1#32
  let v316 : BitVec 32 := Scalar.addi v216 c1_i32_180
  let c1_i32_183 : BitVec 32 := 1#32
  let arg15 : BitVec 32 := Scf.iv v316 c1_i32_183 k0_t25
  let v330 : Index := Scalar.indexCast arg15
  let c0_187 : Index := 0#32
  ![v330.toNat, 0]
@[reducible] def k0_t26_loop (v216 : BitVec 32) (v218 : BitVec 32) : Scf.Loop 32 :=
  let c1_i32_180 : BitVec 32 := 1#32
  let v316 : BitVec 32 := Scalar.addi v216 c1_i32_180
  let v317 : BitVec 32 := Scalar.subi v218 v316
  let c1_i32_182 : BitVec 32 := 1#32
  let v319 : BitVec 32 := Scalar.divsi v317 c1_i32_182
  let v320 : BitVec 32 := Scalar.muli v319 c1_i32_182
  let v321 : BitVec 32 := Scalar.addi v316 v320
  let v318 : BitVec 32 := Scalar.addi v316 v317
  let c1_i32_184 : BitVec 32 := 1#32
  ⟨v321, v318, c1_i32_184⟩
def k0_off91 (v216 : BitVec 32) (v218 : BitVec 32) (k0_t26 : Fin (k0_t26_loop v216 v218).trips) : Fin 2 → Nat :=
  let c1_i32_180 : BitVec 32 := 1#32
  let v316 : BitVec 32 := Scalar.addi v216 c1_i32_180
  let v317 : BitVec 32 := Scalar.subi v218 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_184 : BitVec 32 := 1#32
  let arg15 : BitVec 32 := Scf.iv v321 c1_i32_184 k0_t26
  let v330 : Index := Scalar.indexCast arg15
  let c0_187 : Index := 0#32
  ![v330.toNat, 0]

def k0_chk13 (i : grid0.Coords) (v216 : BitVec 32) (v218 : BitVec 32) : Prop :=
  (∀ (k0_h32 : k0_cond32 i = 1#1), ∀ (k0_h39 : k0_cond39 v216 v218 = 1#1), ∀ a, (k0_off87 i v216) a + S1x512.size a ≤ S136x512.size a) ∧
  (∀ (k0_h32 : k0_cond32 i = 1#1), ∀ (k0_h40 : k0_cond40 v216 v218 = 1#1), ∀ a, (k0_off88 i v216) a + S1x512.size a ≤ S136x512.size a) ∧
  (∀ (k0_h32 : k0_cond32 i = 1#1), ∀ (k0_h40 : k0_cond40 v216 v218 = 1#1), ∀ a, (k0_off89 i v218) a + S1x512.size a ≤ S136x512.size a) ∧
  (∀ (k0_h32 : k0_cond32 i = 1#1), ∀ (k0_h40 : k0_cond40 v216 v218 = 1#1), ∀ (k0_h41 : k0_cond41 i v216 v218 = 1#1), (k0_t25_loop v216 v218).OK) ∧
  (∀ k0_t25 : Fin (k0_t25_loop v216 v218).trips, ∀ (k0_h32 : k0_cond32 i = 1#1), ∀ (k0_h40 : k0_cond40 v216 v218 = 1#1), ∀ (k0_h41 : k0_cond41 i v216 v218 = 1#1), ∀ a, (k0_off90 v216 v218 k0_t25) a + S1x512.size a ≤ S136x512.size a) ∧
  (∀ (k0_h32 : k0_cond32 i = 1#1), ∀ (k0_h40 : k0_cond40 v216 v218 = 1#1), ∀ (k0_h41 : k0_cond41 i v216 v218 = 1#1), (k0_t26_loop v216 v218).OK) ∧
  (∀ k0_t26 : Fin (k0_t26_loop v216 v218).trips, ∀ (k0_h32 : k0_cond32 i = 1#1), ∀ (k0_h40 : k0_cond40 v216 v218 = 1#1), ∀ (k0_h41 : k0_cond41 i v216 v218 = 1#1), ∀ a, (k0_off91 v216 v218 k0_t26) a + S1x512.size a ≤ S136x512.size a)
theorem k0_off87_inb : ∀ (i : grid0.Coords) (v216 : BitVec 32) (v218 : BitVec 32) (k0_hw13 : k0_chk13 i v216 v218), ∀ (k0_h32 : k0_cond32 i = 1#1), ∀ (k0_h39 : k0_cond39 v216 v218 = 1#1), ∀ a, (k0_off87 i v216) a + S1x512.size a ≤ S136x512.size a := fun i v216 v218 k0_hw13 k0_h32 k0_h39 => k0_hw13.1 k0_h32 k0_h39
theorem k0_off88_inb : ∀ (i : grid0.Coords) (v216 : BitVec 32) (v218 : BitVec 32) (k0_hw13 : k0_chk13 i v216 v218), ∀ (k0_h32 : k0_cond32 i = 1#1), ∀ (k0_h40 : k0_cond40 v216 v218 = 1#1), ∀ a, (k0_off88 i v216) a + S1x512.size a ≤ S136x512.size a := fun i v216 v218 k0_hw13 k0_h32 k0_h40 => k0_hw13.2.1 k0_h32 k0_h40
theorem k0_off89_inb : ∀ (i : grid0.Coords) (v216 : BitVec 32) (v218 : BitVec 32) (k0_hw13 : k0_chk13 i v216 v218), ∀ (k0_h32 : k0_cond32 i = 1#1), ∀ (k0_h40 : k0_cond40 v216 v218 = 1#1), ∀ a, (k0_off89 i v218) a + S1x512.size a ≤ S136x512.size a := fun i v216 v218 k0_hw13 k0_h32 k0_h40 => k0_hw13.2.2.1 k0_h32 k0_h40
theorem k0_t25_ok : ∀ (i : grid0.Coords) (v216 : BitVec 32) (v218 : BitVec 32) (k0_hw13 : k0_chk13 i v216 v218), ∀ (k0_h32 : k0_cond32 i = 1#1), ∀ (k0_h40 : k0_cond40 v216 v218 = 1#1), ∀ (k0_h41 : k0_cond41 i v216 v218 = 1#1), (k0_t25_loop v216 v218).OK := fun i v216 v218 k0_hw13 k0_h32 k0_h40 k0_h41 => k0_hw13.2.2.2.1 k0_h32 k0_h40 k0_h41
theorem k0_off90_inb : ∀ (i : grid0.Coords) (v216 : BitVec 32) (v218 : BitVec 32) (k0_hw13 : k0_chk13 i v216 v218) (k0_t25 : Fin (k0_t25_loop v216 v218).trips), ∀ (k0_h32 : k0_cond32 i = 1#1), ∀ (k0_h40 : k0_cond40 v216 v218 = 1#1), ∀ (k0_h41 : k0_cond41 i v216 v218 = 1#1), ∀ a, (k0_off90 v216 v218 k0_t25) a + S1x512.size a ≤ S136x512.size a := fun i v216 v218 k0_hw13 k0_t25 k0_h32 k0_h40 k0_h41 => k0_hw13.2.2.2.2.1 k0_t25 k0_h32 k0_h40 k0_h41
theorem k0_t26_ok : ∀ (i : grid0.Coords) (v216 : BitVec 32) (v218 : BitVec 32) (k0_hw13 : k0_chk13 i v216 v218), ∀ (k0_h32 : k0_cond32 i = 1#1), ∀ (k0_h40 : k0_cond40 v216 v218 = 1#1), ∀ (k0_h41 : k0_cond41 i v216 v218 = 1#1), (k0_t26_loop v216 v218).OK := fun i v216 v218 k0_hw13 k0_h32 k0_h40 k0_h41 => k0_hw13.2.2.2.2.2.1 k0_h32 k0_h40 k0_h41
theorem k0_off91_inb : ∀ (i : grid0.Coords) (v216 : BitVec 32) (v218 : BitVec 32) (k0_hw13 : k0_chk13 i v216 v218) (k0_t26 : Fin (k0_t26_loop v216 v218).trips), ∀ (k0_h32 : k0_cond32 i = 1#1), ∀ (k0_h40 : k0_cond40 v216 v218 = 1#1), ∀ (k0_h41 : k0_cond41 i v216 v218 = 1#1), ∀ a, (k0_off91 v216 v218 k0_t26) a + S1x512.size a ≤ S136x512.size a := fun i v216 v218 k0_hw13 k0_t26 k0_h32 k0_h40 k0_h41 => k0_hw13.2.2.2.2.2.2 k0_t26 k0_h32 k0_h40 k0_h41

def k0_off92 : Fin 2 → Nat :=
  let c49_i32_137 : BitVec 32 := 49#32
  let c5_i32_138 : BitVec 32 := 5#32
  let v228 : BitVec 32 := Scalar.muli c49_i32_137 c5_i32_138
  let c3_i32_139 : BitVec 32 := 3#32
  let v229 : BitVec 32 := Scalar.addi v228 c3_i32_139
  let v230 : Index := Scalar.indexCast v229
  let c0_140 : Index := 0#32
  ![v230.toNat, 0]
def k0_off93 : Fin 2 → Nat :=
  let c49_i32_137 : BitVec 32 := 49#32
  let c5_i32_138 : BitVec 32 := 5#32
  let v228 : BitVec 32 := Scalar.muli c49_i32_137 c5_i32_138
  let c3_i32_139 : BitVec 32 := 3#32
  let v229 : BitVec 32 := Scalar.addi v228 c3_i32_139
  let v232 : Index := Scalar.indexCast v229
  let c1_141 : Index := 1#32
  ![v232.toNat, 1]
def k0_off94 (i : grid0.Coords) (v231 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_142 : BitVec 32 := 128#32
  let v234 : BitVec 32 := Scalar.select v178 v231 c128_i32_142
  let v282 : Index := Scalar.indexCast v234
  let c0_170 : Index := 0#32
  ![v282.toNat, 0]
def k0_cond42 (v231 : BitVec 32) (v233 : BitVec 32) : BitVec 1 :=
  let v235 : BitVec 1 := Scalar.cmpi .eq v231 v233
  let v236 : BitVec 32 := Scalar.extui v235
  let c0_i32_143 : BitVec 32 := 0#32
  let v237 : BitVec 1 := Scalar.cmpi .ne v236 c0_i32_143
  v237

def k0_off95 (i : grid0.Coords) (v231 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_142 : BitVec 32 := 128#32
  let v234 : BitVec 32 := Scalar.select v178 v231 c128_i32_142
  let v297 : Index := Scalar.indexCast v234
  let c0_174 : Index := 0#32
  ![v297.toNat, 0]
def k0_cond43 (v231 : BitVec 32) (v233 : BitVec 32) : BitVec 1 :=
  let v238 : BitVec 1 := Scalar.cmpi .ne v231 v233
  let v239 : BitVec 32 := Scalar.extui v238
  let c0_i32_144 : BitVec 32 := 0#32
  let v240 : BitVec 1 := Scalar.cmpi .ne v239 c0_i32_144
  v240

def k0_off96 (i : grid0.Coords) (v233 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_173 : BitVec 32 := 128#32
  let v296 : BitVec 32 := Scalar.select v178 v233 c128_i32_173
  let v304 : Index := Scalar.indexCast v296
  let c0_176 : Index := 0#32
  ![v304.toNat, 0]
@[reducible] def k0_t27_loop (v231 : BitVec 32) (v233 : BitVec 32) : Scf.Loop 32 :=
  let c1_i32_180 : BitVec 32 := 1#32
  let v316 : BitVec 32 := Scalar.addi v231 c1_i32_180
  let v317 : BitVec 32 := Scalar.subi v233 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_183 : BitVec 32 := 1#32
  ⟨v316, v321, c1_i32_183⟩
def k0_cond44 (i : grid0.Coords) (v231 : BitVec 32) (v233 : BitVec 32) : BitVec 1 :=
  let arg0 : BitVec 32 := BitVec.ofNat 32 (i 0).val
  let c0_i32_103 : BitVec 32 := 0#32
  let v178 : BitVec 1 := Scalar.cmpi .sge arg0 c0_i32_103
  let c1_i32_178 : BitVec 32 := 1#32
  let v311 : BitVec 32 := Scalar.addi v231 c1_i32_178
  let v312 : BitVec 1 := Scalar.cmpi .sgt v233 v311
  let v313 : BitVec 1 := Scalar.andi v178 v312
  let v314 : BitVec 32 := Scalar.extui v313
  let c0_i32_179 : BitVec 32 := 0#32
  let v315 : BitVec 1 := Scalar.cmpi .ne v314 c0_i32_179
  v315

def k0_off97 (v231 : BitVec 32) (v233 : BitVec 32) (k0_t27 : Fin (k0_t27_loop v231 v233).trips) : Fin 2 → Nat :=
  let c1_i32_180 : BitVec 32 := 1#32
  let v316 : BitVec 32 := Scalar.addi v231 c1_i32_180
  let c1_i32_183 : BitVec 32 := 1#32
  let arg15 : BitVec 32 := Scf.iv v316 c1_i32_183 k0_t27
  let v330 : Index := Scalar.indexCast arg15
  let c0_187 : Index := 0#32
  ![v330.toNat, 0]
@[reducible] def k0_t28_loop (v231 : BitVec 32) (v233 : BitVec 32) : Scf.Loop 32 :=
  let c1_i32_180 : BitVec 32 := 1#32
  let v316 : BitVec 32 := Scalar.addi v231 c1_i32_180
  let v317 : BitVec 32 := Scalar.subi v233 v316
  let c1_i32_182 : BitVec 32 := 1#32
  let v319 : BitVec 32 := Scalar.divsi v317 c1_i32_182
  let v320 : BitVec 32 := Scalar.muli v319 c1_i32_182
  let v321 : BitVec 32 := Scalar.addi v316 v320
  let v318 : BitVec 32 := Scalar.addi v316 v317
  let c1_i32_184 : BitVec 32 := 1#32
  ⟨v321, v318, c1_i32_184⟩
def k0_off98 (v231 : BitVec 32) (v233 : BitVec 32) (k0_t28 : Fin (k0_t28_loop v231 v233).trips) : Fin 2 → Nat :=
  let c1_i32_180 : BitVec 32 := 1#32
  let v316 : BitVec 32 := Scalar.addi v231 c1_i32_180
  let v317 : BitVec 32 := Scalar.subi v233 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_184 : BitVec 32 := 1#32
  let arg15 : BitVec 32 := Scf.iv v321 c1_i32_184 k0_t28
  let v330 : Index := Scalar.indexCast arg15
  let c0_187 : Index := 0#32
  ![v330.toNat, 0]

def k0_chk14 (i : grid0.Coords) (v231 : BitVec 32) (v233 : BitVec 32) : Prop :=
  (∀ (k0_h32 : k0_cond32 i = 1#1), ∀ (k0_h42 : k0_cond42 v231 v233 = 1#1), ∀ a, (k0_off94 i v231) a + S1x512.size a ≤ S136x512.size a) ∧
  (∀ (k0_h32 : k0_cond32 i = 1#1), ∀ (k0_h43 : k0_cond43 v231 v233 = 1#1), ∀ a, (k0_off95 i v231) a + S1x512.size a ≤ S136x512.size a) ∧
  (∀ (k0_h32 : k0_cond32 i = 1#1), ∀ (k0_h43 : k0_cond43 v231 v233 = 1#1), ∀ a, (k0_off96 i v233) a + S1x512.size a ≤ S136x512.size a) ∧
  (∀ (k0_h32 : k0_cond32 i = 1#1), ∀ (k0_h43 : k0_cond43 v231 v233 = 1#1), ∀ (k0_h44 : k0_cond44 i v231 v233 = 1#1), (k0_t27_loop v231 v233).OK) ∧
  (∀ k0_t27 : Fin (k0_t27_loop v231 v233).trips, ∀ (k0_h32 : k0_cond32 i = 1#1), ∀ (k0_h43 : k0_cond43 v231 v233 = 1#1), ∀ (k0_h44 : k0_cond44 i v231 v233 = 1#1), ∀ a, (k0_off97 v231 v233 k0_t27) a + S1x512.size a ≤ S136x512.size a) ∧
  (∀ (k0_h32 : k0_cond32 i = 1#1), ∀ (k0_h43 : k0_cond43 v231 v233 = 1#1), ∀ (k0_h44 : k0_cond44 i v231 v233 = 1#1), (k0_t28_loop v231 v233).OK) ∧
  (∀ k0_t28 : Fin (k0_t28_loop v231 v233).trips, ∀ (k0_h32 : k0_cond32 i = 1#1), ∀ (k0_h43 : k0_cond43 v231 v233 = 1#1), ∀ (k0_h44 : k0_cond44 i v231 v233 = 1#1), ∀ a, (k0_off98 v231 v233 k0_t28) a + S1x512.size a ≤ S136x512.size a)
theorem k0_off94_inb : ∀ (i : grid0.Coords) (v231 : BitVec 32) (v233 : BitVec 32) (k0_hw14 : k0_chk14 i v231 v233), ∀ (k0_h32 : k0_cond32 i = 1#1), ∀ (k0_h42 : k0_cond42 v231 v233 = 1#1), ∀ a, (k0_off94 i v231) a + S1x512.size a ≤ S136x512.size a := fun i v231 v233 k0_hw14 k0_h32 k0_h42 => k0_hw14.1 k0_h32 k0_h42
theorem k0_off95_inb : ∀ (i : grid0.Coords) (v231 : BitVec 32) (v233 : BitVec 32) (k0_hw14 : k0_chk14 i v231 v233), ∀ (k0_h32 : k0_cond32 i = 1#1), ∀ (k0_h43 : k0_cond43 v231 v233 = 1#1), ∀ a, (k0_off95 i v231) a + S1x512.size a ≤ S136x512.size a := fun i v231 v233 k0_hw14 k0_h32 k0_h43 => k0_hw14.2.1 k0_h32 k0_h43
theorem k0_off96_inb : ∀ (i : grid0.Coords) (v231 : BitVec 32) (v233 : BitVec 32) (k0_hw14 : k0_chk14 i v231 v233), ∀ (k0_h32 : k0_cond32 i = 1#1), ∀ (k0_h43 : k0_cond43 v231 v233 = 1#1), ∀ a, (k0_off96 i v233) a + S1x512.size a ≤ S136x512.size a := fun i v231 v233 k0_hw14 k0_h32 k0_h43 => k0_hw14.2.2.1 k0_h32 k0_h43
theorem k0_t27_ok : ∀ (i : grid0.Coords) (v231 : BitVec 32) (v233 : BitVec 32) (k0_hw14 : k0_chk14 i v231 v233), ∀ (k0_h32 : k0_cond32 i = 1#1), ∀ (k0_h43 : k0_cond43 v231 v233 = 1#1), ∀ (k0_h44 : k0_cond44 i v231 v233 = 1#1), (k0_t27_loop v231 v233).OK := fun i v231 v233 k0_hw14 k0_h32 k0_h43 k0_h44 => k0_hw14.2.2.2.1 k0_h32 k0_h43 k0_h44
theorem k0_off97_inb : ∀ (i : grid0.Coords) (v231 : BitVec 32) (v233 : BitVec 32) (k0_hw14 : k0_chk14 i v231 v233) (k0_t27 : Fin (k0_t27_loop v231 v233).trips), ∀ (k0_h32 : k0_cond32 i = 1#1), ∀ (k0_h43 : k0_cond43 v231 v233 = 1#1), ∀ (k0_h44 : k0_cond44 i v231 v233 = 1#1), ∀ a, (k0_off97 v231 v233 k0_t27) a + S1x512.size a ≤ S136x512.size a := fun i v231 v233 k0_hw14 k0_t27 k0_h32 k0_h43 k0_h44 => k0_hw14.2.2.2.2.1 k0_t27 k0_h32 k0_h43 k0_h44
theorem k0_t28_ok : ∀ (i : grid0.Coords) (v231 : BitVec 32) (v233 : BitVec 32) (k0_hw14 : k0_chk14 i v231 v233), ∀ (k0_h32 : k0_cond32 i = 1#1), ∀ (k0_h43 : k0_cond43 v231 v233 = 1#1), ∀ (k0_h44 : k0_cond44 i v231 v233 = 1#1), (k0_t28_loop v231 v233).OK := fun i v231 v233 k0_hw14 k0_h32 k0_h43 k0_h44 => k0_hw14.2.2.2.2.2.1 k0_h32 k0_h43 k0_h44
theorem k0_off98_inb : ∀ (i : grid0.Coords) (v231 : BitVec 32) (v233 : BitVec 32) (k0_hw14 : k0_chk14 i v231 v233) (k0_t28 : Fin (k0_t28_loop v231 v233).trips), ∀ (k0_h32 : k0_cond32 i = 1#1), ∀ (k0_h43 : k0_cond43 v231 v233 = 1#1), ∀ (k0_h44 : k0_cond44 i v231 v233 = 1#1), ∀ a, (k0_off98 v231 v233 k0_t28) a + S1x512.size a ≤ S136x512.size a := fun i v231 v233 k0_hw14 k0_t28 k0_h32 k0_h43 k0_h44 => k0_hw14.2.2.2.2.2.2 k0_t28 k0_h32 k0_h43 k0_h44

def k0_off99 : Fin 2 → Nat :=
  let c49_i32_147 : BitVec 32 := 49#32
  let c5_i32_148 : BitVec 32 := 5#32
  let v243 : BitVec 32 := Scalar.muli c49_i32_147 c5_i32_148
  let c4_i32_149 : BitVec 32 := 4#32
  let v244 : BitVec 32 := Scalar.addi v243 c4_i32_149
  let v245 : Index := Scalar.indexCast v244
  let c0_150 : Index := 0#32
  ![v245.toNat, 0]
def k0_off100 : Fin 2 → Nat :=
  let c49_i32_147 : BitVec 32 := 49#32
  let c5_i32_148 : BitVec 32 := 5#32
  let v243 : BitVec 32 := Scalar.muli c49_i32_147 c5_i32_148
  let c4_i32_149 : BitVec 32 := 4#32
  let v244 : BitVec 32 := Scalar.addi v243 c4_i32_149
  let v247 : Index := Scalar.indexCast v244
  let c1_151 : Index := 1#32
  ![v247.toNat, 1]
def k0_off101 (i : grid0.Coords) (v246 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_152 : BitVec 32 := 128#32
  let v249 : BitVec 32 := Scalar.select v178 v246 c128_i32_152
  let v282 : Index := Scalar.indexCast v249
  let c0_170 : Index := 0#32
  ![v282.toNat, 0]
def k0_cond45 (v246 : BitVec 32) (v248 : BitVec 32) : BitVec 1 :=
  let v250 : BitVec 1 := Scalar.cmpi .eq v246 v248
  let v251 : BitVec 32 := Scalar.extui v250
  let c0_i32_153 : BitVec 32 := 0#32
  let v252 : BitVec 1 := Scalar.cmpi .ne v251 c0_i32_153
  v252

def k0_off102 (i : grid0.Coords) (v246 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_152 : BitVec 32 := 128#32
  let v249 : BitVec 32 := Scalar.select v178 v246 c128_i32_152
  let v297 : Index := Scalar.indexCast v249
  let c0_174 : Index := 0#32
  ![v297.toNat, 0]
def k0_cond46 (v246 : BitVec 32) (v248 : BitVec 32) : BitVec 1 :=
  let v253 : BitVec 1 := Scalar.cmpi .ne v246 v248
  let v254 : BitVec 32 := Scalar.extui v253
  let c0_i32_154 : BitVec 32 := 0#32
  let v255 : BitVec 1 := Scalar.cmpi .ne v254 c0_i32_154
  v255

def k0_off103 (i : grid0.Coords) (v248 : BitVec 32) : Fin 2 → Nat :=
  let arg0 : BitVec 32 := BitVec.ofNat 32 (i 0).val
  let c0_i32_103 : BitVec 32 := 0#32
  let v178 : BitVec 1 := Scalar.cmpi .sge arg0 c0_i32_103
  let c128_i32_173 : BitVec 32 := 128#32
  let v296 : BitVec 32 := Scalar.select v178 v248 c128_i32_173
  let v304 : Index := Scalar.indexCast v296
  let c0_176 : Index := 0#32
  ![v304.toNat, 0]
@[reducible] def k0_t29_loop (v246 : BitVec 32) (v248 : BitVec 32) : Scf.Loop 32 :=
  let c1_i32_180 : BitVec 32 := 1#32
  let v316 : BitVec 32 := Scalar.addi v246 c1_i32_180
  let v317 : BitVec 32 := Scalar.subi v248 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_183 : BitVec 32 := 1#32
  ⟨v316, v321, c1_i32_183⟩
def k0_cond47 (i : grid0.Coords) (v246 : BitVec 32) (v248 : BitVec 32) : BitVec 1 :=
  let arg0 : BitVec 32 := BitVec.ofNat 32 (i 0).val
  let c0_i32_103 : BitVec 32 := 0#32
  let v178 : BitVec 1 := Scalar.cmpi .sge arg0 c0_i32_103
  let c1_i32_178 : BitVec 32 := 1#32
  let v311 : BitVec 32 := Scalar.addi v246 c1_i32_178
  let v312 : BitVec 1 := Scalar.cmpi .sgt v248 v311
  let v313 : BitVec 1 := Scalar.andi v178 v312
  let v314 : BitVec 32 := Scalar.extui v313
  let c0_i32_179 : BitVec 32 := 0#32
  let v315 : BitVec 1 := Scalar.cmpi .ne v314 c0_i32_179
  v315

def k0_off104 (v246 : BitVec 32) (v248 : BitVec 32) (k0_t29 : Fin (k0_t29_loop v246 v248).trips) : Fin 2 → Nat :=
  let c1_i32_180 : BitVec 32 := 1#32
  let v316 : BitVec 32 := Scalar.addi v246 c1_i32_180
  let c1_i32_183 : BitVec 32 := 1#32
  let arg15 : BitVec 32 := Scf.iv v316 c1_i32_183 k0_t29
  let v330 : Index := Scalar.indexCast arg15
  let c0_187 : Index := 0#32
  ![v330.toNat, 0]
@[reducible] def k0_t30_loop (v246 : BitVec 32) (v248 : BitVec 32) : Scf.Loop 32 :=
  let c1_i32_180 : BitVec 32 := 1#32
  let v316 : BitVec 32 := Scalar.addi v246 c1_i32_180
  let v317 : BitVec 32 := Scalar.subi v248 v316
  let c1_i32_182 : BitVec 32 := 1#32
  let v319 : BitVec 32 := Scalar.divsi v317 c1_i32_182
  let v320 : BitVec 32 := Scalar.muli v319 c1_i32_182
  let v321 : BitVec 32 := Scalar.addi v316 v320
  let v318 : BitVec 32 := Scalar.addi v316 v317
  let c1_i32_184 : BitVec 32 := 1#32
  ⟨v321, v318, c1_i32_184⟩
def k0_off105 (v246 : BitVec 32) (v248 : BitVec 32) (k0_t30 : Fin (k0_t30_loop v246 v248).trips) : Fin 2 → Nat :=
  let c1_i32_180 : BitVec 32 := 1#32
  let v316 : BitVec 32 := Scalar.addi v246 c1_i32_180
  let v317 : BitVec 32 := Scalar.subi v248 v316
  let c1_i32_182 : BitVec 32 := 1#32
  let v319 : BitVec 32 := Scalar.divsi v317 c1_i32_182
  let v320 : BitVec 32 := Scalar.muli v319 c1_i32_182
  let v321 : BitVec 32 := Scalar.addi v316 v320
  let c1_i32_184 : BitVec 32 := 1#32
  let arg15 : BitVec 32 := Scf.iv v321 c1_i32_184 k0_t30
  let v330 : Index := Scalar.indexCast arg15
  let c0_187 : Index := 0#32
  ![v330.toNat, 0]

def k0_chk15 (i : grid0.Coords) (v246 : BitVec 32) (v248 : BitVec 32) : Prop :=
  (∀ (k0_h32 : k0_cond32 i = 1#1), ∀ (k0_h45 : k0_cond45 v246 v248 = 1#1), ∀ a, (k0_off101 i v246) a + S1x512.size a ≤ S136x512.size a) ∧
  (∀ (k0_h32 : k0_cond32 i = 1#1), ∀ (k0_h46 : k0_cond46 v246 v248 = 1#1), ∀ a, (k0_off102 i v246) a + S1x512.size a ≤ S136x512.size a) ∧
  (∀ (k0_h32 : k0_cond32 i = 1#1), ∀ (k0_h46 : k0_cond46 v246 v248 = 1#1), ∀ a, (k0_off103 i v248) a + S1x512.size a ≤ S136x512.size a) ∧
  (∀ (k0_h32 : k0_cond32 i = 1#1), ∀ (k0_h46 : k0_cond46 v246 v248 = 1#1), ∀ (k0_h47 : k0_cond47 i v246 v248 = 1#1), (k0_t29_loop v246 v248).OK) ∧
  (∀ k0_t29 : Fin (k0_t29_loop v246 v248).trips, ∀ (k0_h32 : k0_cond32 i = 1#1), ∀ (k0_h46 : k0_cond46 v246 v248 = 1#1), ∀ (k0_h47 : k0_cond47 i v246 v248 = 1#1), ∀ a, (k0_off104 v246 v248 k0_t29) a + S1x512.size a ≤ S136x512.size a) ∧
  (∀ (k0_h32 : k0_cond32 i = 1#1), ∀ (k0_h46 : k0_cond46 v246 v248 = 1#1), ∀ (k0_h47 : k0_cond47 i v246 v248 = 1#1), (k0_t30_loop v246 v248).OK) ∧
  (∀ k0_t30 : Fin (k0_t30_loop v246 v248).trips, ∀ (k0_h32 : k0_cond32 i = 1#1), ∀ (k0_h46 : k0_cond46 v246 v248 = 1#1), ∀ (k0_h47 : k0_cond47 i v246 v248 = 1#1), ∀ a, (k0_off105 v246 v248 k0_t30) a + S1x512.size a ≤ S136x512.size a)
theorem k0_off101_inb : ∀ (i : grid0.Coords) (v246 : BitVec 32) (v248 : BitVec 32) (k0_hw15 : k0_chk15 i v246 v248), ∀ (k0_h32 : k0_cond32 i = 1#1), ∀ (k0_h45 : k0_cond45 v246 v248 = 1#1), ∀ a, (k0_off101 i v246) a + S1x512.size a ≤ S136x512.size a := fun i v246 v248 k0_hw15 k0_h32 k0_h45 => k0_hw15.1 k0_h32 k0_h45
theorem k0_off102_inb : ∀ (i : grid0.Coords) (v246 : BitVec 32) (v248 : BitVec 32) (k0_hw15 : k0_chk15 i v246 v248), ∀ (k0_h32 : k0_cond32 i = 1#1), ∀ (k0_h46 : k0_cond46 v246 v248 = 1#1), ∀ a, (k0_off102 i v246) a + S1x512.size a ≤ S136x512.size a := fun i v246 v248 k0_hw15 k0_h32 k0_h46 => k0_hw15.2.1 k0_h32 k0_h46
theorem k0_off103_inb : ∀ (i : grid0.Coords) (v246 : BitVec 32) (v248 : BitVec 32) (k0_hw15 : k0_chk15 i v246 v248), ∀ (k0_h32 : k0_cond32 i = 1#1), ∀ (k0_h46 : k0_cond46 v246 v248 = 1#1), ∀ a, (k0_off103 i v248) a + S1x512.size a ≤ S136x512.size a := fun i v246 v248 k0_hw15 k0_h32 k0_h46 => k0_hw15.2.2.1 k0_h32 k0_h46
theorem k0_t29_ok : ∀ (i : grid0.Coords) (v246 : BitVec 32) (v248 : BitVec 32) (k0_hw15 : k0_chk15 i v246 v248), ∀ (k0_h32 : k0_cond32 i = 1#1), ∀ (k0_h46 : k0_cond46 v246 v248 = 1#1), ∀ (k0_h47 : k0_cond47 i v246 v248 = 1#1), (k0_t29_loop v246 v248).OK := fun i v246 v248 k0_hw15 k0_h32 k0_h46 k0_h47 => k0_hw15.2.2.2.1 k0_h32 k0_h46 k0_h47
theorem k0_off104_inb : ∀ (i : grid0.Coords) (v246 : BitVec 32) (v248 : BitVec 32) (k0_hw15 : k0_chk15 i v246 v248) (k0_t29 : Fin (k0_t29_loop v246 v248).trips), ∀ (k0_h32 : k0_cond32 i = 1#1), ∀ (k0_h46 : k0_cond46 v246 v248 = 1#1), ∀ (k0_h47 : k0_cond47 i v246 v248 = 1#1), ∀ a, (k0_off104 v246 v248 k0_t29) a + S1x512.size a ≤ S136x512.size a := fun i v246 v248 k0_hw15 k0_t29 k0_h32 k0_h46 k0_h47 => k0_hw15.2.2.2.2.1 k0_t29 k0_h32 k0_h46 k0_h47
theorem k0_t30_ok : ∀ (i : grid0.Coords) (v246 : BitVec 32) (v248 : BitVec 32) (k0_hw15 : k0_chk15 i v246 v248), ∀ (k0_h32 : k0_cond32 i = 1#1), ∀ (k0_h46 : k0_cond46 v246 v248 = 1#1), ∀ (k0_h47 : k0_cond47 i v246 v248 = 1#1), (k0_t30_loop v246 v248).OK := fun i v246 v248 k0_hw15 k0_h32 k0_h46 k0_h47 => k0_hw15.2.2.2.2.2.1 k0_h32 k0_h46 k0_h47
theorem k0_off105_inb : ∀ (i : grid0.Coords) (v246 : BitVec 32) (v248 : BitVec 32) (k0_hw15 : k0_chk15 i v246 v248) (k0_t30 : Fin (k0_t30_loop v246 v248).trips), ∀ (k0_h32 : k0_cond32 i = 1#1), ∀ (k0_h46 : k0_cond46 v246 v248 = 1#1), ∀ (k0_h47 : k0_cond47 i v246 v248 = 1#1), ∀ a, (k0_off105 v246 v248 k0_t30) a + S1x512.size a ≤ S136x512.size a := fun i v246 v248 k0_hw15 k0_t30 k0_h32 k0_h46 k0_h47 => k0_hw15.2.2.2.2.2.2 k0_t30 k0_h32 k0_h46 k0_h47

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c49_i32 : BitVec 32 := 49#32
  let v2 : BitVec 32 := Scalar.minsi v1 c49_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S50000x512 : Shape := ⟨2, ![50000, 512]⟩
abbrev S50000 : Shape := ⟨1, ![50000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S1x512 : Shape := ⟨2, ![1, 512]⟩
abbrev S_ : Shape := ⟨0, ![]⟩
abbrev S1x50000x1 : Shape := ⟨3, ![1, 50000, 1]⟩
abbrev S128x1x1 : Shape := ⟨3, ![128, 1, 1]⟩
abbrev S128x50000x1 : Shape := ⟨3, ![128, 50000, 1]⟩
abbrev S1x50000x512 : Shape := ⟨3, ![1, 50000, 512]⟩
abbrev S128x50000x512 : Shape := ⟨3, ![128, 50000, 512]⟩
abbrev S128x512 : Shape := ⟨2, ![128, 512]⟩
abbrev S128x128 : Shape := ⟨2, ![128, 128]⟩
abbrev S1x128 : Shape := ⟨2, ![1, 128]⟩
abbrev S128x1 : Shape := ⟨2, ![128, 1]⟩

abbrev nBuf : Space → Nat
  | .hbm => 47
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S50000x512, .f32⟩
  | .hbm, ⟨7, _⟩ => ⟨S1x512, .f32⟩
  | .hbm, ⟨8, _⟩ => ⟨S50000x512, .f32⟩
  | .hbm, ⟨9, _⟩ => ⟨S50000x512, .f32⟩
  | .hbm, ⟨10, _⟩ => ⟨S_, .f32⟩
  | .hbm, ⟨11, _⟩ => ⟨S50000x512, .f32⟩
  | .hbm, ⟨12, _⟩ => ⟨S50000x512, .f32⟩
  | .hbm, ⟨13, _⟩ => ⟨S1x50000x1, .i32⟩
  | .hbm, ⟨14, _⟩ => ⟨S128, .i32⟩
  | .hbm, ⟨15, _⟩ => ⟨S128x1x1, .i32⟩
  | .hbm, ⟨16, _⟩ => ⟨S128x50000x1, .i32⟩
  | .hbm, ⟨17, _⟩ => ⟨S128x50000x1, .i32⟩
  | .hbm, ⟨18, _⟩ => ⟨S128x50000x1, .i1⟩
  | .hbm, ⟨19, _⟩ => ⟨S1x50000x512, .f32⟩
  | .hbm, ⟨20, _⟩ => ⟨S_, .f32⟩
  | .hbm, ⟨21, _⟩ => ⟨S_, .f32⟩
  | .hbm, ⟨22, _⟩ => ⟨S128x50000x512, .i1⟩
  | .hbm, ⟨23, _⟩ => ⟨S128x50000x512, .f32⟩
  | .hbm, ⟨24, _⟩ => ⟨S128x50000x512, .f32⟩
  | .hbm, ⟨25, _⟩ => ⟨S128x50000x512, .f32⟩
  | .hbm, ⟨26, _⟩ => ⟨S_, .f32⟩
  | .hbm, ⟨27, _⟩ => ⟨S128x512, .f32⟩
  | .hbm, ⟨28, _⟩ => ⟨S128x128, .f32⟩
  | .hbm, ⟨29, _⟩ => ⟨S1x128, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128x1, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S128x1, .f32⟩
  | .hbm, ⟨45, _⟩ => ⟨S128x128, .f32⟩
  | .hbm, ⟨46, _⟩ => ⟨S128x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_cst : Ref sig .tc := ⟨.hbm, 32, rfl⟩
abbrev main_call2_v0 : Ref sig .tc := ⟨.hbm, 33, rfl⟩
abbrev main_call2_cst_0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_cst_1 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_v18 : Ref sig .tc := ⟨.hbm, 46, rfl⟩

abbrev nD : Nat := 1
abbrev τ : Topo := Topo.v7x

variable {F : FTy → Type} [FloatOps F]
-- ==== Proof.Chunk.lean ====
/-
  Hand-written. One chunk of the pooling stage, apart from the printed programs: a row of the pooled
  buffer is read, combined and written back, once for a chunk of one graph, and for every graph of the
  chunk otherwise.
-/
module

public import Idealize.ShloMosaic.Lib.Tactic
public import Idealize.ShloMosaic.Lib.LoopRemainder
public import Idealize.ShloMosaic.Lib.Updates.Own
public import Idealize.ShloMosaic.Lib.Updates.Memory

@[expose] public section

noncomputable section

namespace Cert.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev SPool : Shape := ⟨2, ![136, 512]⟩
abbrev SRow : Shape := ⟨2, ![1, 512]⟩

section Pure
variable {α : Type}

/-- Row `o` of the pooled buffer, as a block of one row. -/
def rowOf (P : SPool.Idx → α) (o : ℕ) (ho : o < 136) : SRow.Idx → α := fun j => P (ValueIdx.ix2 ⟨o, ho⟩ (j 1))

/-- The pooled buffer with row `o` replaced by `p` of it. -/
def updRow (o : ℕ) (p : (SRow.Idx → α) → SRow.Idx → α) (P : SPool.Idx → α) : SPool.Idx → α := fun j =>
  if h : o = (j 0).val then p (rowOf P (j 0).val (j 0).isLt) (ValueIdx.ix2 ⟨0, Nat.one_pos⟩ (j 1)) else P j

end Pure

/-! ## The values a chunk writes -/

abbrev SChunk : Shape := ⟨2, ![200, 512]⟩
abbrev SLane : Shape := ⟨1, ![512]⟩
abbrev SIds : Shape := ⟨2, ![200, 1]⟩

section Values
variable {F : FTy → Type} [FloatOps F]

/-- The maximum over the rows of a chunk, joined with a row of the pooled buffer. -/
def purePay (X : Vec F SChunk .f32) (v : Vec F SRow .f32) : Vec F SRow .f32 :=
  shapeCast SRow (maximumf v (shapeCast SRow (multiReduction .maximumf [0] SLane X 0xFF800000#32 (by decide) (.inl rfl) rfl) (by decide) : FVec F SRow .f32)) (by decide)

/-- A chunk with every row of another graph at the bottom. -/
def maskX (B : IVec SIds 32) (X : Vec F SChunk .f32) (s : BitVec 32) : Vec F SChunk .f32 :=
  select (broadcastTo SChunk (shapeCast SIds (cmpi .eq B (broadcast SIds s)) (by decide)) (by decide)) X
    (broadcast SChunk (Scalar.ofBits .f32 0xFF800000#32 : F .f32))

/-- The maximum over the rows of a chunk that belong to graph `s`, joined with a row of the pooled buffer. -/
def maskPay (B : IVec SIds 32) (X : Vec F SChunk .f32) (s : BitVec 32) (v : Vec F SRow .f32) : Vec F SRow .f32 :=
  purePay (maskX B X s) v

/-- The row a chunk's first or last graph is written to: its own while the chunk counts, a spare one otherwise. -/
def liveRow (live : BitVec 1) (s : BitVec 32) : ℕ := (Scalar.select live s 128#32).toNat
def condPure (s0 s1 : BitVec 32) : BitVec 1 := Scalar.cmpi .ne (Scalar.extui (Scalar.cmpi .eq s0 s1)) 0#32
def condMix (s0 s1 : BitVec 32) : BitVec 1 := Scalar.cmpi .ne (Scalar.extui (Scalar.cmpi .ne s0 s1)) 0#32
def condLoop (live : BitVec 1) (s0 s1 : BitVec 32) : BitVec 1 :=
  Scalar.cmpi .ne (Scalar.extui (Scalar.andi live (Scalar.cmpi .sgt s1 (Scalar.addi s0 1#32)))) 0#32
/-- The loop over the graphs between the first and the last, and the loop of no trips after it. -/
@[reducible] def loopMid (s0 s1 : BitVec 32) : Scf.Loop 32 :=
  ⟨Scalar.addi s0 1#32, Scalar.addi (Scalar.addi s0 1#32) (Scalar.muli (Scalar.divsi (Scalar.subi s1 (Scalar.addi s0 1#32)) 1#32) 1#32), 1#32⟩
@[reducible] def loopRem (s0 s1 : BitVec 32) : Scf.Loop 32 :=
  ⟨Scalar.addi (Scalar.addi s0 1#32) (Scalar.muli (Scalar.divsi (Scalar.subi s1 (Scalar.addi s0 1#32)) 1#32) 1#32), Scalar.addi (Scalar.addi s0 1#32) (Scalar.subi s1 (Scalar.addi s0 1#32)), 1#32⟩
/-- The graph of a trip of the middle loop. -/
def midId (s0 : BitVec 32) (k : ℕ) : BitVec 32 := Scf.iv (Scalar.addi s0 1#32) 1#32 k

/-- The pooled buffer after the first `n` graphs of the middle loop. -/
def midFn (B : IVec SIds 32) (X : Vec F SChunk .f32) (s0 : BitVec 32) (P : SPool.Idx → F .f32) : ℕ → SPool.Idx → F .f32
  | 0 => P
  | n + 1 => updRow (midId s0 n).toNat (maskPay B X (midId s0 n)) (midFn B X s0 P n)

/-- The pooled buffer after the branch for a chunk of one graph. -/
def pureFn (live : BitVec 1) (X : Vec F SChunk .f32) (s0 s1 : BitVec 32) (P : SPool.Idx → F .f32) : SPool.Idx → F .f32 :=
  if condPure s0 s1 = 1#1 then updRow (liveRow live s0) (purePay X) P else P

/-- The pooled buffer after the branch for a chunk of several graphs. -/
def mixFn (live : BitVec 1) (B : IVec SIds 32) (X : Vec F SChunk .f32) (s0 s1 : BitVec 32) (P : SPool.Idx → F .f32) : SPool.Idx → F .f32 :=
  if condMix s0 s1 = 1#1 then
    if condLoop live s0 s1 = 1#1 then
      midFn B X s0 (updRow (liveRow live s1) (maskPay B X s1) (updRow (liveRow live s0) (maskPay B X s0) P)) (loopMid s0 s1).trips
    else updRow (liveRow live s1) (maskPay B X s1) (updRow (liveRow live s0) (maskPay B X s0) P)
  else P

/-- The pooled buffer after a chunk. -/
def chunkFn (live : BitVec 1) (B : IVec SIds 32) (X : Vec F SChunk .f32) (s0 s1 : BitVec 32) (P : SPool.Idx → F .f32) : SPool.Idx → F .f32 :=
  mixFn live B X s0 s1 (pureFn live X s0 s1 P)

end Values

/-! ## The side conditions a chunk assumes -/

/-- What a chunk's program assumes of its first and last graph. -/
def ChunkOK (live : BitVec 1) (s0 s1 : BitVec 32) : Prop :=
  (condPure s0 s1 = 1#1 → ∀ a, (![liveRow live s0, 0] : Fin 2 → ℕ) a + SRow.size a ≤ SPool.size a) ∧
  (condMix s0 s1 = 1#1 → ∀ a, (![liveRow live s0, 0] : Fin 2 → ℕ) a + SRow.size a ≤ SPool.size a) ∧
  (condMix s0 s1 = 1#1 → ∀ a, (![liveRow live s1, 0] : Fin 2 → ℕ) a + SRow.size a ≤ SPool.size a) ∧
  (condMix s0 s1 = 1#1 → condLoop live s0 s1 = 1#1 → (loopMid s0 s1).OK) ∧
  (∀ k : Fin (loopMid s0 s1).trips, condMix s0 s1 = 1#1 → condLoop live s0 s1 = 1#1 → ∀ a, (![(midId s0 k).toNat, 0] : Fin 2 → ℕ) a + SRow.size a ≤ SPool.size a) ∧
  (condMix s0 s1 = 1#1 → condLoop live s0 s1 = 1#1 → (loopRem s0 s1).OK) ∧
  (∀ k : Fin (loopRem s0 s1).trips, condMix s0 s1 = 1#1 → condLoop live s0 s1 = 1#1 →
    ∀ a, (![(Scf.iv (Scalar.addi (Scalar.addi s0 1#32) (Scalar.muli (Scalar.divsi (Scalar.subi s1 (Scalar.addi s0 1#32)) 1#32) 1#32)) 1#32 k : BitVec 32).toNat, 0] : Fin 2 → ℕ) a + SRow.size a ≤ SPool.size a)

theorem loopMid_eq (s0 s1 : BitVec 32) : loopMid s0 s1 = ⟨s0 + 1#32, s1, 1#32⟩ := by
  unfold loopMid
  rw [Scalar.muli_divsi_one]
  simp only [Scalar.addi, Scalar.subi, IntOp.addi, IntOp.subi]
  congr 1
  rw [BitVec.add_comm, BitVec.sub_add_cancel]

theorem toInt_small {s : BitVec 32} (h : s.toNat < 1000) : s.toInt = s.toNat := by
  rw [BitVec.toInt_eq_toNat_of_lt (by omega)]

theorem toNat_succ {s : BitVec 32} (h : s.toNat < 128) : (s + 1#32).toNat = s.toNat + 1 := by
  rw [BitVec.toNat_add]; simp; omega

theorem loopMid_trips {s0 s1 : BitVec 32} (h0 : s0.toNat < 128) (h1 : s1.toNat < 128) :
    (loopMid s0 s1).trips = s1.toNat - (s0.toNat + 1) := by
  rw [loopMid_eq]
  show Scf.trips _ _ _ = _
  unfold Scf.trips
  rw [toInt_small (by omega : s1.toNat < 1000), toInt_small (by rw [toNat_succ h0]; omega : (s0 + 1#32).toNat < 1000), toNat_succ h0,
    show (1#32 : BitVec 32).toInt = 1 by decide]
  omega

theorem midId_toNat {s0 : BitVec 32} {k : ℕ} (h : s0.toNat + 1 + k < 1000) : (midId s0 k).toNat = s0.toNat + 1 + k := by
  unfold midId Scf.iv
  show (s0 + 1#32 + BitVec.ofNat 32 k * 1#32).toNat = _
  rw [BitVec.mul_one, BitVec.toNat_add, BitVec.toNat_add, BitVec.toNat_ofNat]
  simp
  omega

theorem row_inb {o : ℕ} (h : o < 136) : ∀ a, (![o, 0] : Fin 2 → ℕ) a + SRow.size a ≤ SPool.size a := fun a => by
  match a with
  | ⟨0, _⟩ => show o + 1 ≤ 136; omega
  | ⟨1, _⟩ => show 0 + 512 ≤ 512; omega

theorem liveRow_lt (live : BitVec 1) {s : BitVec 32} (h : s.toNat < 128) : liveRow live s < 136 := by
  unfold liveRow Scalar.select
  split
  · omega
  · decide

/-- Graphs below 128 meet every side condition of a chunk. -/
theorem chunkOK (live : BitVec 1) {s0 s1 : BitVec 32} (h0 : s0.toNat < 128) (h1 : s1.toNat < 128) : ChunkOK live s0 s1 := by
  refine ⟨fun _ => row_inb (liveRow_lt live h0), fun _ => row_inb (liveRow_lt live h0), fun _ => row_inb (liveRow_lt live h1), fun _ _ => ?_,
    fun k _ _ => row_inb ?_, fun _ _ => Scf.rem_ok _ _, fun k => (Scf.rem_no_trip _ _ k).elim⟩
  · have ht := loopMid_trips h0 h1
    rw [loopMid_eq] at ht ⊢
    refine ⟨(by decide : 0 < (1#32 : BitVec 32).toInt), ?_⟩
    show (s0 + 1#32).toInt + _ * _ < _
    rw [show Scf.trips (s0 + 1#32) s1 1#32 = _ from ht, toInt_small (by rw [toNat_succ h0]; omega : (s0 + 1#32).toNat < 1000), toNat_succ h0,
      show (1#32 : BitVec 32).toInt = 1 by decide]
    norm_num
    omega
  · have hk := lt_of_lt_of_eq k.isLt (loopMid_trips h0 h1)
    rw [midId_toNat (by omega)]
    omega

/-- The same for a chunk that only runs under a condition. -/
def ChunkOKif (C : Prop) (live : BitVec 1) (s0 s1 : BitVec 32) : Prop :=
  (C → condPure s0 s1 = 1#1 → ∀ a, (![liveRow live s0, 0] : Fin 2 → ℕ) a + SRow.size a ≤ SPool.size a) ∧
  (C → condMix s0 s1 = 1#1 → ∀ a, (![liveRow live s0, 0] : Fin 2 → ℕ) a + SRow.size a ≤ SPool.size a) ∧
  (C → condMix s0 s1 = 1#1 → ∀ a, (![liveRow live s1, 0] : Fin 2 → ℕ) a + SRow.size a ≤ SPool.size a) ∧
  (C → condMix s0 s1 = 1#1 → condLoop live s0 s1 = 1#1 → (loopMid s0 s1).OK) ∧
  (∀ k : Fin (loopMid s0 s1).trips, C → condMix s0 s1 = 1#1 → condLoop live s0 s1 = 1#1 → ∀ a, (![(midId s0 k).toNat, 0] : Fin 2 → ℕ) a + SRow.size a ≤ SPool.size a) ∧
  (C → condMix s0 s1 = 1#1 → condLoop live s0 s1 = 1#1 → (loopRem s0 s1).OK) ∧
  (∀ k : Fin (loopRem s0 s1).trips, C → condMix s0 s1 = 1#1 → condLoop live s0 s1 = 1#1 →
    ∀ a, (![(Scf.iv (Scalar.addi (Scalar.addi s0 1#32) (Scalar.muli (Scalar.divsi (Scalar.subi s1 (Scalar.addi s0 1#32)) 1#32) 1#32)) 1#32 k : BitVec 32).toNat, 0] : Fin 2 → ℕ) a + SRow.size a ≤ SPool.size a)

theorem chunkOKif (C : Prop) (live : BitVec 1) {s0 s1 : BitVec 32} (h0 : s0.toNat < 128) (h1 : s1.toNat < 128) : ChunkOKif C live s0 s1 := by
  have h := chunkOK live h0 h1
  exact ⟨fun _ => h.1, fun _ => h.2.1, fun _ => h.2.2.1, fun _ => h.2.2.2.1, fun k _ => h.2.2.2.2.1 k, fun _ => h.2.2.2.2.2.1, fun k _ => h.2.2.2.2.2.2 k⟩

section Run
variable {nD : Nat} {τ : Topo} {sig : RefSig} {Λ₀ : Labels} {F : FTy → Type} [FloatOps F] [∀ e, Nonempty (Elt F e)]
variable {U : Type} [URA U]
local notation "𝕄" => MT nD τ sig Unit (Elt F) ℕ U ℕ

/-! ## Single steps over owned memrefs -/

section Steps
variable {s : Shape} {e : EltTy} {β : Type}

/-- The part of a block a rectangle reads. -/
def ld {α : Type} (r : LoadRect s) (X : s.Idx → α) : r.shape.Idx → α := fun j => X (r.idx j)

theorem load_step (defs₀ : Defs nD τ sig (Elt F) Λ₀) (𝒱 : Variants) (c : Dev nD) (M : Memref sig .tc .vmem s e) (q : PosShare TreeShare)
    (X : s.Idx → Elt F e) (r : LoadRect s) (la : M.view.LoadsAt r)
    (k : (r.shape.Idx → Elt F e) → Prog (TpuEff nD τ sig (Elt F) Λ₀ .tc) β) (K : β → sProp 𝕄) :
    (owns (c : Thread nD τ) M q X : sProp 𝕄)
      ⊢ iprop((owns (c : Thread nD τ) M q X -∗ wp frame (wpE defs₀ 𝒱 c none) Set.univ (k (ld r X)) K)
        -∗ wp frame (wpE defs₀ 𝒱 c none) Set.univ (Prog.lift (.load M r la) >>= k) K) := by
  unfold owns
  iintro ⟨%f, %hf, H⟩ HK
  sl_exec
  have e : View.readAt (Elt F) M.view r f = ld r X := by
    funext j; rw [View.readAt_apply, hf]; rfl
  rw [e]
  iapply HK
  iexists f
  isplitr
  · ipureintro; exact hf
  iexact H

theorem store_step (defs₀ : Defs nD τ sig (Elt F) Λ₀) (𝒱 : Variants) (c : Dev nD) {R C : ℕ} (M : Memref sig .tc .vmem ⟨2, ![R, C]⟩ e)
    (X : Shape.Idx ⟨2, ![R, C]⟩ → Elt F e) (inb : ∀ a, (![0, 0] : Fin 2 → ℕ) a + (⟨2, ![R, C]⟩ : Shape).size a ≤ (⟨2, ![R, C]⟩ : Shape).size a)
    (w : Shape.Idx ⟨2, ![R, C]⟩ → Elt F e) (st hst)
    (k : PUnit.{1} → Prog (TpuEff nD τ sig (Elt F) Λ₀ .tc) β) (K : β → sProp 𝕄) :
    (owns (c : Thread nD τ) M fullShare X : sProp 𝕄)
      ⊢ iprop((owns (c : Thread nD τ) M fullShare w -∗ wp frame (wpE defs₀ 𝒱 c none) Set.univ (k ⟨⟩) K)
        -∗ wp frame (wpE defs₀ 𝒱 c none) Set.univ
            (Prog.lift (.store M (Rect.unit (s := ⟨2, ![R, C]⟩) ![0, 0] (⟨2, ![R, C]⟩ : Shape).size inb) w Finset.univ st hst) >>= k) K) := by
  unfold owns
  iintro ⟨%f, %hf, H⟩ HK
  sl_exec
  iapply HK
  iexists _
  isplitr
  swap
  · iexact H
  ipureintro
  funext ι
  have hx : (Rect.unit (s := ⟨2, ![R, C]⟩) ![0, 0] (⟨2, ![R, C]⟩ : Shape).size inb).emb ι = ι := by
    funext a; refine Fin.ext ?_
    match a with
    | ⟨0, _⟩ => exact (Updates.emb_val (o := (0, 0)) rfl inb _).1.trans (Nat.zero_add _)
    | ⟨1, _⟩ => exact (Updates.emb_val (o := (0, 0)) rfl inb _).2.trans (Nat.zero_add _)
  have := View.read_slice_write_emb (Val := Elt F) (v := M.view) (Rect.unit (s := ⟨2, ![R, C]⟩) ![0, 0] (⟨2, ![R, C]⟩ : Shape).size inb) f w (x := ι) (Finset.mem_univ _)
  rw [hx] at this
  exact this

theorem smem_step (defs₀ : Defs nD τ sig (Elt F) Λ₀) (𝒱 : Variants) (c : Dev nD) {R C : ℕ} (M : Memref sig .tc .smem ⟨2, ![R, C]⟩ .i32) (q : PosShare TreeShare)
    (X : Shape.Idx ⟨2, ![R, C]⟩ → Elt F .i32) (off : Fin 2 → ℕ) (a b : ℕ) (ha : a < R) (hb : b < C) (ho : off = ![a, b])
    (inb : ∀ d, off d + (⟨2, ![1, 1]⟩ : Shape).size d ≤ (⟨2, ![R, C]⟩ : Shape).size d)
    (h1 h2) (k : Elt F .i32 → Prog (TpuEff nD τ sig (Elt F) Λ₀ .tc) β) (K : β → sProp 𝕄) :
    (owns (c : Thread nD τ) M q X : sProp 𝕄)
      ⊢ iprop((owns (c : Thread nD τ) M q X -∗ wp frame (wpE defs₀ 𝒱 c none) Set.univ (k (X (ValueIdx.ix2 ⟨a, ha⟩ ⟨b, hb⟩))) K)
        -∗ wp frame (wpE defs₀ 𝒱 c none) Set.univ
            (smemLoad M (Rect.unit (s := ⟨2, ![R, C]⟩) off (⟨2, ![1, 1]⟩ : Shape).size inb) h1 h2 >>= k) K) := by
  unfold owns
  iintro ⟨%f, %hf, H⟩ HK
  sl_exec
  have e : smem_step.sl.r c M off inb h1 f = X (ValueIdx.ix2 ⟨a, ha⟩ ⟨b, hb⟩) := by
    unfold smem_step.sl.r smem_step.sl.f
    rw [View.readAt_apply, hf]
    congr 1
    have h0 : ∀ (j : Shape.Idx ⟨2, ![1, 1]⟩), (Rect.unit (s := ⟨2, ![R, C]⟩) off (⟨2, ![1, 1]⟩ : Shape).size inb).emb j = ValueIdx.ix2 ⟨a, ha⟩ ⟨b, hb⟩ := fun j => by
      have j0 : (j 0).val < 1 := (j 0).isLt
      have j1 : (j 1).val < 1 := (j 1).isLt
      funext d; refine Fin.ext ?_
      match d with
      | ⟨0, _⟩ => exact (Updates.emb_val (o := (a, b)) ho inb j).1.trans (by show a + (j 0).val = a; omega)
      | ⟨1, _⟩ => exact (Updates.emb_val (o := (a, b)) ho inb j).2.trans (by show b + (j 1).val = b; omega)
    exact h0 _
  rw [e]
  iapply HK
  iexists f
  isplitr
  · ipureintro; exact hf
  iexact H

theorem assume_step (defs₀ : Defs nD τ sig (Elt F) Λ₀) (𝒱 : Variants) (c : Dev nD) (p : Prop) (d : Decidable p) (hp : p)
    (k : PLift p → Prog (TpuEff nD τ sig (Elt F) Λ₀ .tc) β) (K : β → sProp 𝕄) :
    (wp frame (wpE defs₀ 𝒱 c none) Set.univ (k ⟨hp⟩) K : sProp 𝕄)
      ⊢ wp frame (wpE defs₀ 𝒱 c none) Set.univ (Prog.lift (TpuEff.assume p d) >>= k) K := by
  iintro HK
  sl_exec
  iexact HK

end Steps

theorem rmw_read (v : View sig .tc .vmem SPool .f32) (f : v.ty.Contents (Elt F)) (off : Fin 2 → ℕ) (o : ℕ) (ho : off = ![o, 0])
    (inb inb' : ∀ a, off a + SRow.size a ≤ SPool.size a) (p : (SRow.Idx → Elt F .f32) → SRow.Idx → Elt F .f32) :
    v.read (Elt F) (View.write (Elt F) (v.slice (Rect.unit (s := SPool) off SRow.size inb)) f
      (p (View.readAt (Elt F) v (Rect.unit (s := SPool) off SRow.size inb').toLoadRect f)) Finset.univ)
      = updRow o p (v.read (Elt F) f) := by
  subst ho
  funext ι
  unfold updRow
  split
  · next h =>
    have hx : (Rect.unit (s := SPool) ![o, 0] SRow.size inb).emb (ValueIdx.ix2 ⟨0, Nat.one_pos⟩ (ι 1)) = ι := by
      funext a; refine Fin.ext ?_
      match a with
      | ⟨0, _⟩ => exact (Updates.emb_val (o := (o, 0)) rfl inb _).1.trans h
      | ⟨1, _⟩ => exact (Updates.emb_val (o := (o, 0)) rfl inb _).2.trans (Nat.zero_add _)
    conv_lhs => rw [← hx]
    rw [View.read_slice_write_emb _ _ _ (Finset.mem_univ _)]
    congr 2
    funext j
    rw [View.readAt_apply]
    unfold rowOf
    congr 1
    funext a; refine Fin.ext ?_
    have hj : (j 0).val < 1 := (j 0).isLt
    match a with
    | ⟨0, _⟩ => exact (Updates.emb_val (o := (o, 0)) rfl inb j).1.trans (by show o + (j 0).val = (ι 0).val; omega)
    | ⟨1, _⟩ => exact (Updates.emb_val (o := (o, 0)) rfl inb j).2.trans (Nat.zero_add _)
  · next h =>
    rw [View.read_slice_write_of_not_mem]
    intro hmem
    obtain ⟨x, -, hx⟩ := Finset.mem_map.mp hmem
    have e0 := (Updates.emb_val (o := (o, 0)) rfl inb x).1
    have h0 : (x 0).val < 1 := (x 0).isLt
    have c0 := congrArg Fin.val (congrFun hx 0)
    exact h (by rw [← c0]; exact (by omega : o = o + (x 0).val).trans e0.symm)

theorem rmw_spec (defs₀ : Defs nD τ sig (Elt F) Λ₀) (𝒱 : Variants) (c : Dev nD) (M : Memref sig .tc .vmem SPool .f32)
    (P : SPool.Idx → Elt F .f32)
    (off : Fin 2 → ℕ) (o : ℕ) (ho : off = ![o, 0]) (inb : ∀ a, off a + SRow.size a ≤ SPool.size a)
    (la lb : M.view.LoadsAt (Rect.unit (s := SPool) off SRow.size inb).toLoadRect) (st hst)
    (p : (SRow.Idx → Elt F .f32) → SRow.Idx → Elt F .f32)
    {β : Type} (k : PUnit.{1} → Prog (TpuEff nD τ sig (Elt F) Λ₀ .tc) β) (K : β → sProp 𝕄) :
    iprop(owns (c : Thread nD τ) M fullShare P
        ∗ (owns (c : Thread nD τ) M fullShare (updRow o p P) -∗ wp frame (wpE defs₀ 𝒱 c none) Set.univ (k ⟨⟩) K))
      ⊢ wp frame (wpE defs₀ 𝒱 c none) Set.univ
          (do
            let v ← Prog.lift (.load M (Rect.unit (s := SPool) off SRow.size inb).toLoadRect la)
            let _ ← Prog.lift (.load M (Rect.unit (s := SPool) off SRow.size inb).toLoadRect lb)
            Prog.lift (.store M (Rect.unit (s := SPool) off SRow.size inb) (p v) Finset.univ st hst) >>= k) K := by
  unfold owns
  iintro ⟨⟨%f, %hf, H⟩, HK⟩
  sl_exec
  iapply HK
  iexists _
  isplitr
  swap
  · iexact H
  ipureintro
  rw [← hf]
  exact rmw_read M.view f off o ho inb inb p

/-- The same for a region that ends there. -/
theorem rmw_spec0 (defs₀ : Defs nD τ sig (Elt F) Λ₀) (𝒱 : Variants) (c : Dev nD) (M : Memref sig .tc .vmem SPool .f32)
    (P : SPool.Idx → Elt F .f32)
    (off : Fin 2 → ℕ) (o : ℕ) (ho : off = ![o, 0]) (inb : ∀ a, off a + SRow.size a ≤ SPool.size a)
    (la lb : M.view.LoadsAt (Rect.unit (s := SPool) off SRow.size inb).toLoadRect) (st hst)
    (p : (SRow.Idx → Elt F .f32) → SRow.Idx → Elt F .f32) (K : PUnit.{1} → sProp 𝕄) :
    iprop(owns (c : Thread nD τ) M fullShare P
        ∗ (owns (c : Thread nD τ) M fullShare (updRow o p P) -∗ K ⟨⟩))
      ⊢ wp frame (wpE defs₀ 𝒱 c none) Set.univ
          (do
            let v ← Prog.lift (.load M (Rect.unit (s := SPool) off SRow.size inb).toLoadRect la)
            let _ ← Prog.lift (.load M (Rect.unit (s := SPool) off SRow.size inb).toLoadRect lb)
            Prog.lift (.store M (Rect.unit (s := SPool) off SRow.size inb) (p v) Finset.univ st hst)
            pure ⟨⟩) K := by
  unfold owns
  iintro ⟨⟨%f, %hf, H⟩, HK⟩
  sl_exec
  sl_step
  iapply HK
  iexists _
  isplitr
  swap
  · iexact H
  ipureintro
  rw [← hf]
  exact rmw_read M.view f off o ho inb inb p

/-- The branch for a chunk of one graph. -/
theorem pureIf_spec (defs₀ : Defs nD τ sig (Elt F) Λ₀) (𝒱 : Variants) (c : Dev nD) (M : Memref sig .tc .vmem SPool .f32)
    (P : SPool.Idx → Elt F .f32) (live : BitVec 1) (X : Vec F SChunk .f32) (s0 s1 : BitVec 32)
    (inb : condPure s0 s1 = 1#1 → ∀ a, (![liveRow live s0, 0] : Fin 2 → ℕ) a + SRow.size a ≤ SPool.size a)
    (la : ∀ h, M.view.LoadsAt (Rect.unit (s := SPool) ![liveRow live s0, 0] SRow.size (inb h)).toLoadRect)
    (st : ∀ h, (M.access (Rect.unit (s := SPool) ![liveRow live s0, 0] SRow.size (inb h))).Stores Finset.univ)
    {β : Type} (R : Prog (TpuEff nD τ sig (Elt F) Λ₀ .tc) β) (K : β → sProp 𝕄) :
    iprop(owns (c : Thread nD τ) M fullShare P
        ∗ (owns (c : Thread nD τ) M fullShare (pureFn live X s0 s1 P) -∗ wp frame (wpE defs₀ 𝒱 c none) Set.univ R K))
      ⊢ wp frame (wpE defs₀ 𝒱 c none) Set.univ
          (if h : condPure s0 s1 = 1#1 then do
            let v ← Prog.lift (.load M (Rect.unit (s := SPool) ![liveRow live s0, 0] SRow.size (inb h)).toLoadRect (la h))
            let _ ← Prog.lift (.load M (Rect.unit (s := SPool) ![liveRow live s0, 0] SRow.size (inb h)).toLoadRect (la h))
            Prog.lift (.store M (Rect.unit (s := SPool) ![liveRow live s0, 0] SRow.size (inb h)) (purePay X v) Finset.univ (st h) (.inl rfl))
            R
          else R) K := by
  unfold pureFn
  by_cases hc : condPure s0 s1 = 1#1
  · rw [dif_pos hc, if_pos hc]
    exact rmw_spec defs₀ 𝒱 c M P _ _ rfl (inb hc) _ _ _ _ (purePay X) (fun _ => R) K
  · rw [dif_neg hc, if_neg hc]
    iintro ⟨H, HK⟩
    iapply HK; iexact H

/-- The branch for a chunk of several graphs. -/
theorem mixIf_spec (defs₀ : Defs nD τ sig (Elt F) Λ₀) (𝒱 : Variants) (c : Dev nD) (M : Memref sig .tc .vmem SPool .f32)
    (P : SPool.Idx → Elt F .f32) (live : BitVec 1) (B : IVec SIds 32) (X : Vec F SChunk .f32) (s0 s1 : BitVec 32)
    (inb0 : condMix s0 s1 = 1#1 → ∀ a, (![liveRow live s0, 0] : Fin 2 → ℕ) a + SRow.size a ≤ SPool.size a)
    (la0 : ∀ h, M.view.LoadsAt (Rect.unit (s := SPool) ![liveRow live s0, 0] SRow.size (inb0 h)).toLoadRect)
    (st0 : ∀ h, (M.access (Rect.unit (s := SPool) ![liveRow live s0, 0] SRow.size (inb0 h))).Stores Finset.univ)
    (inb1 : condMix s0 s1 = 1#1 → ∀ a, (![liveRow live s1, 0] : Fin 2 → ℕ) a + SRow.size a ≤ SPool.size a)
    (la1 : ∀ h, M.view.LoadsAt (Rect.unit (s := SPool) ![liveRow live s1, 0] SRow.size (inb1 h)).toLoadRect)
    (st1 : ∀ h, (M.access (Rect.unit (s := SPool) ![liveRow live s1, 0] SRow.size (inb1 h))).Stores Finset.univ)
    (ok1 : condMix s0 s1 = 1#1 → condLoop live s0 s1 = 1#1 → (loopMid s0 s1).OK)
    (body1 : condMix s0 s1 = 1#1 → condLoop live s0 s1 = 1#1 → Fin (loopMid s0 s1).trips → PUnit.{1} → Prog (TpuEff nD τ sig (Elt F) Λ₀ .tc) PUnit.{1})
    (hbody : ∀ h h' (k : Fin (loopMid s0 s1).trips) acc (Q : SPool.Idx → Elt F .f32) (K : PUnit.{1} → sProp 𝕄),
      iprop(owns (c : Thread nD τ) M fullShare Q
          ∗ (owns (c : Thread nD τ) M fullShare (updRow (midId s0 k).toNat (maskPay B X (midId s0 k)) Q) -∗ K ⟨⟩))
        ⊢ wp frame (wpE defs₀ 𝒱 c none) Set.univ (body1 h h' k acc) K)
    (ok2 : condMix s0 s1 = 1#1 → condLoop live s0 s1 = 1#1 → (loopRem s0 s1).OK)
    (body2 : condMix s0 s1 = 1#1 → condLoop live s0 s1 = 1#1 → Fin (loopRem s0 s1).trips → PUnit.{1} → Prog (TpuEff nD τ sig (Elt F) Λ₀ .tc) PUnit.{1})
    {β : Type} (R : Prog (TpuEff nD τ sig (Elt F) Λ₀ .tc) β) (K : β → sProp 𝕄) :
    iprop(owns (c : Thread nD τ) M fullShare P
        ∗ (owns (c : Thread nD τ) M fullShare (mixFn live B X s0 s1 P) -∗ wp frame (wpE defs₀ 𝒱 c none) Set.univ R K))
      ⊢ wp frame (wpE defs₀ 𝒱 c none) Set.univ
          (if h : condMix s0 s1 = 1#1 then do
            let v ← Prog.lift (.load M (Rect.unit (s := SPool) ![liveRow live s0, 0] SRow.size (inb0 h)).toLoadRect (la0 h))
            let _ ← Prog.lift (.load M (Rect.unit (s := SPool) ![liveRow live s0, 0] SRow.size (inb0 h)).toLoadRect (la0 h))
            Prog.lift (.store M (Rect.unit (s := SPool) ![liveRow live s0, 0] SRow.size (inb0 h)) (maskPay B X s0 v) Finset.univ (st0 h) (.inl rfl))
            let v ← Prog.lift (.load M (Rect.unit (s := SPool) ![liveRow live s1, 0] SRow.size (inb1 h)).toLoadRect (la1 h))
            let _ ← Prog.lift (.load M (Rect.unit (s := SPool) ![liveRow live s1, 0] SRow.size (inb1 h)).toLoadRect (la1 h))
            Prog.lift (.store M (Rect.unit (s := SPool) ![liveRow live s1, 0] SRow.size (inb1 h)) (maskPay B X s1 v) Finset.univ (st1 h) (.inl rfl))
            if h' : condLoop live s0 s1 = 1#1 then do
              Scf.Loop.for (loopMid s0 s1) (ok1 h h') ⟨⟩ (body1 h h')
              Scf.Loop.for (loopRem s0 s1) (ok2 h h') ⟨⟩ (body2 h h')
              R
            else R
          else R) K := by
  unfold mixFn
  by_cases hc : condMix s0 s1 = 1#1
  · rw [dif_pos hc, if_pos hc]
    iintro ⟨H, HK⟩
    iapply (rmw_spec defs₀ 𝒱 c M P ![liveRow live s0, 0] (liveRow live s0) rfl (inb0 hc) (la0 hc) (la0 hc) (st0 hc) (.inl rfl) (maskPay B X s0) _ K)
    isplitl [H]; · iexact H
    iintro H
    iapply (rmw_spec defs₀ 𝒱 c M _ ![liveRow live s1, 0] (liveRow live s1) rfl (inb1 hc) (la1 hc) (la1 hc) (st1 hc) (.inl rfl) (maskPay B X s1) _ K)
    isplitl [H]; · iexact H
    iintro H
    by_cases hl : condLoop live s0 s1 = 1#1
    · rw [dif_pos hl, if_pos hl]
      have hrem : ∀ (b : Fin (loopRem s0 s1).trips → PUnit.{1} → Prog (TpuEff nD τ sig (Elt F) Λ₀ .tc) PUnit.{1}) ok,
          Scf.Loop.for (loopRem s0 s1) ok ⟨⟩ b = .ret ⟨⟩ := fun b ok => Scf.for_rem_eq _ _ ok ⟨⟩ b
      rw [hrem]
      generalize updRow (liveRow live s1) (maskPay B X s1) (updRow (liveRow live s0) (maskPay B X s0) P) = Q0
      have hloop := Scf.wp_for_bind Idealize.ShloMosaic.frame (wpE defs₀ 𝒱 (c : Thread nD τ) none) Set.univ (loopMid s0 s1).lb (loopMid s0 s1).ub (loopMid s0 s1).st
        (ok1 hc hl) PUnit.unit (body1 hc hl)
        (fun n _ => owns (c : Thread nD τ) M fullShare (midFn B X s0 Q0 n))
        (fun k acc => by
          refine BIBase.Entails.trans ?_ (hbody hc hl k acc (midFn B X s0 Q0 k) _)
          iintro H
          isplitl [H]; · iexact H
          iintro H; iexact H) (kk := fun _ => R) (Q := K)
      ihave H' : iprop(owns (c : Thread nD τ) M fullShare (midFn B X s0 Q0 0)) $$ [H]
      · iexact H
      iapply hloop $$ H'
      iintro %acc H
      iapply HK; iexact H
    · rw [dif_neg hl, if_neg hl]
      iapply HK; iexact H
  · rw [dif_neg hc, if_neg hc]
    iintro ⟨H, HK⟩
    iapply HK; iexact H

/-- A load of a whole memref reads its contents. -/
theorem loadw_step (defs₀ : Defs nD τ sig (Elt F) Λ₀) (𝒱 : Variants) (c : Dev nD) {R C : ℕ} {e : EltTy} {β : Type}
    (M : Memref sig .tc .vmem ⟨2, ![R, C]⟩ e) (q : PosShare TreeShare) (X : Shape.Idx ⟨2, ![R, C]⟩ → Elt F e)
    (inb : ∀ a, (![0, 0] : Fin 2 → ℕ) a + (⟨2, ![R, C]⟩ : Shape).size a ≤ (⟨2, ![R, C]⟩ : Shape).size a) (la)
    (k : (Shape.Idx ⟨2, ![R, C]⟩ → Elt F e) → Prog (TpuEff nD τ sig (Elt F) Λ₀ .tc) β) (K : β → sProp 𝕄) :
    (owns (c : Thread nD τ) M q X : sProp 𝕄)
      ⊢ iprop((owns (c : Thread nD τ) M q X -∗ wp frame (wpE defs₀ 𝒱 c none) Set.univ (k X) K)
        -∗ wp frame (wpE defs₀ 𝒱 c none) Set.univ
            (Prog.lift (.load M (Rect.unit (s := ⟨2, ![R, C]⟩) ![0, 0] (⟨2, ![R, C]⟩ : Shape).size inb).toLoadRect la) >>= k) K) := by
  have e : ld (Rect.unit (s := ⟨2, ![R, C]⟩) ![0, 0] (⟨2, ![R, C]⟩ : Shape).size inb).toLoadRect X = X := by
    funext j
    unfold ld
    congr 1
    funext a
    apply Fin.ext
    show (![0, 0] : Fin 2 → ℕ) a + 1 * (j a).val = (j a).val
    match a with
    | 0 => simp
    | 1 => simp
  have h := load_step (U := U) defs₀ 𝒱 c M q X _ la k K
  rw [e] at h
  exact h

/-- A chunk's opening: the two words of the table it reads, and the bounds the program assumes of them. -/
theorem head_step (defs₀ : Defs nD τ sig (Elt F) Λ₀) (𝒱 : Variants) (c : Dev nD) {R : ℕ} {β : Type} (M : Memref sig .tc .smem ⟨2, ![R, 2]⟩ .i32) (q : PosShare TreeShare)
    (T : Shape.Idx ⟨2, ![R, 2]⟩ → Elt F .i32) (n : ℕ) (hn : n < R) (off0 off1 : Fin 2 → ℕ) (ho0 : off0 = ![n, 0]) (ho1 : off1 = ![n, 1])
    (inb0 inb1) (h1 h2 h3 h4) (chk : BitVec 32 → BitVec 32 → Prop) (dec : ∀ a b, Decidable (chk a b))
    (hc : chk (T (ValueIdx.ix2 ⟨n, hn⟩ ⟨0, Nat.zero_lt_two⟩)) (T (ValueIdx.ix2 ⟨n, hn⟩ ⟨1, Nat.one_lt_two⟩)))
    (k : (a b : BitVec 32) → PLift (chk a b) → Prog (TpuEff nD τ sig (Elt F) Λ₀ .tc) β) (K : β → sProp 𝕄) :
    (owns (c : Thread nD τ) M q T : sProp 𝕄)
      ⊢ iprop((owns (c : Thread nD τ) M q T -∗ wp frame (wpE defs₀ 𝒱 c none) Set.univ (k _ _ ⟨hc⟩) K)
        -∗ wp frame (wpE defs₀ 𝒱 c none) Set.univ
            (smemLoad M (Rect.unit (s := ⟨2, ![R, 2]⟩) off0 (⟨2, ![1, 1]⟩ : Shape).size inb0) h1 h2 >>= fun a =>
              smemLoad M (Rect.unit (s := ⟨2, ![R, 2]⟩) off1 (⟨2, ![1, 1]⟩ : Shape).size inb1) h3 h4 >>= fun b =>
                Prog.lift (TpuEff.assume (chk a b) (dec a b)) >>= k a b) K) := by
  iintro H HK
  iapply (smem_step defs₀ 𝒱 c M q T off0 n 0 hn Nat.zero_lt_two ho0 inb0 h1 h2 _ K) $$ H
  iintro H
  iapply (smem_step defs₀ 𝒱 c M q T off1 n 1 hn Nat.one_lt_two ho1 inb1 h3 h4 _ K) $$ H
  iintro H
  iapply (assume_step defs₀ 𝒱 c _ _ hc _ K)
  iapply HK $$ H

/-- An opening that overwrites the whole memref only at one point. -/
theorem initIf_step (defs₀ : Defs nD τ sig (Elt F) Λ₀) (𝒱 : Variants) (c : Dev nD) {R C : ℕ} {e : EltTy} {β : Type}
    (M : Memref sig .tc .vmem ⟨2, ![R, C]⟩ e) (X : Shape.Idx ⟨2, ![R, C]⟩ → Elt F e) (b : BitVec 1)
    (inb inb' : ∀ a, (![0, 0] : Fin 2 → ℕ) a + (⟨2, ![R, C]⟩ : Shape).size a ≤ (⟨2, ![R, C]⟩ : Shape).size a) (la)
    (w : Shape.Idx ⟨2, ![R, C]⟩ → Elt F e) (st hst) (p : Prog (TpuEff nD τ sig (Elt F) Λ₀ .tc) β) (K : β → sProp 𝕄) :
    (owns (c : Thread nD τ) M fullShare X : sProp 𝕄)
      ⊢ iprop((owns (c : Thread nD τ) M fullShare (if b = 1#1 then w else X) -∗ wp frame (wpE defs₀ 𝒱 c none) Set.univ p K)
        -∗ wp frame (wpE defs₀ 𝒱 c none) Set.univ
            (if h : b = 1#1 then
              (Prog.lift (.load M (Rect.unit (s := ⟨2, ![R, C]⟩) ![0, 0] (⟨2, ![R, C]⟩ : Shape).size inb).toLoadRect la) >>= fun _ =>
              Prog.lift (.store M (Rect.unit (s := ⟨2, ![R, C]⟩) ![0, 0] (⟨2, ![R, C]⟩ : Shape).size inb') w Finset.univ st hst) >>= fun _ => p)
            else p) K) := by
  iintro H HK
  by_cases h : b = 1#1
  · rw [dif_pos h, if_pos h]
    iapply (loadw_step defs₀ 𝒱 c M fullShare X inb la _ K) $$ H
    iintro H
    iapply (store_step defs₀ 𝒱 c M X inb' w st hst _ K) $$ H
    iintro H
    iapply HK $$ H
  · rw [dif_neg h, if_neg h]
    iapply HK $$ H

end Run
end Cert.Pool
end
-- ==== Proof.Body.lean ====
/-
  Hand-written. The kernel's body, part by part: from its windows and its three scratch buffers at given
  contents it runs to its end, and leaves the scratch buffers at the contents named here.
-/
module

public import proofs.«01_k».proof.Proof.Chunk
public import proofs.«01_k».proof.Proof.Gen.KernelIdeal.Skeleton
public import proofs.«01_k».proof.Proof.Gen.KernelIdeal.Launch
public import Idealize.ShloMosaic.Lib.Pipeline.Frame

@[expose] public section

noncomputable section

namespace Cert.KernelIdeal.Hand

open Cert.KernelIdeal Cert.KernelIdeal.Gen Cert.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)] {U : Type} [URA U]
local notation "𝕄" => MT nD τ sig Unit (Elt F) ℕ U ℕ

/-- A chunk's rows of a block, and their graph ids. -/
abbrev rowsOf (off : Fin 2 → ℕ) (inb : ∀ a, off a + S200x512.size a ≤ S1000x512.size a) (X : Vec F S1000x512 .f32) : Vec F S200x512 .f32 :=
  ld (Rect.unit (s := S1000x512) off S200x512.size inb).toLoadRect X
abbrev idsOf (off : Fin 2 → ℕ) (h : S1000x1.Slices off S200x1) (B : Vec F S1000x1 .i32) : IVec S200x1 32 :=
  extractStridedSlice S200x1 off (shapeCast S1000x1 B shapeCasts_S1000x1_S1000x1) h

/-- The pooled buffer after the five chunks of a block of rows. -/
def blkFn (live : BitVec 1) (B : Vec F S1000x1 .i32) (X : Vec F S1000x512 .f32) (s0 s1 : Fin 5 → BitVec 32) (P : S136x512.Idx → F .f32) : S136x512.Idx → F .f32 :=
  chunkFn live (idsOf ![800, 0] slices_S1000x1_o800_0_S200x1 B) (rowsOf ![800, 0] inb_S1000x512_S200x512_800_0 X) (s0 4) (s1 4)
    (chunkFn live (idsOf ![600, 0] slices_S1000x1_o600_0_S200x1 B) (rowsOf ![600, 0] inb_S1000x512_S200x512_600_0 X) (s0 3) (s1 3)
      (chunkFn live (idsOf ![400, 0] slices_S1000x1_o400_0_S200x1 B) (rowsOf ![400, 0] inb_S1000x512_S200x512_400_0 X) (s0 2) (s1 2)
        (chunkFn live (idsOf ![200, 0] slices_S1000x1_o200_0_S200x1 B) (rowsOf ![200, 0] inb_S1000x512_S200x512_200_0 X) (s0 1) (s1 1)
          (chunkFn live (idsOf ![0, 0] slices_S1000x1_o0_0_S200x1 B) (rowsOf ![0, 0] inb_S1000x512_S200x512_0_0 X) (s0 0) (s1 0) P))))

/-- The chunk of the table that chunk `j` of the previous block reads, the one that chunk `j` of this point's first
    block reads, and the one that chunk `j` of the last block reads. -/
def preN (i : grid0.Coords) (j : Fin 5) : ℕ := 5 * (2 * (i 0).val - 1) + j.val
def curN (i : grid0.Coords) (j : Fin 5) : ℕ := 10 * (i 0).val + j.val
def lastN (j : Fin 5) : ℕ := 245 + j.val
theorem preN_lt (i : grid0.Coords) (j : Fin 5) : preN i j < 250 := by
  have : (i 0).val < 25 := (i 0).isLt
  unfold preN; omega
theorem curN_lt (i : grid0.Coords) (j : Fin 5) : curN i j < 250 := by
  have : (i 0).val < 25 := (i 0).isLt
  unfold curN; omega
theorem lastN_lt (j : Fin 5) : lastN j < 250 := by unfold lastN; omega

/-- The table's words of chunk `n`. -/
abbrev wd (T : S250x2.Idx → Elt F .i32) (b : Fin 2) (n : ℕ) (hn : n < 250) : BitVec 32 := T (ValueIdx.ix2 ⟨n, hn⟩ b)

abbrev liveP (i : grid0.Coords) : BitVec 1 := Scalar.cmpi .sgt (BitVec.ofNat 32 (i 0).val) 0#32
abbrev liveC (i : grid0.Coords) : BitVec 1 := Scalar.cmpi .sge (BitVec.ofNat 32 (i 0).val) 0#32
abbrev isFirst (i : grid0.Coords) : BitVec 1 := Scalar.cmpi .ne (Scalar.extui (Scalar.cmpi .eq (BitVec.ofNat 32 (i 0).val) 0#32)) 0#32

/-- The pooled buffer after the chunks of the previous block, after those of the point's first block, and after those of
    the last block. -/
def poolPre (i : grid0.Coords) (T : S250x2.Idx → Elt F .i32) (ids : Vec F S1000x1 .i32) (B : Vec F S1000x512 .f32) (P : S136x512.Idx → F .f32) : S136x512.Idx → F .f32 :=
  blkFn (liveP i) ids B (fun j => wd T 0 (preN i j) (preN_lt i j)) (fun j => wd T 1 (preN i j) (preN_lt i j)) (if isFirst i = 1#1 then k0_pay41 (F := F) else P)
def poolCur (i : grid0.Coords) (T : S250x2.Idx → Elt F .i32) (ids : Vec F S1000x1 .i32) (A : Vec F S1000x512 .f32) (P : S136x512.Idx → F .f32) : S136x512.Idx → F .f32 :=
  blkFn (liveC i) ids A (fun j => wd T 0 (curN i j) (curN_lt i j)) (fun j => wd T 1 (curN i j) (curN_lt i j)) P
def poolLast (i : grid0.Coords) (T : S250x2.Idx → Elt F .i32) (ids : Vec F S1000x1 .i32) (B : Vec F S1000x512 .f32) (P : S136x512.Idx → F .f32) : S136x512.Idx → F .f32 :=
  blkFn (liveC i) ids B (fun j => wd T 0 (lastN j) (lastN_lt j)) (fun j => wd T 1 (lastN j) (lastN_lt j)) P
/-- The output block from the pooled buffer. -/
def outFn (P : S136x512.Idx → F .f32) (X8 : Vec F S1x512 .f32) (X9 : Vec F S512x128 .f32) (X10 : Vec F S1x128 .f32) : Vec F S128x128 .f32 :=
  k0_pay7 (k0_pay39 (ld (Rect.unit (s := S136x512) ![0, 0] S128x512.size inb_S136x512_S128x512_0_0).toLoadRect P) X8 X9 X10)
    (k0_pay40 (ld (Rect.unit (s := S136x512) ![0, 0] S128x512.size inb_S136x512_S128x512_0_0).toLoadRect P) X8 X9 X10)

theorem k0_off1_cl : ∀ i : grid0.Coords, k0_off1 i = ![preN i 0, 0] := by decide +kernel
theorem k0_off2_cl : ∀ i : grid0.Coords, k0_off2 i = ![preN i 0, 1] := by decide +kernel
theorem k0_off8_cl : ∀ i : grid0.Coords, k0_off8 i = ![preN i 1, 0] := by decide +kernel
theorem k0_off9_cl : ∀ i : grid0.Coords, k0_off9 i = ![preN i 1, 1] := by decide +kernel
theorem k0_off15_cl : ∀ i : grid0.Coords, k0_off15 i = ![preN i 2, 0] := by decide +kernel
theorem k0_off16_cl : ∀ i : grid0.Coords, k0_off16 i = ![preN i 2, 1] := by decide +kernel
theorem k0_off22_cl : ∀ i : grid0.Coords, k0_off22 i = ![preN i 3, 0] := by decide +kernel
theorem k0_off23_cl : ∀ i : grid0.Coords, k0_off23 i = ![preN i 3, 1] := by decide +kernel
theorem k0_off29_cl : ∀ i : grid0.Coords, k0_off29 i = ![preN i 4, 0] := by decide +kernel
theorem k0_off30_cl : ∀ i : grid0.Coords, k0_off30 i = ![preN i 4, 1] := by decide +kernel

variable (c : Dev nD) (i : grid0.Coords) (arg1 : Memref sig .tc .smem S250x2 .i32) (harg1 : arg1.IsWhole) (arg2 : Memref sig .tc .vmem S1000x512 .f32) (harg2 : arg2.IsWhole) (arg3 : Memref sig .tc .vmem S1000x512 .f32) (harg3 : arg3.IsWhole) (arg4 : Memref sig .tc .vmem S1000x1 .i32) (harg4 : arg4.IsWhole) (arg5 : Memref sig .tc .vmem S1000x1 .i32) (harg5 : arg5.IsWhole) (arg6 : Memref sig .tc .vmem S1000x1 .i32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S136x512 .f32) (harg12 : arg12.IsWhole) (arg13 : Memref sig .tc .vmem S1000x512 .f32) (harg13 : arg13.IsWhole) (arg14 : Memref sig .tc .vmem S1000x512 .f32) (harg14 : arg14.IsWhole)

set_option maxRecDepth 65536 in
set_option maxHeartbeats 4000000 in
theorem body_spec (q1 q2 q3 q4 q5 q6 q7 q8 q9 q10 : PosShare TreeShare) (T : S250x2.Idx → Elt F .i32)
    (hT : ∀ b n hn, (wd T b n hn).toNat < 128)
    (X2 X3 : Vec F S1000x512 .f32) (X4 X5 X6 : Vec F S1000x1 .i32) (X7 : Vec F S512x512 .f32) (X8 : Vec F S1x512 .f32) (X9 : Vec F S512x128 .f32) (X10 : Vec F S1x128 .f32)
    (O : Vec F S128x128 .f32) (P : S136x512.Idx → Elt F .f32) (A B : Vec F S1000x512 .f32) (K : PUnit.{1} → sProp 𝕄) :
    iprop(owns (c : Thread nD τ) arg1 q1 T ∗ owns (c : Thread nD τ) arg2 q2 X2 ∗ owns (c : Thread nD τ) arg3 q3 X3 ∗ owns (c : Thread nD τ) arg4 q4 X4 ∗ owns (c : Thread nD τ) arg5 q5 X5 ∗ owns (c : Thread nD τ) arg6 q6 X6 ∗ owns (c : Thread nD τ) arg7 q7 X7 ∗ owns (c : Thread nD τ) arg8 q8 X8 ∗ owns (c : Thread nD τ) arg9 q9 X9 ∗ owns (c : Thread nD τ) arg10 q10 X10 ∗ owns (c : Thread nD τ) arg11 fullShare O ∗ owns (c : Thread nD τ) arg12 fullShare P ∗ owns (c : Thread nD τ) arg13 fullShare A ∗ owns (c : Thread nD τ) arg14 fullShare B
      ∗ ((owns (c : Thread nD τ) arg1 q1 T ∗ owns (c : Thread nD τ) arg2 q2 X2 ∗ owns (c : Thread nD τ) arg3 q3 X3 ∗ owns (c : Thread nD τ) arg4 q4 X4 ∗ owns (c : Thread nD τ) arg5 q5 X5 ∗ owns (c : Thread nD τ) arg6 q6 X6 ∗ owns (c : Thread nD τ) arg7 q7 X7 ∗ owns (c : Thread nD τ) arg8 q8 X8 ∗ owns (c : Thread nD τ) arg9 q9 X9 ∗ owns (c : Thread nD τ) arg10 q10 X10 ∗ owns (c : Thread nD τ) arg11 fullShare (if k0_cond32 i = 1#1 then outFn (poolLast i T X6 (k0_pay75 (k0_pay74 X3 X7)) (poolCur i T X4 (k0_pay42 X2 X7) (poolPre i T X5 B P))) X8 X9 X10 else O) ∗ owns (c : Thread nD τ) arg12 fullShare (if k0_cond32 i = 1#1 then (poolLast i T X6 (k0_pay75 (k0_pay74 X3 X7)) (poolCur i T X4 (k0_pay42 X2 X7) (poolPre i T X5 B P))) else (poolCur i T X4 (k0_pay42 X2 X7) (poolPre i T X5 B P))) ∗ owns (c : Thread nD τ) arg13 fullShare (k0_pay42 X2 X7) ∗ owns (c : Thread nD τ) arg14 fullShare (k0_pay75 (k0_pay74 X3 X7))) -∗ K ⟨⟩))
    ⊢ wp frame (wpE (defs₀ (F := F)) Variants.none (c : Thread nD τ) none) Set.univ (cc0__ff_kernel i arg1 harg1 arg2 harg2 arg3 harg3 arg4 harg4 arg5 harg5 arg6 harg6 arg7 harg7 arg8 harg8 arg9 harg9 arg10 harg10 arg11 harg11 arg12 harg12 arg13 harg13 arg14 harg14) K := by
  rw [cc0__ff_kernel_eq_skeleton]; unfold cc0__ff_kernel_skel
  iintro ⟨H1, H2, H3, H4, H5, H6, H7, H8, H9, H10, H11, H12, H13, H14, HK⟩
  rw [wp_bind]
  rw [k0_part4_eq_skeleton]; unfold k0_part4_skel
  iapply (initIf_step _ _ c arg12 _ _ _ _ _ _ _ _ _ _) $$ H12
  iintro H12
  iapply (loadw_step _ _ c arg2 _ _ _ _ _ _) $$ H2
  iintro H2
  iapply (loadw_step _ _ c arg7 _ _ _ _ _ _) $$ H7
  iintro H7
  iapply (loadw_step _ _ c arg13 _ _ _ _ _ _) $$ H13
  iintro H13
  iapply (store_step _ _ c arg13 _ _ _ _ _ _ _) $$ H13
  iintro H13
  iapply (loadw_step _ _ c arg5 _ _ _ _ _ _) $$ H5
  iintro H5
  iapply (load_step _ _ c arg14 _ _ _ _ _ _) $$ H14
  iintro H14
  iapply (head_step _ _ c arg1 _ T (preN i 0) (preN_lt i 0) _ _ (k0_off1_cl i) (k0_off2_cl i) _ _ _ _ _ _ _ _ (chunkOK (liveP i) (hT 0 _ (preN_lt i 0)) (hT 1 _ (preN_lt i 0))) _ _) $$ H1
  iintro H1
  iapply (pureIf_spec _ _ c arg12 _ (liveP i) (rowsOf ![0, 0] inb_S1000x512_S200x512_0_0 B) _ _ _ _ _ _ _)
  isplitl [H12]
  · iexact H12
  iintro H12
  iapply (mixIf_spec _ _ c arg12 _ (liveP i) (idsOf ![0, 0] slices_S1000x1_o0_0_S200x1 X5) (rowsOf ![0, 0] inb_S1000x512_S200x512_0_0 B) _ _ _ _ _ _ _ _ _ _ _ _ _ _ _)
  · intro _ _ k _ Q K'
    exact rmw_spec0 _ _ c arg12 Q _ _ rfl _ _ _ _ _ (maskPay (idsOf ![0, 0] slices_S1000x1_o0_0_S200x1 X5) (rowsOf ![0, 0] inb_S1000x512_S200x512_0_0 B) (midId _ k)) K'
  isplitl [H12]
  · iexact H12
  iintro H12
  rw [wp_pure]
  imodintro
  rw [wp_bind]
  rw [k0_part5_eq_skeleton]; unfold k0_part5_skel
  iapply (load_step _ _ c arg14 _ _ _ _ _ _) $$ H14
  iintro H14
  iapply (head_step _ _ c arg1 _ T (preN i 1) (preN_lt i 1) _ _ (k0_off8_cl i) (k0_off9_cl i) _ _ _ _ _ _ _ _ (chunkOK (liveP i) (hT 0 _ (preN_lt i 1)) (hT 1 _ (preN_lt i 1))) _ _) $$ H1
  iintro H1
  iapply (pureIf_spec _ _ c arg12 _ (liveP i) (rowsOf ![200, 0] inb_S1000x512_S200x512_200_0 B) _ _ _ _ _ _ _)
  isplitl [H12]
  · iexact H12
  iintro H12
  iapply (mixIf_spec _ _ c arg12 _ (liveP i) (idsOf ![200, 0] slices_S1000x1_o200_0_S200x1 X5) (rowsOf ![200, 0] inb_S1000x512_S200x512_200_0 B) _ _ _ _ _ _ _ _ _ _ _ _ _ _ _)
  · intro _ _ k _ Q K'
    exact rmw_spec0 _ _ c arg12 Q _ _ rfl _ _ _ _ _ (maskPay (idsOf ![200, 0] slices_S1000x1_o200_0_S200x1 X5) (rowsOf ![200, 0] inb_S1000x512_S200x512_200_0 B) (midId _ k)) K'
  isplitl [H12]
  · iexact H12
  iintro H12
  iapply (load_step _ _ c arg14 _ _ _ _ _ _) $$ H14
  iintro H14
  iapply (head_step _ _ c arg1 _ T (preN i 2) (preN_lt i 2) _ _ (k0_off15_cl i) (k0_off16_cl i) _ _ _ _ _ _ _ _ (chunkOK (liveP i) (hT 0 _ (preN_lt i 2)) (hT 1 _ (preN_lt i 2))) _ _) $$ H1
  iintro H1
  iapply (pureIf_spec _ _ c arg12 _ (liveP i) (rowsOf ![400, 0] inb_S1000x512_S200x512_400_0 B) _ _ _ _ _ _ _)
  isplitl [H12]
  · iexact H12
  iintro H12
  iapply (mixIf_spec _ _ c arg12 _ (liveP i) (idsOf ![400, 0] slices_S1000x1_o400_0_S200x1 X5) (rowsOf ![400, 0] inb_S1000x512_S200x512_400_0 B) _ _ _ _ _ _ _ _ _ _ _ _ _ _ _)
  · intro _ _ k _ Q K'
    exact rmw_spec0 _ _ c arg12 Q _ _ rfl _ _ _ _ _ (maskPay (idsOf ![400, 0] slices_S1000x1_o400_0_S200x1 X5) (rowsOf ![400, 0] inb_S1000x512_S200x512_400_0 B) (midId _ k)) K'
  isplitl [H12]
  · iexact H12
  iintro H12
  iapply (load_step _ _ c arg14 _ _ _ _ _ _) $$ H14
  iintro H14
  rw [wp_pure]
  imodintro
  rw [wp_bind]
  rw [k0_part6_eq_skeleton]; unfold k0_part6_skel
  iapply (head_step _ _ c arg1 _ T (preN i 3) (preN_lt i 3) _ _ (k0_off22_cl i) (k0_off23_cl i) _ _ _ _ _ _ _ _ (chunkOK (liveP i) (hT 0 _ (preN_lt i 3)) (hT 1 _ (preN_lt i 3))) _ _) $$ H1
  iintro H1
  iapply (pureIf_spec _ _ c arg12 _ (liveP i) (rowsOf ![600, 0] inb_S1000x512_S200x512_600_0 B) _ _ _ _ _ _ _)
  isplitl [H12]
  · iexact H12
  iintro H12
  iapply (mixIf_spec _ _ c arg12 _ (liveP i) (idsOf ![600, 0] slices_S1000x1_o600_0_S200x1 X5) (rowsOf ![600, 0] inb_S1000x512_S200x512_600_0 B) _ _ _ _ _ _ _ _ _ _ _ _ _ _ _)
  · intro _ _ k _ Q K'
    exact rmw_spec0 _ _ c arg12 Q _ _ rfl _ _ _ _ _ (maskPay (idsOf ![600, 0] slices_S1000x1_o600_0_S200x1 X5) (rowsOf ![600, 0] inb_S1000x512_S200x512_600_0 B) (midId _ k)) K'
  isplitl [H12]
  · iexact H12
  iintro H12
  iapply (load_step _ _ c arg14 _ _ _ _ _ _) $$ H14
  iintro H14
  iapply (head_step _ _ c arg1 _ T (preN i 4) (preN_lt i 4) _ _ (k0_off29_cl i) (k0_off30_cl i) _ _ _ _ _ _ _ _ (chunkOK (liveP i) (hT 0 _ (preN_lt i 4)) (hT 1 _ (preN_lt i 4))) _ _) $$ H1
  iintro H1
  iapply (pureIf_spec _ _ c arg12 _ (liveP i) (rowsOf ![800, 0] inb_S1000x512_S200x512_800_0 B) _ _ _ _ _ _ _)
  isplitl [H12]
  · iexact H12
  iintro H12
  iapply (mixIf_spec _ _ c arg12 _ (liveP i) (idsOf ![800, 0] slices_S1000x1_o800_0_S200x1 X5) (rowsOf ![800, 0] inb_S1000x512_S200x512_800_0 B) _ _ _ _ _ _ _ _ _ _ _ _ _ _ _)
  · intro _ _ k _ Q K'
    exact rmw_spec0 _ _ c arg12 Q _ _ rfl _ _ _ _ _ (maskPay (idsOf ![800, 0] slices_S1000x1_o800_0_S200x1 X5) (rowsOf ![800, 0] inb_S1000x512_S200x512_800_0 B) (midId _ k)) K'
  isplitl [H12]
  · iexact H12
  iintro H12
  iapply (loadw_step _ _ c arg3 _ _ _ _ _ _) $$ H3
  iintro H3
  iapply (loadw_step _ _ c arg7 _ _ _ _ _ _) $$ H7
  iintro H7
  iapply (loadw_step _ _ c arg14 _ _ _ _ _ _) $$ H14
  iintro H14
  rw [wp_pure]
  imodintro
  rw [wp_bind]
  rw [k0_part7_eq_skeleton]; unfold k0_part7_skel
  iapply (store_step _ _ c arg14 _ _ _ _ _ _ _) $$ H14
  iintro H14
  iapply (loadw_step _ _ c arg4 _ _ _ _ _ _) $$ H4
  iintro H4
  iapply (load_step _ _ c arg13 _ _ _ _ _ _) $$ H13
  iintro H13
  iapply (head_step _ _ c arg1 _ T (curN i 0) (curN_lt i 0) _ _ (k0_off36_eq i) (k0_off37_eq i) _ _ _ _ _ _ _ _ (chunkOK (liveC i) (hT 0 _ (curN_lt i 0)) (hT 1 _ (curN_lt i 0))) _ _) $$ H1
  iintro H1
  iapply (pureIf_spec _ _ c arg12 _ (liveC i) (rowsOf ![0, 0] inb_S1000x512_S200x512_0_0 (k0_pay42 X2 X7)) _ _ _ _ _ _ _)
  isplitl [H12]
  · iexact H12
  iintro H12
  iapply (mixIf_spec _ _ c arg12 _ (liveC i) (idsOf ![0, 0] slices_S1000x1_o0_0_S200x1 X4) (rowsOf ![0, 0] inb_S1000x512_S200x512_0_0 (k0_pay42 X2 X7)) _ _ _ _ _ _ _ _ _ _ _ _ _ _ _)
  · intro _ _ k _ Q K'
    exact rmw_spec0 _ _ c arg12 Q _ _ rfl _ _ _ _ _ (maskPay (idsOf ![0, 0] slices_S1000x1_o0_0_S200x1 X4) (rowsOf ![0, 0] inb_S1000x512_S200x512_0_0 (k0_pay42 X2 X7)) (midId _ k)) K'
  isplitl [H12]
  · iexact H12
  iintro H12
  iapply (load_step _ _ c arg13 _ _ _ _ _ _) $$ H13
  iintro H13
  iapply (head_step _ _ c arg1 _ T (curN i 1) (curN_lt i 1) _ _ (k0_off43_eq i) (k0_off44_eq i) _ _ _ _ _ _ _ _ (chunkOK (liveC i) (hT 0 _ (curN_lt i 1)) (hT 1 _ (curN_lt i 1))) _ _) $$ H1
  iintro H1
  iapply (pureIf_spec _ _ c arg12 _ (liveC i) (rowsOf ![200, 0] inb_S1000x512_S200x512_200_0 (k0_pay42 X2 X7)) _ _ _ _ _ _ _)
  isplitl [H12]
  · iexact H12
  iintro H12
  rw [wp_pure]
  imodintro
  rw [wp_bind]
  rw [k0_part8_eq_skeleton]; unfold k0_part8_skel
  iapply (mixIf_spec _ _ c arg12 _ (liveC i) (idsOf ![200, 0] slices_S1000x1_o200_0_S200x1 X4) (rowsOf ![200, 0] inb_S1000x512_S200x512_200_0 (k0_pay42 X2 X7)) _ _ _ _ _ _ _ _ _ _ _ _ _ _ _)
  · intro _ _ k _ Q K'
    exact rmw_spec0 _ _ c arg12 Q _ _ rfl _ _ _ _ _ (maskPay (idsOf ![200, 0] slices_S1000x1_o200_0_S200x1 X4) (rowsOf ![200, 0] inb_S1000x512_S200x512_200_0 (k0_pay42 X2 X7)) (midId _ k)) K'
  isplitl [H12]
  · iexact H12
  iintro H12
  iapply (load_step _ _ c arg13 _ _ _ _ _ _) $$ H13
  iintro H13
  iapply (head_step _ _ c arg1 _ T (curN i 2) (curN_lt i 2) _ _ (k0_off50_eq i) (k0_off51_eq i) _ _ _ _ _ _ _ _ (chunkOK (liveC i) (hT 0 _ (curN_lt i 2)) (hT 1 _ (curN_lt i 2))) _ _) $$ H1
  iintro H1
  iapply (pureIf_spec _ _ c arg12 _ (liveC i) (rowsOf ![400, 0] inb_S1000x512_S200x512_400_0 (k0_pay42 X2 X7)) _ _ _ _ _ _ _)
  isplitl [H12]
  · iexact H12
  iintro H12
  iapply (mixIf_spec _ _ c arg12 _ (liveC i) (idsOf ![400, 0] slices_S1000x1_o400_0_S200x1 X4) (rowsOf ![400, 0] inb_S1000x512_S200x512_400_0 (k0_pay42 X2 X7)) _ _ _ _ _ _ _ _ _ _ _ _ _ _ _)
  · intro _ _ k _ Q K'
    exact rmw_spec0 _ _ c arg12 Q _ _ rfl _ _ _ _ _ (maskPay (idsOf ![400, 0] slices_S1000x1_o400_0_S200x1 X4) (rowsOf ![400, 0] inb_S1000x512_S200x512_400_0 (k0_pay42 X2 X7)) (midId _ k)) K'
  isplitl [H12]
  · iexact H12
  iintro H12
  iapply (load_step _ _ c arg13 _ _ _ _ _ _) $$ H13
  iintro H13
  iapply (head_step _ _ c arg1 _ T (curN i 3) (curN_lt i 3) _ _ (k0_off57_eq i) (k0_off58_eq i) _ _ _ _ _ _ _ _ (chunkOK (liveC i) (hT 0 _ (curN_lt i 3)) (hT 1 _ (curN_lt i 3))) _ _) $$ H1
  iintro H1
  iapply (pureIf_spec _ _ c arg12 _ (liveC i) (rowsOf ![600, 0] inb_S1000x512_S200x512_600_0 (k0_pay42 X2 X7)) _ _ _ _ _ _ _)
  isplitl [H12]
  · iexact H12
  iintro H12
  iapply (mixIf_spec _ _ c arg12 _ (liveC i) (idsOf ![600, 0] slices_S1000x1_o600_0_S200x1 X4) (rowsOf ![600, 0] inb_S1000x512_S200x512_600_0 (k0_pay42 X2 X7)) _ _ _ _ _ _ _ _ _ _ _ _ _ _ _)
  · intro _ _ k _ Q K'
    exact rmw_spec0 _ _ c arg12 Q _ _ rfl _ _ _ _ _ (maskPay (idsOf ![600, 0] slices_S1000x1_o600_0_S200x1 X4) (rowsOf ![600, 0] inb_S1000x512_S200x512_600_0 (k0_pay42 X2 X7)) (midId _ k)) K'
  isplitl [H12]
  · iexact H12
  iintro H12
  rw [wp_pure]
  imodintro
  iapply (load_step _ _ c arg13 _ _ _ _ _ _) $$ H13
  iintro H13
  iapply (head_step _ _ c arg1 _ T (curN i 4) (curN_lt i 4) _ _ (k0_off64_eq i) (k0_off65_eq i) _ _ _ _ _ _ _ _ (chunkOK (liveC i) (hT 0 _ (curN_lt i 4)) (hT 1 _ (curN_lt i 4))) _ _) $$ H1
  iintro H1
  iapply (pureIf_spec _ _ c arg12 _ (liveC i) (rowsOf ![800, 0] inb_S1000x512_S200x512_800_0 (k0_pay42 X2 X7)) _ _ _ _ _ _ _)
  isplitl [H12]
  · iexact H12
  iintro H12
  iapply (mixIf_spec _ _ c arg12 _ (liveC i) (idsOf ![800, 0] slices_S1000x1_o800_0_S200x1 X4) (rowsOf ![800, 0] inb_S1000x512_S200x512_800_0 (k0_pay42 X2 X7)) _ _ _ _ _ _ _ _ _ _ _ _ _ _ _)
  · intro _ _ k _ Q K'
    exact rmw_spec0 _ _ c arg12 Q _ _ rfl _ _ _ _ _ (maskPay (idsOf ![800, 0] slices_S1000x1_o800_0_S200x1 X4) (rowsOf ![800, 0] inb_S1000x512_S200x512_800_0 (k0_pay42 X2 X7)) (midId _ k)) K'
  isplitl [H12]
  · iexact H12
  iintro H12
  by_cases h32 : k0_cond32 i = 1#1
  · rw [dif_pos h32]; rw [if_pos h32, if_pos h32]
    rw [wp_bind]
    rw [k0_part1_eq_skeleton]; unfold k0_part1_skel
    iapply (loadw_step _ _ c arg6 _ _ _ _ _ _) $$ H6
    iintro H6
    iapply (load_step _ _ c arg14 _ _ _ _ _ _) $$ H14
    iintro H14
    iapply (head_step _ _ c arg1 _ T (lastN 0) (lastN_lt 0) _ _ k0_off71_eq k0_off72_eq _ _ _ _ _ _ _ _ (chunkOKif _ (liveC i) (hT 0 _ (lastN_lt 0)) (hT 1 _ (lastN_lt 0))) _ _) $$ H1
    iintro H1
    iapply (pureIf_spec _ _ c arg12 _ (liveC i) (rowsOf ![0, 0] inb_S1000x512_S200x512_0_0 (k0_pay75 (k0_pay74 X3 X7))) _ _ _ _ _ _ _)
    isplitl [H12]
    · iexact H12
    iintro H12
    iapply (mixIf_spec _ _ c arg12 _ (liveC i) (idsOf ![0, 0] slices_S1000x1_o0_0_S200x1 X6) (rowsOf ![0, 0] inb_S1000x512_S200x512_0_0 (k0_pay75 (k0_pay74 X3 X7))) _ _ _ _ _ _ _ _ _ _ _ _ _ _ _)
    · intro _ _ k _ Q K'
      exact rmw_spec0 _ _ c arg12 Q _ _ rfl _ _ _ _ _ (maskPay (idsOf ![0, 0] slices_S1000x1_o0_0_S200x1 X6) (rowsOf ![0, 0] inb_S1000x512_S200x512_0_0 (k0_pay75 (k0_pay74 X3 X7))) (midId _ k)) K'
    isplitl [H12]
    · iexact H12
    iintro H12
    iapply (load_step _ _ c arg14 _ _ _ _ _ _) $$ H14
    iintro H14
    iapply (head_step _ _ c arg1 _ T (lastN 1) (lastN_lt 1) _ _ k0_off78_eq k0_off79_eq _ _ _ _ _ _ _ _ (chunkOKif _ (liveC i) (hT 0 _ (lastN_lt 1)) (hT 1 _ (lastN_lt 1))) _ _) $$ H1
    iintro H1
    iapply (pureIf_spec _ _ c arg12 _ (liveC i) (rowsOf ![200, 0] inb_S1000x512_S200x512_200_0 (k0_pay75 (k0_pay74 X3 X7))) _ _ _ _ _ _ _)
    isplitl [H12]
    · iexact H12
    iintro H12
    rw [wp_pure]
    imodintro
    rw [wp_bind]
    rw [k0_part2_eq_skeleton]; unfold k0_part2_skel
    iapply (mixIf_spec _ _ c arg12 _ (liveC i) (idsOf ![200, 0] slices_S1000x1_o200_0_S200x1 X6) (rowsOf ![200, 0] inb_S1000x512_S200x512_200_0 (k0_pay75 (k0_pay74 X3 X7))) _ _ _ _ _ _ _ _ _ _ _ _ _ _ _)
    · intro _ _ k _ Q K'
      exact rmw_spec0 _ _ c arg12 Q _ _ rfl _ _ _ _ _ (maskPay (idsOf ![200, 0] slices_S1000x1_o200_0_S200x1 X6) (rowsOf ![200, 0] inb_S1000x512_S200x512_200_0 (k0_pay75 (k0_pay74 X3 X7))) (midId _ k)) K'
    isplitl [H12]
    · iexact H12
    iintro H12
    iapply (load_step _ _ c arg14 _ _ _ _ _ _) $$ H14
    iintro H14
    iapply (head_step _ _ c arg1 _ T (lastN 2) (lastN_lt 2) _ _ k0_off85_eq k0_off86_eq _ _ _ _ _ _ _ _ (chunkOKif _ (liveC i) (hT 0 _ (lastN_lt 2)) (hT 1 _ (lastN_lt 2))) _ _) $$ H1
    iintro H1
    iapply (pureIf_spec _ _ c arg12 _ (liveC i) (rowsOf ![400, 0] inb_S1000x512_S200x512_400_0 (k0_pay75 (k0_pay74 X3 X7))) _ _ _ _ _ _ _)
    isplitl [H12]
    · iexact H12
    iintro H12
    iapply (mixIf_spec _ _ c arg12 _ (liveC i) (idsOf ![400, 0] slices_S1000x1_o400_0_S200x1 X6) (rowsOf ![400, 0] inb_S1000x512_S200x512_400_0 (k0_pay75 (k0_pay74 X3 X7))) _ _ _ _ _ _ _ _ _ _ _ _ _ _ _)
    · intro _ _ k _ Q K'
      exact rmw_spec0 _ _ c arg12 Q _ _ rfl _ _ _ _ _ (maskPay (idsOf ![400, 0] slices_S1000x1_o400_0_S200x1 X6) (rowsOf ![400, 0] inb_S1000x512_S200x512_400_0 (k0_pay75 (k0_pay74 X3 X7))) (midId _ k)) K'
    isplitl [H12]
    · iexact H12
    iintro H12
    iapply (load_step _ _ c arg14 _ _ _ _ _ _) $$ H14
    iintro H14
    iapply (head_step _ _ c arg1 _ T (lastN 3) (lastN_lt 3) _ _ k0_off92_eq k0_off93_eq _ _ _ _ _ _ _ _ (chunkOKif _ (liveC i) (hT 0 _ (lastN_lt 3)) (hT 1 _ (lastN_lt 3))) _ _) $$ H1
    iintro H1
    iapply (pureIf_spec _ _ c arg12 _ (liveC i) (rowsOf ![600, 0] inb_S1000x512_S200x512_600_0 (k0_pay75 (k0_pay74 X3 X7))) _ _ _ _ _ _ _)
    isplitl [H12]
    · iexact H12
    iintro H12
    iapply (mixIf_spec _ _ c arg12 _ (liveC i) (idsOf ![600, 0] slices_S1000x1_o600_0_S200x1 X6) (rowsOf ![600, 0] inb_S1000x512_S200x512_600_0 (k0_pay75 (k0_pay74 X3 X7))) _ _ _ _ _ _ _ _ _ _ _ _ _ _ _)
    · intro _ _ k _ Q K'
      exact rmw_spec0 _ _ c arg12 Q _ _ rfl _ _ _ _ _ (maskPay (idsOf ![600, 0] slices_S1000x1_o600_0_S200x1 X6) (rowsOf ![600, 0] inb_S1000x512_S200x512_600_0 (k0_pay75 (k0_pay74 X3 X7))) (midId _ k)) K'
    isplitl [H12]
    · iexact H12
    iintro H12
    rw [wp_pure]
    imodintro
    rw [wp_bind]
    rw [k0_part3_eq_skeleton]; unfold k0_part3_skel
    iapply (load_step _ _ c arg14 _ _ _ _ _ _) $$ H14
    iintro H14
    iapply (head_step _ _ c arg1 _ T (lastN 4) (lastN_lt 4) _ _ k0_off99_eq k0_off100_eq _ _ _ _ _ _ _ _ (chunkOKif _ (liveC i) (hT 0 _ (lastN_lt 4)) (hT 1 _ (lastN_lt 4))) _ _) $$ H1
    iintro H1
    iapply (pureIf_spec _ _ c arg12 _ (liveC i) (rowsOf ![800, 0] inb_S1000x512_S200x512_800_0 (k0_pay75 (k0_pay74 X3 X7))) _ _ _ _ _ _ _)
    isplitl [H12]
    · iexact H12
    iintro H12
    iapply (mixIf_spec _ _ c arg12 _ (liveC i) (idsOf ![800, 0] slices_S1000x1_o800_0_S200x1 X6) (rowsOf ![800, 0] inb_S1000x512_S200x512_800_0 (k0_pay75 (k0_pay74 X3 X7))) _ _ _ _ _ _ _ _ _ _ _ _ _ _ _)
    · intro _ _ k _ Q K'
      exact rmw_spec0 _ _ c arg12 Q _ _ rfl _ _ _ _ _ (maskPay (idsOf ![800, 0] slices_S1000x1_o800_0_S200x1 X6) (rowsOf ![800, 0] inb_S1000x512_S200x512_800_0 (k0_pay75 (k0_pay74 X3 X7))) (midId _ k)) K'
    isplitl [H12]
    · iexact H12
    iintro H12
    iapply (load_step _ _ c arg12 _ _ _ _ _ _) $$ H12
    iintro H12
    iapply (loadw_step _ _ c arg8 _ _ _ _ _ _) $$ H8
    iintro H8
    iapply (loadw_step _ _ c arg9 _ _ _ _ _ _) $$ H9
    iintro H9
    iapply (loadw_step _ _ c arg10 _ _ _ _ _ _) $$ H10
    iintro H10
    rw [wp_pure]
    imodintro
    iapply (loadw_step _ _ c arg11 _ _ _ _ _ _) $$ H11
    iintro H11
    iapply (store_step _ _ c arg11 _ _ _ _ _ _ _) $$ H11
    iintro H11
    rw [wp_pure]
    imodintro
    iapply HK
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14
  · rw [dif_neg h32]; rw [if_neg h32, if_neg h32]
    rw [wp_pure]
    imodintro
    iapply HK
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14

end Cert.KernelIdeal.Hand
end
-- ==== Proof.Run.lean ====
/-
  Hand-written. The launch: the kernel's body at every point of the grid, from an invariant of the three
  scratch buffers that each point re-establishes, to what every run of the program ends in.
-/
module

public import proofs.«01_k».proof.Proof.Body

@[expose] public section

noncomputable section

namespace Cert.KernelIdeal.Hand

open Cert.KernelIdeal Cert.KernelIdeal.Gen Cert.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]
local notation "𝕄" => MT nD τ sig Unit (Elt F) ℕ (UR sig nD τ) ℕ

variable (m : (ℓ : Loc nD τ sig) → Buf (Elt F) ℓ) (ρ : Dev nD → PrngReg)

/-- The contents of the unscoped buffers once the host's operations before the kernel have run. -/
def V (c : Dev nD) (b : Ref sig .tc) : Buf (Elt F) ((c : Thread nD τ).loc b) :=
  StableHlo.after hostOps0 (fun b => m (c, b)) b

/-- The prefetched table's contents. -/
def adm (p : Fin 1) : (pcfgs (F := F) p).Adm := ⟨fun k => V m (0 : Fin 1) (pre0.ref k), trivial⟩

/-- The pipeline at those contents. -/
abbrev cfgA : Pipeline.Cfg sig Λ₀ := Pipeline.pin (pcfgs (F := F)) (adm m) 0

/-- The block window `w` reads at point `t`. -/
def blkOf (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The input windows' blocks at point `t`, each at its own shape. -/
def bX0 (c : Dev nD) (t : Fin grid0.N) : Vec F S1000x512 .f32 := blkOf m c (0 : Fin 10) t
def bX1 (c : Dev nD) (t : Fin grid0.N) : Vec F S1000x512 .f32 := blkOf m c (1 : Fin 10) t
def bI2 (c : Dev nD) (t : Fin grid0.N) : Vec F S1000x1 .i32 := blkOf m c (2 : Fin 10) t
def bI3 (c : Dev nD) (t : Fin grid0.N) : Vec F S1000x1 .i32 := blkOf m c (3 : Fin 10) t
def bI4 (c : Dev nD) (t : Fin grid0.N) : Vec F S1000x1 .i32 := blkOf m c (4 : Fin 10) t
def bW5 (c : Dev nD) (t : Fin grid0.N) : Vec F S512x512 .f32 := blkOf m c (5 : Fin 10) t
def bB6 (c : Dev nD) (t : Fin grid0.N) : Vec F S1x512 .f32 := blkOf m c (6 : Fin 10) t
def bW7 (c : Dev nD) (t : Fin grid0.N) : Vec F S512x128 .f32 := blkOf m c (7 : Fin 10) t
def bB8 (c : Dev nD) (t : Fin grid0.N) : Vec F S1x128 .f32 := blkOf m c (8 : Fin 10) t
/-- The table. -/
def tabOf (c : Dev nD) : S250x2.Idx → Elt F .i32 := V m c main_v24

/-- The pooled maxima after the point's first two parts, and after its last. -/
def midP (c : Dev nD) (t : Fin grid0.N) (P : S136x512.Idx → Elt F .f32) (B : Vec F S1000x512 .f32) : S136x512.Idx → Elt F .f32 :=
  poolCur (grid0.coords t) (tabOf m c) (bI2 m c t) (k0_pay42 (bX0 m c t) (bW5 m c t)) (poolPre (grid0.coords t) (tabOf m c) (bI3 m c t) B P)
def endP (c : Dev nD) (t : Fin grid0.N) (P : S136x512.Idx → Elt F .f32) (B : Vec F S1000x512 .f32) : S136x512.Idx → Elt F .f32 :=
  poolLast (grid0.coords t) (tabOf m c) (bI4 m c t) (k0_pay75 (k0_pay74 (bX1 m c t) (bW5 m c t))) (midP m c t P B)
/-- What the point leaves in the pooled maxima and in the second of the two row buffers. -/
def nextP (c : Dev nD) (t : Fin grid0.N) (P : S136x512.Idx → Elt F .f32) (B : Vec F S1000x512 .f32) : S136x512.Idx → Elt F .f32 :=
  if k0_cond32 (grid0.coords t) = 1#1 then endP m c t P B else midP m c t P B
def nextB (c : Dev nD) (t : Fin grid0.N) : Vec F S1000x512 .f32 := k0_pay75 (k0_pay74 (bX1 m c t) (bW5 m c t))
/-- What the last point writes. -/
def lastO (c : Dev nD) (t : Fin grid0.N) (P : S136x512.Idx → Elt F .f32) (B : Vec F S1000x512 .f32) : Vec F S128x128 .f32 :=
  outFn (endP m c t P B) (bB6 m c t) (bW7 m c t) (bB8 m c t)

variable (Inv : Dev nD → ℕ → (S136x512.Idx → Elt F .f32) → Vec F S1000x512 .f32 → Prop)

/-- What a point may leave in a window's buffer: an input as found, and in the output, at the last point, the
    output of some scratch contents the invariant allows. -/
def afterOf (c : Dev nD) : (w : Fin (cfgA m).W) → Fin (cfgA m).N → (Y X : ((cfgA m).win w).block.Idx → Elt F ((cfgA m).win w).elt) → Prop
  | ⟨9, _⟩, t, _, X => k0_cond32 (grid0.coords t) = 1#1 → ∃ P B, Inv c t.val P B ∧ X = lastO m c t P B
  | _, _, Y, X => X = Y

abbrev sc0 : Memref sig .tc .vmem S136x512 .f32 := Memref.whole cc0_scratch0
abbrev sc1 : Memref sig .tc .vmem S1000x512 .f32 := Memref.whole cc0_scratch1
abbrev sc2 : Memref sig .tc .vmem S1000x512 .f32 := Memref.whole cc0_scratch2
abbrev tbM : Memref sig .tc .smem S250x2 .i32 := Memref.whole main_v24

/-- The invariant before point `n`: the scratch buffers at contents `Inv` allows, the table held. -/
def PhiOf (c : Dev nD) (n : ℕ) : sProp 𝕄 :=
  iprop((∃ P B, ⌜Inv c n P B⌝ ∗ owns (c : Thread nD τ) sc0 fullShare P ∗ (∃ A, owns (c : Thread nD τ) sc1 fullShare A) ∗ owns (c : Thread nD τ) sc2 fullShare B)
    ∗ (∃ r, prngReg c r) ∗ owns (c : Thread nD τ) tbM fullShare.right (tabOf m c))

/-- The proof data. -/
def rdat (c : Dev nD) : RDat τ (Elt F) Unit ℕ (UR sig nD τ) ℕ (cfgA m) c where
  A w := V m c (Pipeline.arrRef spec0 w)
  after := afterOf m Inv c
  Φ n := PhiOf m Inv c n.val
  q w := Pipeline.shareOf spec0 w
  owed _ := 0

theorem finds_in (c : Dev nD) (w : Fin 10) (hw : (spec0 w).isOut = false) (h9 : ∀ t Y X, (rdat m Inv c).after w t Y X → X = Y) (t : Fin (cfgA m).N) (Y)
    (h : (rdat m Inv c).Finds w t Y) : ∃ d, Y = (rdat m Inv c).fetched w t d :=
  (rdat m Inv c).finds_in_eq_fetched w hw (fun _ _ _ => rfl) h9 t Y h

set_option maxHeartbeats 4000000 in
/-- The body at a point. -/
theorem body_obligation (hT : ∀ c b n hn, (wd (tabOf m c) b n hn).toNat < 128)
    (hstep : ∀ c (t : Fin grid0.N) P B, Inv c t.val P B → Inv c (t.val + 1) (nextP m c t P B) (nextB m c t))
    (c : Dev nD) : (rdat m Inv c).BodyObligation (defs₀ (F := F)) Variants.none () Set.univ := by
  intro t Y hY
  have row : defs₀ (F := F) .tc (cfgA m).body ((cfgA m).bodyArgs t ((cfgA m).slots t)) = cc0__ff_kernel (grid0.coords t) tbM (Memref.isWhole_whole _) (spec0_0.stage ((cfgA m).slots t 0)) (hstage0_0 _) (spec0_1.stage ((cfgA m).slots t 1)) (hstage0_1 _) (spec0_2.stage ((cfgA m).slots t 2)) (hstage0_2 _) (spec0_3.stage ((cfgA m).slots t 3)) (hstage0_3 _) (spec0_4.stage ((cfgA m).slots t 4)) (hstage0_4 _) (spec0_5.stage ((cfgA m).slots t 5)) (hstage0_5 _) (spec0_6.stage ((cfgA m).slots t 6)) (hstage0_6 _) (spec0_7.stage ((cfgA m).slots t 7)) (hstage0_7 _) (spec0_8.stage ((cfgA m).slots t 8)) (hstage0_8 _) (spec0_9.stage ((cfgA m).slots t 9)) (hstage0_9 _) sc0 (Memref.isWhole_whole _) sc1 (Memref.isWhole_whole _) sc2 (Memref.isWhole_whole _) := by
    unfold defs₀; rw [Defs.onTc_tc]
  obtain ⟨d0, e0⟩ := finds_in m Inv c 0 rfl (fun _ _ _ h => h) t _ (hY (0 : Fin 10))
  obtain ⟨d1, e1⟩ := finds_in m Inv c 1 rfl (fun _ _ _ h => h) t _ (hY (1 : Fin 10))
  obtain ⟨d2, e2⟩ := finds_in m Inv c 2 rfl (fun _ _ _ h => h) t _ (hY (2 : Fin 10))
  obtain ⟨d3, e3⟩ := finds_in m Inv c 3 rfl (fun _ _ _ h => h) t _ (hY (3 : Fin 10))
  obtain ⟨d4, e4⟩ := finds_in m Inv c 4 rfl (fun _ _ _ h => h) t _ (hY (4 : Fin 10))
  obtain ⟨d5, e5⟩ := finds_in m Inv c 5 rfl (fun _ _ _ h => h) t _ (hY (5 : Fin 10))
  obtain ⟨d6, e6⟩ := finds_in m Inv c 6 rfl (fun _ _ _ h => h) t _ (hY (6 : Fin 10))
  obtain ⟨d7, e7⟩ := finds_in m Inv c 7 rfl (fun _ _ _ h => h) t _ (hY (7 : Fin 10))
  obtain ⟨d8, e8⟩ := finds_in m Inv c 8 rfl (fun _ _ _ h => h) t _ (hY (8 : Fin 10))
  have f0 : Y (0 : Fin 10) = bX0 m c t := e0
  have f1 : Y (1 : Fin 10) = bX1 m c t := e1
  have f2 : Y (2 : Fin 10) = bI2 m c t := e2
  have f3 : Y (3 : Fin 10) = bI3 m c t := e3
  have f4 : Y (4 : Fin 10) = bI4 m c t := e4
  have f5 : Y (5 : Fin 10) = bW5 m c t := e5
  have f6 : Y (6 : Fin 10) = bB6 m c t := e6
  have f7 : Y (7 : Fin 10) = bW7 m c t := e7
  have f8 : Y (8 : Fin 10) = bB8 m c t := e8
  clear e0 e1 e2 e3 e4 e5 e6 e7 e8 d0 d1 d2 d3 d4 d5 d6 d7 d8
  rw [row, bigSep_W0, bigSep_W0]
  rw [f0, f1, f2, f3, f4, f5, f6, f7, f8]
  show iprop(PhiOf m Inv c t.val ∗ (rdat m Inv c).owesAt () t.castSucc ∗ _) ⊢ _
  unfold PhiOf
  iintro ⟨⟨⟨%P, %B, %hI, HP, ⟨%A, HA⟩, HB⟩, Hg, HTab⟩, HO, H0, H1, H2, H3, H4, H5, H6, H7, H8, H9⟩
  iapply (body_spec c (grid0.coords t) tbM (Memref.isWhole_whole _) (spec0_0.stage ((cfgA m).slots t 0)) (hstage0_0 _) (spec0_1.stage ((cfgA m).slots t 1)) (hstage0_1 _) (spec0_2.stage ((cfgA m).slots t 2)) (hstage0_2 _) (spec0_3.stage ((cfgA m).slots t 3)) (hstage0_3 _) (spec0_4.stage ((cfgA m).slots t 4)) (hstage0_4 _) (spec0_5.stage ((cfgA m).slots t 5)) (hstage0_5 _) (spec0_6.stage ((cfgA m).slots t 6)) (hstage0_6 _) (spec0_7.stage ((cfgA m).slots t 7)) (hstage0_7 _) (spec0_8.stage ((cfgA m).slots t 8)) (hstage0_8 _) (spec0_9.stage ((cfgA m).slots t 9)) (hstage0_9 _) sc0 (Memref.isWhole_whole _) sc1 (Memref.isWhole_whole _) sc2 (Memref.isWhole_whole _)
    fullShare.right fullShare fullShare fullShare fullShare fullShare fullShare fullShare fullShare fullShare (tabOf m c) (hT c)
    (bX0 m c t) (bX1 m c t) (bI2 m c t) (bI3 m c t) (bI4 m c t) (bW5 m c t) (bB6 m c t) (bW7 m c t) (bB8 m c t) (Y (9 : Fin 10)) P A B _)
  isplitl [HTab]; · iexact HTab
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HP]; · iexact HP
  isplitl [HA]; · iexact HA
  isplitl [HB]; · iexact HB
  iintro ⟨HTab, H0, H1, H2, H3, H4, H5, H6, H7, H8, H9, HP, HA, HB⟩
  isplitl [HP HA HB Hg HTab]
  · iapply (show PhiOf m Inv c (t.val + 1) ⊢ (rdat m Inv c).Φ t.succ from .rfl)
    unfold PhiOf
    isplitl [HP HA HB]
    · iexists (nextP m c t P B), (nextB m c t)
      isplitr; · ipureintro; exact hstep c t P B hI
      isplitl [HP]; · iexact HP
      isplitl [HA]; · iexists _; iexact HA
      iexact HB
    isplitl [Hg]; · iexact Hg
    iexact HTab
  isplitl [HO]; · iexact HO
  isplitl [H0]; · iexists (bX0 m c t); isplitr; · ipureintro; rfl
                  iexact H0
  isplitl [H1]; · iexists (bX1 m c t); isplitr; · ipureintro; rfl
                  iexact H1
  isplitl [H2]; · iexists (bI2 m c t); isplitr; · ipureintro; rfl
                  iexact H2
  isplitl [H3]; · iexists (bI3 m c t); isplitr; · ipureintro; rfl
                  iexact H3
  isplitl [H4]; · iexists (bI4 m c t); isplitr; · ipureintro; rfl
                  iexact H4
  isplitl [H5]; · iexists (bW5 m c t); isplitr; · ipureintro; rfl
                  iexact H5
  isplitl [H6]; · iexists (bB6 m c t); isplitr; · ipureintro; rfl
                  iexact H6
  isplitl [H7]; · iexists (bW7 m c t); isplitr; · ipureintro; rfl
                  iexact H7
  isplitl [H8]; · iexists (bB8 m c t); isplitr; · ipureintro; rfl
                  iexact H8
  iexists (if k0_cond32 (grid0.coords t) = 1#1 then lastO m c t P B else Y (9 : Fin 10))
  isplitr
  · ipureintro
    intro hc
    exact ⟨P, B, hI, if_pos hc⟩
  iexact H9

/-- The tables are never written, and the scratch buffers may start at anything. -/
theorem phi_in (h0 : ∀ c P B, Inv c 0 P B) (c : Dev nD) :
    iprop(Pipeline.ΦA spec0 c ∗ Pipeline.ΦT pre0 (adm m 0).1 c) ⊢ (rdat m Inv c).Φ 0 := by
  show _ ⊢ PhiOf m Inv c 0
  unfold Pipeline.ΦA Pipeline.ΦT PhiOf Pipeline.prefHeld
  rw [scopedRest0_eq]
  simp only [sc0, sc1, sc2, tbM, owns_whole]
  iintro ⟨⟨⟨⟨%P, HP⟩, HA, ⟨%B, HB⟩⟩, Hg⟩, HT⟩
  isplitl [HP HA HB]
  · iexists P, B
    isplitr; · ipureintro; exact h0 c P B
    isplitl [HP]; · iexact HP
    isplitl [HA]; · iexact HA
    iexact HB
  isplitl [Hg]; · iexact Hg
  have e : c = (0 : Fin 1) := Subsingleton.elim _ _
  subst e
  iapply (show _ ⊢ _ from (BI.bigSep_univ_eq_bigSepL [(0 : Fin 1)] (by decide) (by decide) _).le) $$ HT

theorem phi_out (c : Dev nD) : (rdat m Inv c).Φ (Fin.last (cfgA m).N) ⊢ Pipeline.ΦA spec0 c := by
  show PhiOf m Inv c _ ⊢ _
  unfold Pipeline.ΦA PhiOf
  rw [scopedRest0_eq]
  simp only [sc0, sc1, sc2, tbM, owns_whole]
  iintro ⟨⟨%P, %B, -, HP, HA, HB⟩, Hg, -⟩
  isplitr [Hg]
  · isplitl [HP]; · iexists P; iexact HP
    isplitl [HA]; · iexact HA
    iexists B; iexact HB
  iexact Hg

set_option backward.isDefEq.respectTransparency.types false in
theorem run_main (hT : ∀ c b n hn, (wd (tabOf m c) b n hn).toNat < 128)
    (h0 : ∀ c P B, Inv c 0 P B)
    (hstep : ∀ c (t : Fin grid0.N) P B, Inv c t.val P B → Inv c (t.val + 1) (nextP m c t P B) (nextB m c t)) :
    θ_run defs (onTc (τ := τ) (main (F := F))) (s₀ m ρ)
      (fun r => RDat.FramePost (cfgA m) (rdat m Inv) (V m) r ∧ r.2.sem = fun _ => 0) :=
  Pipeline.RDat.θ_run_frameP_track_shared (Q' := _) (pcfgs (F := F)) (adm m) 0 launch₀0 defs₀ Variants.none (rdat m Inv) m ρ main
    (hbody := body_obligation m Inv hT hstep) (hq := fun _ _ _ => rfl) (howed := fun _ _ => rfl) (V := V m)
    (hmain := Pipeline.hmainP_prefix (pcfgs (F := F)) 0 defs₀ Variants.none m main hostOps0 hostOps0_sub (by repeat' constructor) fun c => main_chain c)
    (hA := fun _ _ => rfl)
    (hpf := fun c k => by have e : c = (0 : Fin 1) := Subsingleton.elim _ _
                          subst e; rfl)
    (hin := phi_in m Inv h0) (hout := phi_out m Inv)

end Cert.KernelIdeal.Hand

end
-- ==== Proof.Graphs.lean ====
/-
  Hand-written. The precondition on the graph ids, read as arithmetic: the id of row `r` as a number never
  falls, rises by at most one from row to row, starts at 0 and ends at 127.
-/
module

public import proofs.«01_k».proof.Pre_graphs
public import Idealize.ShloMosaic.Lib.ReduceAll
public import Idealize.ShloMosaic.Lib.StableHlo.Predicate
public import Idealize.ShloMosaic.Lib.Pipeline.Value
public import Mathlib.Order.Monotone.Basic
public import Mathlib.Tactic.Linarith

@[expose] public section

noncomputable section

namespace Cert.Pool

open Idealize.ShloMosaic
open Idealize.ShloMosaic.Pipeline

/-- One id per row. -/
abbrev SRows : Shape := ⟨1, ![50000]⟩

/-- Row `r`'s id as a number; past the last row, 127. -/
def gid (b : SRows.Idx → BitVec 32) (r : ℕ) : ℕ :=
  if h : r < 50000 then (b (Shape.Idx.ofFin ⟨r, h⟩)).toNat else 127

theorem gid_of_lt (b : SRows.Idx → BitVec 32) (r : ℕ) (h : r < 50000) : gid b r = (b (Shape.Idx.ofFin ⟨r, h⟩)).toNat := by
  unfold gid; rw [dif_pos h]

/-- What the precondition says of the ids. -/
structure Graphs (b : SRows.Idx → BitVec 32) : Prop where
  first : b (Shape.Idx.ofFin ⟨0, by decide⟩) = 0#32
  last : b (Shape.Idx.ofFin ⟨49999, by decide⟩) = 127#32
  step : ∀ r (h : r + 1 < 50000), b (Shape.Idx.ofFin ⟨r + 1, h⟩) - b (Shape.Idx.ofFin ⟨r, by omega⟩) = 0#32 ∨
    b (Shape.Idx.ofFin ⟨r + 1, h⟩) - b (Shape.Idx.ofFin ⟨r, by omega⟩) = 1#32

section

variable {b : SRows.Idx → BitVec 32} (hb : Graphs b)
include hb

theorem gid_zero : gid b 0 = 0 := by
  rw [gid_of_lt b 0 (by decide), hb.first]; rfl

theorem gid_last : gid b 49999 = 127 := by
  rw [gid_of_lt b 49999 (by decide), hb.last]; rfl

theorem gid_step_le (r : ℕ) (h : r + 1 < 50000) (hr : gid b r ≤ r) : gid b (r + 1) = gid b r ∨ gid b (r + 1) = gid b r + 1 := by
  rw [gid_of_lt b _ h, gid_of_lt b r (by omega)] at *
  have hs := hb.step r h
  generalize b (Shape.Idx.ofFin ⟨r + 1, h⟩) = x at *
  generalize b (Shape.Idx.ofFin ⟨r, by omega⟩) = y at *
  have hx := x.isLt
  have hy := y.isLt
  rcases hs with hs | hs
  · left
    have e := congrArg BitVec.toNat hs
    rw [BitVec.toNat_sub] at e
    have h0 : (0#32).toNat = 0 := rfl
    rw [h0] at e; omega
  · right
    have e := congrArg BitVec.toNat hs
    rw [BitVec.toNat_sub] at e
    have h1 : (1#32).toNat = 1 := rfl
    rw [h1] at e; omega

theorem gid_le_self : ∀ r, r < 50000 → gid b r ≤ r
  | 0, _ => by rw [gid_zero hb]
  | r + 1, h => by
    have ih := gid_le_self r (by omega)
    rcases gid_step_le hb r h ih with e | e <;> omega

theorem gid_step (r : ℕ) (h : r + 1 < 50000) : gid b (r + 1) = gid b r ∨ gid b (r + 1) = gid b r + 1 :=
  gid_step_le hb r h (gid_le_self hb r (by omega))

theorem gid_add_le : ∀ k r, r + k < 50000 → gid b r ≤ gid b (r + k)
  | 0, r, _ => le_rfl
  | k + 1, r, h => by
    have ih := gid_add_le k r (by omega)
    have hs := gid_step hb (r + k) (by omega)
    rw [← Nat.add_assoc] at *
    omega

/-- The ids never fall. -/
theorem gid_mono {r s : ℕ} (hrs : r ≤ s) (hs : s < 50000) : gid b r ≤ gid b s := by
  have h := gid_add_le hb (s - r) r (by omega)
  rwa [show r + (s - r) = s by omega] at h

theorem gid_lt (r : ℕ) : gid b r < 128 := by
  by_cases h : r < 50000
  · have := gid_mono hb (r := r) (s := 49999) (by omega) (by decide)
    rw [gid_last hb] at this; omega
  · unfold gid; rw [dif_neg h]; decide

/-- Every graph up to a row's id has a row no later. -/
theorem gid_surj_le : ∀ r, r < 50000 → ∀ g, g ≤ gid b r → ∃ s, s ≤ r ∧ gid b s = g
  | 0, _, g, hg => ⟨0, le_rfl, by rw [gid_zero hb] at *; omega⟩
  | r + 1, h, g, hg => by
    by_cases hle : g ≤ gid b r
    · obtain ⟨s, hs, e⟩ := gid_surj_le r (by omega) g hle
      exact ⟨s, by omega, e⟩
    · refine ⟨r + 1, le_rfl, ?_⟩
      rcases gid_step hb r h with e | e <;> omega

/-- No graph is empty. -/
theorem gid_surj (g : ℕ) (hg : g < 128) : ∃ r, r < 50000 ∧ gid b r = g := by
  obtain ⟨s, hs, e⟩ := gid_surj_le hb 49999 (by decide) g (by rw [gid_last hb]; omega)
  exact ⟨s, by omega, e⟩

end

theorem andi1 {x y : BitVec 1} (h : IntOp.andi x y = 1#1) : x = 1#1 ∧ y = 1#1 := IntOp.andi_eq_one.1 h

theorem ori1 {x y : BitVec 1} (h : IntOp.ori x y = 1#1) : x = 1#1 ∨ y = 1#1 := by
  revert x y; decide

/-- A slice of one row, as a scalar. -/
theorem slice_one (n : ℕ) (hn : n < 50000) (b : SRows.Idx → BitVec 32) (hs : SRows.Slices ![n] Cert.Pre_graphs.S1) (hc : Cert.Pre_graphs.S1.ShapeCasts Cert.Pre_graphs.S_)
    (j : Cert.Pre_graphs.S_.Idx) : shapeCast Cert.Pre_graphs.S_ (extractStridedSlice Cert.Pre_graphs.S1 ![n] b hs) hc j = b (Shape.Idx.ofFin ⟨n, hn⟩) := by
  rw [shapeCast_apply _ hc j (Shape.Idx.ofFin (0 : Fin 1)) (by
    have h1 := (Cert.Pre_graphs.S1.rowMajor (Shape.Idx.ofFin (0 : Fin 1))).isLt
    have h2 := (Cert.Pre_graphs.S_.rowMajor j).isLt
    have e1 : Cert.Pre_graphs.S1.numel = 1 := by decide
    have e2 : Cert.Pre_graphs.S_.numel = 1 := by decide
    omega)]
  exact extractStridedSlice_apply _ _ _ _ _ fun a => by have : a = 0 := Subsingleton.elim _ _
                                                        subst this; rfl

/-- The difference of a row and the one before. -/
theorem slice_sub (b : SRows.Idx → BitVec 32) (h1 : SRows.Slices ![1] Cert.Pre_graphs.S49999) (h0 : SRows.Slices ![0] Cert.Pre_graphs.S49999) (r : ℕ) (hr : r + 1 < 50000) :
    subi (extractStridedSlice Cert.Pre_graphs.S49999 ![1] b h1) (extractStridedSlice Cert.Pre_graphs.S49999 ![0] b h0) (Shape.Idx.ofFin (⟨r, by omega⟩ : Fin 49999))
      = b (Shape.Idx.ofFin ⟨r + 1, hr⟩) - b (Shape.Idx.ofFin ⟨r, by omega⟩) := by
  show (extractStridedSlice _ _ _ _ _ : BitVec 32) - extractStridedSlice _ _ _ _ _ = _
  rw [extractStridedSlice_apply ![1] b h1 _ (Shape.Idx.ofFin ⟨r + 1, hr⟩) fun a => by
      have : a = 0 := Subsingleton.elim _ _
      subst this; exact Nat.add_comm _ _,
    extractStridedSlice_apply ![0] b h0 _ (Shape.Idx.ofFin ⟨r, by omega⟩) fun a => by
      have : a = 0 := Subsingleton.elim _ _
      subst this; exact (Nat.zero_add _).symm]

/-- The printed precondition is the structure above. -/
theorem graphs_of_fn [Cert.Pre_graphs.Facts] {F : FTy → Type} [FloatOps F] (x0 : FVec F Cert.Pre_graphs.S50000x512 .f32) (b : IVec Cert.Pre_graphs.S50000 32)
    (x2 : FVec F Cert.Pre_graphs.S512x512 .f32) (x3 : FVec F Cert.Pre_graphs.S512 .f32) (x4 : FVec F Cert.Pre_graphs.S512x128 .f32) (x5 : FVec F Cert.Pre_graphs.S128 .f32)
    (h : Cert.Pre_graphs.fn x0 b x2 x3 x4 x5 = fun _ => 1#1) : Graphs b := by
  have h0 := congrFun h (fun a => a.elim0)
  unfold Cert.Pre_graphs.fn at h0
  obtain ⟨h1, hstep⟩ := andi1 h0
  obtain ⟨hf, hl⟩ := andi1 h1
  refine ⟨?_, ?_, fun r hr => ?_⟩
  · exact (slice_one 0 _ b _ _ _).symm.trans (StableHlo.Predicate.cmpi_eq_iff.1 hf)
  · exact (slice_one 49999 _ b _ _ _).symm.trans (StableHlo.Predicate.cmpi_eq_iff.1 hl)
  · haveI : Subsingleton Cert.Pre_graphs.S_.Idx := ⟨fun _ _ => funext fun a => a.elim0⟩
    have e := Host.reduce_andi_all _ _ _ _ _ hstep (Shape.Idx.ofFin (⟨r, by omega⟩ : Fin 49999))
    rcases ori1 e with e | e
    · left; exact (slice_sub b _ _ r hr).symm.trans (StableHlo.Predicate.cmpi_eq_iff.1 e)
    · right; exact (slice_sub b _ _ r hr).symm.trans (StableHlo.Predicate.cmpi_eq_iff.1 e)

end Cert.Pool

end
-- ==== Proof.Table.lean ====
/-
  Hand-written. The prefetched table: row `n` holds the ids of the first and of the last row of the `n`-th
  stretch of 200 rows.
-/
module

public import proofs.«01_k».proof.Proof.Run
public import proofs.«01_k».proof.Proof.Graphs
public import Idealize.ShloMosaic.Lib.StableHlo.Predicate
public import Idealize.ShloMosaic.Lib.StableHlo.Run
public import Idealize.ShloMosaic.Lib.Claim

@[expose] public section

noncomputable section

namespace Cert.KernelIdeal.Hand

open Cert.KernelIdeal Cert.KernelIdeal.Gen Cert.Pool
open Idealize.ShloMosaic Idealize.ShloMosaic.TcCoe Idealize.ShloMosaic.Tactic Idealize.ShloMosaic.StableHlo

variable {F : FTy → Type} [FloatOps F] [∀ e, Nonempty (Elt F e)]
variable (m : (ℓ : Loc nD τ sig) → Buf (Elt F) ℓ)

/-- The graph ids @main is given. -/
abbrev ids (c : Dev nD) : SRows.Idx → BitVec 32 := m (c, Proc.devRef .tc main_arg1)

/-- The row a stretch begins at, with numpy's reading of a negative index. -/
abbrev startW : IVec S250 32 := muli (iotaInDim S250 32 0) (broadcastInDim S250 ![] bcast_S_S250 (constantI S_ 32 200#32))
abbrev endW : IVec S250 32 :=
  subi (addi startW (broadcastInDim S250 ![] bcast_S_S250 (constantI S_ 32 200#32))) (broadcastInDim S250 ![] bcast_S_S250 (constantI S_ 32 1#32))
abbrev wrapW (w : IVec S250 32) : IVec S250 32 :=
  select (cmpi .slt w (broadcastInDim S250 ![] bcast_S_S250 (constantI S_ 32 0#32))) (addi w (broadcastInDim S250 ![] bcast_S_S250 (constantI S_ 32 50000#32))) w
abbrev takeW (b : SRows.Idx → BitVec 32) (w : IVec S250 32) : IVec S250x1 32 :=
  broadcastInDim S250x1 ![0] bcast_S250_S250x1_0
    (Host.gather gather_S50000_S250x1_S250_n_0_n_n_0_1_1 b (broadcastInDim S250x1 ![0] bcast_S250_S250x1_0 (wrapW w)))

theorem tab_eq (c : Dev nD) : tabOf m c = concatenate S250x2 1 [⟨S250x1, takeW (ids m c) startW⟩, ⟨S250x1, takeW (ids m c) endW⟩] concatenates_S250x1_S250x1_S250x2_d1 := by
  unfold tabOf V hostOps0
  after_results

theorem startW_toNat (n : Fin 250) : (wrapW startW (Shape.Idx.ofFin n)).toInt.toNat = 200 * n.val := by
  show (Scalar.select (IntOp.cmpi .slt (BitVec.ofNat 32 n.val * 200#32) 0#32) (BitVec.ofNat 32 n.val * 200#32 + 50000#32) (BitVec.ofNat 32 n.val * 200#32)).toInt.toNat = _
  revert n; decide +kernel

theorem endW_toNat (n : Fin 250) : (wrapW endW (Shape.Idx.ofFin n)).toInt.toNat = 200 * n.val + 199 := by
  show (Scalar.select (IntOp.cmpi .slt (BitVec.ofNat 32 n.val * 200#32 + 200#32 - 1#32) 0#32) (BitVec.ofNat 32 n.val * 200#32 + 200#32 - 1#32 + 50000#32) (BitVec.ofNat 32 n.val * 200#32 + 200#32 - 1#32)).toInt.toNat = _
  revert n; decide +kernel

theorem take_at (b : SRows.Idx → BitVec 32) (w : IVec S250 32) (n : Fin 250) (r : ℕ) (hr : r < 50000) (h : (wrapW w (Shape.Idx.ofFin n)).toInt.toNat = r) :
    takeW b w (Predicate.ixP n) = b (Shape.Idx.ofFin ⟨r, hr⟩) := by
  refine (Predicate.bcast_col1 bcast_S250_S250x1_0 _ n).trans ?_
  rw [Predicate.gather_take _ rfl rfl rfl rfl _ _ _ (by decide)]
  congr 2
  apply Fin.ext
  have e : broadcastInDim S250x1 ![0] bcast_S250_S250x1_0 (wrapW w) (Predicate.ixP n) = wrapW w (Shape.Idx.ofFin n) :=
    Predicate.bcast_col1 bcast_S250_S250x1_0 _ n
  show min (broadcastInDim S250x1 ![0] bcast_S250_S250x1_0 (wrapW w) (Predicate.ixP n)).toInt.toNat _ = _
  rw [e, h]; show min r 49999 = r; omega

theorem wd_first (c : Dev nD) (n : ℕ) (hn : n < 250) : wd (tabOf m c) 0 n hn = ids m c (Shape.Idx.ofFin ⟨200 * n, by omega⟩) := by
  unfold wd
  rw [tab_eq]
  refine (concatenate_pair_apply_left (t := S250x2) (s₁ := S250x1) (s₂ := S250x1) 1 _ _ concatenates_S250x1_S250x1_S250x2_d1 _ rfl (Predicate.ixP ⟨n, hn⟩) fun b => by match b with | ⟨0, _⟩ => rfl | ⟨1, _⟩ => rfl).trans ?_
  exact take_at _ _ _ _ _ (startW_toNat ⟨n, hn⟩)

theorem wd_last (c : Dev nD) (n : ℕ) (hn : n < 250) : wd (tabOf m c) 1 n hn = ids m c (Shape.Idx.ofFin ⟨200 * n + 199, by omega⟩) := by
  unfold wd
  rw [tab_eq]
  refine (concatenate_pair_apply_right (t := S250x2) (s₁ := S250x1) (s₂ := S250x1) 1 _ _ concatenates_S250x1_S250x1_S250x2_d1 _ rfl rfl (Predicate.ixP ⟨n, hn⟩)
    (fun b => by match b with | ⟨0, _⟩ => exact fun _ => rfl | ⟨1, _⟩ => exact fun h => absurd rfl h) rfl).trans ?_
  exact take_at _ _ _ _ _ (endW_toNat ⟨n, hn⟩)

theorem toNat_first (c : Dev nD) (n : ℕ) (hn : n < 250) : (wd (tabOf m c) 0 n hn).toNat = gid (ids m c) (200 * n) := by
  rw [wd_first, gid_of_lt]

theorem toNat_last (c : Dev nD) (n : ℕ) (hn : n < 250) : (wd (tabOf m c) 1 n hn).toNat = gid (ids m c) (200 * n + 199) := by
  rw [wd_last, gid_of_lt]

/-- Every word of the table is a graph's number. -/
theorem tab_lt (c : Dev nD) (hb : Graphs (ids m c)) (b : Fin 2) (n : ℕ) (hn : n < 250) : (wd (tabOf m c) b n hn).toNat < 128 := by
  match b with
  | ⟨0, _⟩ => rw [show (⟨0, _⟩ : Fin 2) = 0 from rfl, toNat_first]; exact gid_lt hb _
  | ⟨1, _⟩ => rw [show (⟨1, _⟩ : Fin 2) = 1 from rfl, toNat_last]; exact gid_lt hb _

/-- The arrays the host's operations do not write. -/
theorem V_arg0 (c : Dev nD) : V m c main_arg0 = m (c, Proc.devRef .tc main_arg0) := by unfold V hostOps0; after_results
theorem V_arg1 (c : Dev nD) : V m c main_arg1 = m (c, Proc.devRef .tc main_arg1) := by unfold V hostOps0; after_results
theorem V_arg2 (c : Dev nD) : V m c main_arg2 = m (c, Proc.devRef .tc main_arg2) := by unfold V hostOps0; after_results
theorem V_arg3 (c : Dev nD) : V m c main_arg3 = m (c, Proc.devRef .tc main_arg3) := by unfold V hostOps0; after_results
theorem V_arg4 (c : Dev nD) : V m c main_arg4 = m (c, Proc.devRef .tc main_arg4) := by unfold V hostOps0; after_results
theorem V_arg5 (c : Dev nD) : V m c main_arg5 = m (c, Proc.devRef .tc main_arg5) := by unfold V hostOps0; after_results

end Cert.KernelIdeal.Hand

end
-- ==== Proof.Final.lean ====
/-
  Hand-written. What every run of the kernel's program ends in: its arguments as given, and the output the one
  the last point of the grid wrote.
-/
module

public import proofs.«01_k».proof.Proof.Table
public import Idealize.ShloMosaic.Lib.Pipeline.ArrRel

@[expose] public section

noncomputable section

namespace Cert.KernelIdeal.Hand

open Cert.KernelIdeal Cert.KernelIdeal.Gen Cert.Pool
open Idealize.ShloMosaic Idealize.ShloMosaic.TcCoe Idealize.ShloMosaic.Tactic Idealize.ShloMosaic.StableHlo
open Idealize.ShloMosaic.Pipeline (RDat)
open Idealize.SL.Sem

variable {F : FTy → Type} [FloatOps F] [∀ e, Nonempty (Elt F e)]
variable (m : (ℓ : Loc nD τ sig) → Buf (Elt F) ℓ) (ρ : Dev nD → PrngReg)
variable (Inv : Dev nD → ℕ → (S136x512.Idx → Elt F .f32) → Vec F S1000x512 .f32 → Prop)

/-- The last point of the grid. -/
def tLast : Fin grid0.N := ⟨24, by decide⟩

theorem whole_out : ((cfgA m).win (9 : Fin 10)).WholeAt tLast := by
  refine ⟨?_, fun t h => ?_, fun a => ?_⟩
  · unfold Pipeline.Window.flush
    rw [Bool.and_eq_true]
    exact ⟨rfl, by rw [Bool.or_eq_true]; left; show decide (24 + 1 = grid0.N) = true; decide +kernel⟩
  · unfold Pipeline.Window.flush at h
    rw [Bool.and_eq_true, Bool.or_eq_true] at h
    rcases h.2 with h | h
    · have h : t.val + 1 = grid0.N := by simpa using h
      have h' : t.val + 1 = 25 := h.trans N_0
      apply Fin.ext; show t.val = 24; omega
    · obtain ⟨_, h⟩ := of_decide_eq_true h
      exact absurd rfl h
  · match a with
    | ⟨0, _⟩ => exact ⟨rfl, rfl⟩
    | ⟨1, _⟩ => exact ⟨rfl, rfl⟩

theorem last_cond : k0_cond32 (grid0.coords tLast) = 1#1 := by decide +kernel

/-- The output after any run the launch allows. -/
theorem out_of_post (r : PUnit × MemSt nD τ sig (Elt F)) (h : RDat.FramePost (cfgA m) (rdat m Inv) (V m) r) (c : Dev nD) :
    ∃ P B, Inv c 24 P B ∧ r.2.mem ((c : Thread nD τ).loc main_v27) = lastO m c tLast P B := by
  have hG := (h c).1 (9 : Fin 10)
  obtain ⟨X, ⟨Y, -, hX⟩, e⟩ := RDat.ArrAt.emb_eq_of_wholeAt hG (whole_out m)
  obtain ⟨P, B, hI, rfl⟩ := hX last_cond
  exact ⟨P, B, hI, funext fun j => e j⟩

/-- The arguments after any run the launch allows. -/
theorem args_of_post (r : PUnit × MemSt nD τ sig (Elt F)) (h : RDat.FramePost (cfgA m) (rdat m Inv) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) := by
  refine ⟨?_, ?_, ?_, ?_, ?_, ?_⟩
  · exact (RDat.FramePost.arr_in h c (0 : Fin 10) rfl).trans (V_arg0 m c)
  · exact ((h c).2 main_arg1 (show main_arg1 ∈ Pipeline.restRefs sig spec0 by decide)).trans (V_arg1 m c)
  · exact (RDat.FramePost.arr_in h c (5 : Fin 10) rfl).trans (V_arg2 m c)
  · exact ((h c).2 main_arg3 (show main_arg3 ∈ Pipeline.restRefs sig spec0 by decide)).trans (V_arg3 m c)
  · exact (RDat.FramePost.arr_in h c (7 : Fin 10) rfl).trans (V_arg4 m c)
  · exact ((h c).2 main_arg5 (show main_arg5 ∈ Pipeline.restRefs sig spec0 by decide)).trans (V_arg5 m c)

/-- Every run ends, with the arguments as given and every counter at zero. -/
theorem frame (hb : ∀ c, Graphs (ids m c)) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run defs _ _).mono (fun r h => ⟨fun c => args_of_post m (fun _ _ _ _ => True) r h.1 c, h.2⟩)
    (run_main m ρ (fun _ _ _ _ => True) (fun c => tab_lt m c (hb c)) (fun _ _ _ => trivial) fun _ _ _ _ _ => trivial)

end Cert.KernelIdeal.Hand

end
-- ==== Proof.Value.Seg.lean ====
/-
  Hand-written. The pooling stage over the extended reals: what a chunk of rows does to the pooled
  maxima, as the greatest value of the rows of each graph.
-/
module

public import proofs.«01_k».proof.Proof.Graphs
public import proofs.«01_k».proof.Proof.Chunk
public import Idealize.ShloMosaic.Lib.Pointwise
public import Idealize.ShloMosaic.Lib.ValueIdx

@[expose] public section

set_option maxRecDepth 16384

noncomputable section

namespace Cert.Pool

open Idealize.ShloMosaic
open Idealize.ShloMosaic.ValueIdx hiding ix2

/-! ## The greatest value of a graph's rows -/

/-- The greatest of the values of the rows `lo ≤ r < hi` that belong to graph `g`; −∞ when there is none. -/
def seg (G : ℕ → ℕ) (H : ℕ → EReal) (g lo hi : ℕ) : EReal := (Finset.Ico lo hi).sup fun r => if G r = g then H r else ⊥

section
variable {G : ℕ → ℕ} {H : ℕ → EReal} {g lo mid hi : ℕ}

theorem seg_append (h1 : lo ≤ mid) (h2 : mid ≤ hi) : max (seg G H g lo mid) (seg G H g mid hi) = seg G H g lo hi := by
  unfold seg
  rw [← Finset.Ico_union_Ico_eq_Ico h1 h2, Finset.sup_union]

theorem seg_none (h : ∀ r, lo ≤ r → r < hi → G r ≠ g) : seg G H g lo hi = ⊥ := by
  unfold seg
  refine le_bot_iff.1 (Finset.sup_le fun r hr => ?_)
  rw [Finset.mem_Ico] at hr
  rw [if_neg (h r hr.1 hr.2)]

theorem seg_empty : seg G H g lo lo = ⊥ := seg_none fun r h1 h2 => absurd h1 (by omega)

/-- A fold of the maximum over the rows of a chunk. -/
theorem fold_eq_seg {n : ℕ} (v : Fin n → EReal) (hv : ∀ r : Fin n, v r = if G (lo + r.val) = g then H (lo + r.val) else ⊥) :
    Finset.univ.fold max ⊥ v = seg G H g lo (lo + n) := by
  show Finset.univ.sup v = _
  unfold seg
  refine le_antisymm (Finset.sup_le fun r _ => ?_) (Finset.sup_le fun r hr => ?_)
  · rw [hv r]
    exact Finset.le_sup (f := fun r => if G r = g then H r else ⊥) (Finset.mem_Ico.2 ⟨by omega, by have := r.isLt; omega⟩)
  · rw [Finset.mem_Ico] at hr
    have e := hv ⟨r - lo, by omega⟩
    rw [show lo + (⟨r - lo, by omega⟩ : Fin n).val = r by show lo + (r - lo) = r; omega] at e
    rw [← e]
    exact Finset.le_sup (Finset.mem_univ _)

end

/-! ## The values a chunk writes, at an index -/

theorem bits_bot : Ideal.ofBits FTy.f32 4286578688#32 = ⊥ := by
  simp [Ideal.ofBits, Ideal.ieee]

theorem purePay_apply (X : Vec Ideal SChunk .f32) (v : Vec Ideal SRow .f32) (k : Fin 512) :
    purePay X v (ValueIdx.ix2 ⟨0, Nat.one_pos⟩ k) = max (v (ValueIdx.ix2 ⟨0, Nat.one_pos⟩ k) : EReal) (Finset.univ.fold max (⊥ : EReal) fun r : Fin 200 => X (ValueIdx.ix2 r k)) := by
  pointwise [purePay]
  rw [bits_bot]
  rfl

theorem select_eq {α : Type} (a b : BitVec 32) (x y : α) : Scalar.select (IntOp.cmpi .eq a b) x y = if a = b then x else y := by
  unfold Scalar.select
  by_cases h : a = b
  · rw [if_pos h]; exact if_pos (StableHlo.Predicate.cmpi_eq_iff.2 h)
  · rw [if_neg h]; exact if_neg (mt StableHlo.Predicate.cmpi_eq_iff.1 h)

theorem maskX_apply (B : IVec SIds 32) (X : Vec Ideal SChunk .f32) (s : BitVec 32) (r : Fin 200) (k : Fin 512) :
    maskX B X s (ValueIdx.ix2 r k) = if B (ValueIdx.ix2 r ⟨0, Nat.one_pos⟩) = s then (X (ValueIdx.ix2 r k) : EReal) else ⊥ := by
  pointwise [maskX]
  rw [bits_bot, select_eq]
  rfl

/-- A row of the pooled maxima after a row was replaced. -/
theorem updRow_apply (o : ℕ) (p : (SRow.Idx → EReal) → SRow.Idx → EReal) (P : SPool.Idx → EReal) (g : Fin 136) (k : Fin 512) :
    updRow o p P (ValueIdx.ix2 g k) = if o = g.val then p (rowOf P g.val g.isLt) (ValueIdx.ix2 ⟨0, Nat.one_pos⟩ k) else P (ValueIdx.ix2 g k) := by
  unfold updRow
  by_cases h : o = g.val
  · rw [dif_pos h, if_pos h]
  · rw [dif_neg h, if_neg h]

/-! ## A chunk -/

theorem cond_one (b : BitVec 1) : Scalar.cmpi .ne (Scalar.extui b : BitVec 32) 0#32 = 1#1 ↔ b = 1#1 := by
  revert b; decide

theorem condPure_iff (s0 s1 : BitVec 32) : condPure s0 s1 = 1#1 ↔ s0 = s1 :=
  (cond_one _).trans StableHlo.Predicate.cmpi_eq_iff

theorem ofBool_one (b : Bool) : BitVec.ofBool b = 1#1 ↔ b = true := by
  revert b; decide

theorem condMix_iff (s0 s1 : BitVec 32) : condMix s0 s1 = 1#1 ↔ s0 ≠ s1 := by
  refine (cond_one _).trans ?_
  show BitVec.ofBool (s0 != s1) = 1#1 ↔ _
  rw [ofBool_one, bne_iff_ne]

theorem condLoop_dead (s0 s1 : BitVec 32) : ¬ condLoop 0#1 s0 s1 = 1#1 := by
  intro h
  exact absurd (andi1 ((cond_one _).1 h)).1 (by decide)

theorem condLoop_live (s0 s1 : BitVec 32) (h0 : s0.toNat < 128) (h1 : s1.toNat < 128) (h : s0.toNat + 1 < s1.toNat) : condLoop 1#1 s0 s1 = 1#1 := by
  refine (cond_one _).2 (IntOp.andi_eq_one.2 ⟨rfl, ?_⟩)
  show BitVec.ofBool ((s0 + 1#32).slt s1) = 1#1
  rw [ofBool_one, BitVec.slt_iff_toInt_lt, toInt_small (by omega : s1.toNat < 1000), toInt_small (by rw [toNat_succ h0]; omega : (s0 + 1#32).toNat < 1000), toNat_succ h0]
  omega

section
variable (G : ℕ → ℕ) (H : ℕ → EReal) (a : ℕ) (B : IVec SIds 32) (X : Vec Ideal SChunk .f32) (k : Fin 512)
  (hX : ∀ r : Fin 200, X (ValueIdx.ix2 r k) = H (a + r.val)) (hB : ∀ r : Fin 200, (B (ValueIdx.ix2 r ⟨0, Nat.one_pos⟩)).toNat = G (a + r.val))
include hX

/-- A chunk of one graph. -/
theorem purePay_seg (P : SPool.Idx → EReal) (g : Fin 136) (hG : ∀ r, a ≤ r → r < a + 200 → G r = g.val) :
    purePay X (rowOf P g.val g.isLt) (ValueIdx.ix2 ⟨0, Nat.one_pos⟩ k) = max (P (ValueIdx.ix2 g k)) (seg G H g.val a (a + 200)) := by
  rw [purePay_apply, ← fold_eq_seg (G := G) (H := H) (fun r : Fin 200 => X (ValueIdx.ix2 r k)) fun r => ?_]
  · rfl
  · rw [hX, if_pos (hG _ (by omega) (by have := r.isLt; omega))]

include hB

/-- One graph of a chunk. -/
theorem maskPay_seg (P : SPool.Idx → EReal) (s : BitVec 32) (g : Fin 136) (hs : s.toNat = g.val) :
    maskPay B X s (rowOf P g.val g.isLt) (ValueIdx.ix2 ⟨0, Nat.one_pos⟩ k) = max (P (ValueIdx.ix2 g k)) (seg G H g.val a (a + 200)) := by
  unfold maskPay
  rw [purePay_apply, ← fold_eq_seg (G := G) (H := H) (fun r : Fin 200 => maskX B X s (ValueIdx.ix2 r k)) fun r => ?_]
  · rfl
  · rw [maskX_apply, hX, ← hB, ← hs]
    simp only [BitVec.toNat_inj]

/-- The graphs between the first and the last. -/
theorem midFn_seg (s0 : BitVec 32) (P : SPool.Idx → EReal) (g : Fin 136) : ∀ n, s0.toNat + 1 + n < 1000 →
    midFn B X s0 P n (ValueIdx.ix2 g k) =
      if s0.toNat + 1 ≤ g.val ∧ g.val < s0.toNat + 1 + n then max (P (ValueIdx.ix2 g k)) (seg G H g.val a (a + 200)) else P (ValueIdx.ix2 g k)
  | 0, _ => by rw [if_neg (by omega)]; rfl
  | n + 1, h => by
    have ih := midFn_seg s0 P g n (by omega)
    have hid := midId_toNat (s0 := s0) (k := n) (by omega)
    show updRow (midId s0 n).toNat (maskPay B X (midId s0 n)) (midFn B X s0 P n) (ValueIdx.ix2 g k) = _
    rw [updRow_apply]
    by_cases hg : (midId s0 n).toNat = g.val
    · rw [if_pos hg, maskPay_seg G H a B X k hX hB _ _ _ hg, ih, if_neg (by omega), if_pos (by omega)]
    · rw [if_neg hg, ih]
      by_cases hc : s0.toNat + 1 ≤ g.val ∧ g.val < s0.toNat + 1 + n
      · rw [if_pos hc, if_pos (by omega)]
      · rw [if_neg hc, if_neg (by omega)]

/-- A chunk that counts: every graph's maximum is joined with the chunk's. -/
theorem chunkFn_live (s0 s1 : BitVec 32) (P : SPool.Idx → EReal) (g : Fin 136) (hg : g.val < 128)
    (h1 : s1.toNat < 128) (e0 : s0.toNat = G a) (e1 : s1.toNat = G (a + 199))
    (hlo : ∀ r, a ≤ r → r < a + 200 → G a ≤ G r ∧ G r ≤ G (a + 199)) :
    chunkFn 1#1 B X s0 s1 P (ValueIdx.ix2 g k) = max (P (ValueIdx.ix2 g k)) (seg G H g.val a (a + 200)) := by
  have h01 := (hlo (a + 199) (by omega) (by omega)).1
  have hL : ∀ s, liveRow 1#1 s = s.toNat := fun s => rfl
  unfold chunkFn mixFn pureFn
  by_cases hs : s0 = s1
  · subst hs
    have hp : condPure s0 s0 = 1#1 := (condPure_iff _ _).2 rfl
    have hm : ¬ condMix s0 s0 = 1#1 := fun h => (condMix_iff _ _).1 h rfl
    rw [if_neg hm, if_pos hp, updRow_apply, hL]
    by_cases h : s0.toNat = g.val
    · rw [if_pos h]
      exact purePay_seg G H a X k hX P g fun r h2 h3 => by have := hlo r h2 h3; omega
    · rw [if_neg h, seg_none fun r h2 h3 => by have := hlo r h2 h3; omega, max_bot_right]
  · have hne : s0.toNat ≠ s1.toNat := fun e => hs (BitVec.toNat_inj.1 e)
    have hp : ¬ condPure s0 s1 = 1#1 := mt (condPure_iff _ _).1 hs
    have hm : condMix s0 s1 = 1#1 := (condMix_iff _ _).2 hs
    rw [if_pos hm, if_neg hp, hL, hL]
    have hends : updRow s1.toNat (maskPay B X s1) (updRow s0.toNat (maskPay B X s0) P) (ValueIdx.ix2 g k)
        = if s0.toNat = g.val ∨ s1.toNat = g.val then max (P (ValueIdx.ix2 g k)) (seg G H g.val a (a + 200)) else P (ValueIdx.ix2 g k) := by
      rw [updRow_apply]
      by_cases hg1 : s1.toNat = g.val
      · rw [if_pos hg1, maskPay_seg G H a B X k hX hB _ _ _ hg1, updRow_apply, if_neg (by omega), if_pos (by omega)]
      · rw [if_neg hg1, updRow_apply]
        by_cases hg0 : s0.toNat = g.val
        · rw [if_pos hg0, maskPay_seg G H a B X k hX hB _ _ _ hg0, if_pos (by omega)]
        · rw [if_neg hg0, if_neg (by omega)]
    by_cases hl : condLoop 1#1 s0 s1 = 1#1
    · rw [if_pos hl, loopMid_trips (by omega) h1, midFn_seg G H a B X k hX hB s0 _ g _ (by omega), hends]
      by_cases hc : s0.toNat + 1 ≤ g.val ∧ g.val < s0.toNat + 1 + (s1.toNat - (s0.toNat + 1))
      · rw [if_pos hc, if_neg (by omega)]
      · rw [if_neg hc]
        by_cases hd : s0.toNat = g.val ∨ s1.toNat = g.val
        · rw [if_pos hd]
        · rw [if_neg hd, seg_none fun r h2 h3 => by have := hlo r h2 h3; omega, max_bot_right]
    · have hsm : s1.toNat ≤ s0.toNat + 1 := by
        by_contra hlt
        exact hl (condLoop_live s0 s1 (by omega) h1 (by omega))
      rw [if_neg hl, hends]
      by_cases hd : s0.toNat = g.val ∨ s1.toNat = g.val
      · rw [if_pos hd]
      · rw [if_neg hd, seg_none fun r h2 h3 => by have := hlo r h2 h3; omega, max_bot_right]

end

/-- A chunk that does not count leaves every graph's maximum. -/
theorem chunkFn_dead (B : IVec SIds 32) (X : Vec Ideal SChunk .f32) (s0 s1 : BitVec 32) (P : SPool.Idx → EReal) (g : Fin 136) (hg : g.val < 128) (k : Fin 512) :
    chunkFn 0#1 B X s0 s1 P (ValueIdx.ix2 g k) = P (ValueIdx.ix2 g k) := by
  have hL : ∀ s, liveRow 0#1 s = 128 := fun s => rfl
  have hl := condLoop_dead s0 s1
  unfold chunkFn mixFn pureFn
  rw [hL, hL, if_neg hl]
  have hne : ¬ 128 = g.val := by omega
  split <;> split <;> simp only [updRow_apply, if_neg hne]

end Cert.Pool

end
-- ==== Proof.Value.Block.lean ====
/-
  Hand-written. Five chunks: what a block of a thousand rows does to the pooled maxima.
-/
module

public import proofs.«01_k».proof.Proof.Value.Seg
public import proofs.«01_k».proof.Proof.Body

@[expose] public section

set_option maxRecDepth 16384

noncomputable section

namespace Cert.KernelIdeal.Hand

open Cert.KernelIdeal Cert.KernelIdeal.Gen Cert.Pool
open Idealize.ShloMosaic

theorem rowsOf_apply (o : ℕ) (inb : ∀ a, (![o, 0] : Fin 2 → ℕ) a + S200x512.size a ≤ S1000x512.size a) (X : Vec Ideal S1000x512 .f32) (r : Fin 200) (k : Fin 512) (ho : o + r.val < 1000) :
    rowsOf ![o, 0] inb X (ValueIdx.ix2 r k) = X (ValueIdx.ix2 ⟨o + r.val, ho⟩ k) := by
  unfold rowsOf ld
  congr 1
  funext a; refine Fin.ext ?_
  match a with
  | ⟨0, _⟩ => exact (Updates.emb_val (o := (o, 0)) rfl inb (ValueIdx.ix2 r k)).1
  | ⟨1, _⟩ => exact (Updates.emb_val (o := (o, 0)) rfl inb (ValueIdx.ix2 r k)).2.trans (Nat.zero_add _)

theorem idsOf_apply (o : ℕ) (h : S1000x1.Slices ![o, 0] S200x1) (B : Vec Ideal S1000x1 .i32) (r : Fin 200) (z : Fin 1) (ho : o + r.val < 1000) :
    idsOf ![o, 0] h B (ValueIdx.ix2 r z) = B (ValueIdx.ix2 ⟨o + r.val, ho⟩ z) := by
  unfold idsOf
  rw [extractStridedSlice_apply _ _ h _ (ValueIdx.ix2 (n0 := 1000) (n1 := 1) ⟨o + r.val, ho⟩ z) fun a => by
    match a with
    | ⟨0, _⟩ => rfl
    | ⟨1, _⟩ => exact (Nat.zero_add _).symm]
  exact shapeCast_apply _ _ _ _ rfl

section
variable (G : ℕ → ℕ) (H : ℕ → EReal) (R : ℕ) (B : Vec Ideal S1000x1 .i32) (X : Vec Ideal S1000x512 .f32) (k : Fin 512)
  (hX : ∀ r : Fin 1000, X (ValueIdx.ix2 r k) = H (R + r.val)) (hB : ∀ r : Fin 1000, (B (ValueIdx.ix2 r ⟨0, Nat.one_pos⟩)).toNat = G (R + r.val))
  (hR : R + 1000 ≤ 50000) (hG : ∀ r s, r ≤ s → s < 50000 → G r ≤ G s)
include hX hB hR hG

/-- A chunk of the block, at its rows of the array. -/
theorem chunk_seg (o : ℕ) (ho : o + 200 ≤ 1000) (inb : ∀ a, (![o, 0] : Fin 2 → ℕ) a + S200x512.size a ≤ S1000x512.size a) (h : S1000x1.Slices ![o, 0] S200x1)
    (s0 s1 : BitVec 32) (P : S136x512.Idx → EReal) (g : Fin 136) (hg : g.val < 128) (h1 : s1.toNat < 128) (e0 : s0.toNat = G (R + o)) (e1 : s1.toNat = G (R + o + 199))
    (hP : P (ValueIdx.ix2 g k) = seg G H g.val 0 (R + o)) :
    chunkFn 1#1 (idsOf ![o, 0] h B) (rowsOf ![o, 0] inb X) s0 s1 P (ValueIdx.ix2 g k) = seg G H g.val 0 (R + o + 200) := by
  rw [chunkFn_live G H (R + o) (idsOf ![o, 0] h B) (rowsOf ![o, 0] inb X) k
      (fun r => by rw [rowsOf_apply o inb X r k (by have := r.isLt; omega), hX]; exact congrArg H (Nat.add_assoc _ _ _).symm)
      (fun r => by rw [idsOf_apply o h B r _ (by have := r.isLt; omega), hB]; exact congrArg G (Nat.add_assoc _ _ _).symm)
      s0 s1 P g hg h1 e0 e1 (fun r h2 h3 => ⟨hG _ _ h2 (by omega), hG _ _ (by omega) (by omega)⟩), hP, seg_append (Nat.zero_le _) (by omega)]

/-- A block of rows that counts. -/
theorem blkFn_live (s0 s1 : Fin 5 → BitVec 32) (h1 : ∀ j, (s1 j).toNat < 128) (e0 : ∀ j : Fin 5, (s0 j).toNat = G (R + 200 * j.val))
    (e1 : ∀ j : Fin 5, (s1 j).toNat = G (R + 200 * j.val + 199)) (P : S136x512.Idx → EReal) (g : Fin 136) (hg : g.val < 128)
    (hP : P (ValueIdx.ix2 g k) = seg G H g.val 0 R) :
    blkFn (F := Ideal) 1#1 B X s0 s1 P (ValueIdx.ix2 g k) = seg G H g.val 0 (R + 1000) := by
  unfold blkFn
  refine chunk_seg G H R B X k hX hB hR hG 800 (by decide) _ _ _ _ _ g hg (h1 4) (e0 4) (e1 4) ?_
  refine chunk_seg G H R B X k hX hB hR hG 600 (by decide) _ _ _ _ _ g hg (h1 3) (e0 3) (e1 3) ?_
  refine chunk_seg G H R B X k hX hB hR hG 400 (by decide) _ _ _ _ _ g hg (h1 2) (e0 2) (e1 2) ?_
  refine chunk_seg G H R B X k hX hB hR hG 200 (by decide) _ _ _ _ _ g hg (h1 1) (e0 1) (e1 1) ?_
  exact chunk_seg G H R B X k hX hB hR hG 0 (by decide) _ _ _ _ _ g hg (h1 0) (e0 0) (e1 0) hP

end

/-- A block of rows that does not count. -/
theorem blkFn_dead (B : Vec Ideal S1000x1 .i32) (X : Vec Ideal S1000x512 .f32) (s0 s1 : Fin 5 → BitVec 32) (P : S136x512.Idx → EReal) (g : Fin 136) (hg : g.val < 128) (k : Fin 512) :
    blkFn (F := Ideal) 0#1 B X s0 s1 P (ValueIdx.ix2 g k) = P (ValueIdx.ix2 g k) := by
  unfold blkFn
  rw [chunkFn_dead _ _ _ _ _ g hg k, chunkFn_dead _ _ _ _ _ g hg k, chunkFn_dead _ _ _ _ _ g hg k, chunkFn_dead _ _ _ _ _ g hg k, chunkFn_dead _ _ _ _ _ g hg k]

end Cert.KernelIdeal.Hand

end
-- ==== Proof.Value.Reads.lean ====
/-
  Hand-written. The blocks a point of the grid reads, as rows of the program's arguments.
-/
module

public import proofs.«01_k».proof.Proof.Table
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Pool
open Idealize.ShloMosaic Idealize.ShloMosaic.TcCoe Idealize.ShloMosaic.Tactic Idealize.ShloMosaic.StableHlo

variable {F : FTy → Type} [FloatOps F] [∀ e, Nonempty (Elt F e)]
variable (m : (ℓ : Loc nD τ sig) → Buf (Elt F) ℓ)

theorem coord (t : Fin grid0.N) : ((grid0.coords t) 0).val = t.val := by
  revert t; decide +kernel

theorem idx0 : ∀ t : Fin grid0.N, cc0_transform_0 (grid0.coords t) = ![2 * t.val, 0] := by decide +kernel
theorem idx1 : ∀ t : Fin grid0.N, cc0_transform_1 (grid0.coords t) = ![2 * t.val + 1, 0] := by decide +kernel
theorem idx2 : ∀ t : Fin grid0.N, cc0_transform_2 (grid0.coords t) = ![2 * t.val, 0] := by decide +kernel
theorem idx3 : ∀ t : Fin grid0.N, cc0_transform_3 (grid0.coords t) = ![2 * t.val - 1, 0] := by decide +kernel
theorem idx4 : ∀ t : Fin grid0.N, cc0_transform_4 (grid0.coords t) = ![min (2 * t.val + 1) 49, 0] := by decide +kernel
theorem idx5 : ∀ t : Fin grid0.N, cc0_transform_5 (grid0.coords t) = ![0, 0] := by decide +kernel
theorem idx6 : ∀ t : Fin grid0.N, cc0_transform_6 (grid0.coords t) = ![0, 0] := by decide +kernel
theorem idx7 : ∀ t : Fin grid0.N, cc0_transform_7 (grid0.coords t) = ![0, 0] := by decide +kernel
theorem idx8 : ∀ t : Fin grid0.N, cc0_transform_8 (grid0.coords t) = ![0, 0] := by decide +kernel

/-- An index of a block is the array's index that lies in the block at those coordinates. -/
theorem rect_at {Gr : Pipeline.Grid} (w : Pipeline.Window sig Gr) (hk : w.kind = .blocked) (t : Fin Gr.N) (y : (w.xblock (Gr.coords t)).Idx) (z : w.shape.Idx)
    (hz : ∀ a, w.index t a * w.size a + (y a).val = (z a).val) : (w.rect t).emb y = z :=
  funext fun a => Fin.ext ((Pipeline.Window.rect_emb_val w t y a hk).trans (hz a))

/-- The array of the graph ids as a column, and the two biases as rows. -/
theorem V_col (c : Dev nD) (r : Fin 50000) (z : Fin 1) : V m c main_v0 (ValueIdx.ix2 r z) = ids m c (Shape.Idx.ofFin r) := by
  have e : V m c main_v0 = shapeCast S50000x1 (ids m c) shapeCasts_S50000_S50000x1 := by
    unfold V hostOps0; after_results; rfl
  rw [e]
  refine shapeCast_apply _ _ _ _ ?_
  rw [Shape.rowMajor_val_one, Shape.rowMajor_val_two]
  show r.val = r.val * 1 + z.val; omega
theorem V_benc (c : Dev nD) (z : Fin 1) (k : Fin 512) : V m c main_v25 (ValueIdx.ix2 z k) = m (c, Proc.devRef .tc main_arg3) (Shape.Idx.ofFin k) := by
  have e : V m c main_v25 = shapeCast S1x512 (m (c, Proc.devRef .tc main_arg3)) shapeCasts_S512_S1x512 := by
    unfold V hostOps0; after_results; rfl
  rw [e]
  refine shapeCast_apply _ _ _ _ ?_
  show ((S512).rowMajor (Shape.Idx.ofFin k)).val = _
  rw [Shape.rowMajor_val_one, Shape.rowMajor_val_two]
  show k.val = z.val * 512 + k.val; omega
theorem V_bout (c : Dev nD) (z : Fin 1) (k : Fin 128) : V m c main_v26 (ValueIdx.ix2 z k) = m (c, Proc.devRef .tc main_arg5) (Shape.Idx.ofFin k) := by
  have e : V m c main_v26 = shapeCast S1x128 (m (c, Proc.devRef .tc main_arg5)) shapeCasts_S128_S1x128 := by
    unfold V hostOps0; after_results; rfl
  rw [e]
  refine shapeCast_apply _ _ _ _ ?_
  show ((S128).rowMajor (Shape.Idx.ofFin k)).val = _
  rw [Shape.rowMajor_val_one, Shape.rowMajor_val_two]
  show k.val = z.val * 128 + k.val; omega

theorem bX0_apply (c : Dev nD) (t : Fin grid0.N) (r : Fin 1000) (k : Fin 512) (h : 2000 * t.val + r.val < 50000) :
    bX0 m c t (ValueIdx.ix2 r k) = m (c, Proc.devRef .tc main_arg0) (ValueIdx.ix2 ⟨2000 * t.val + r.val, h⟩ k) := by
  rw [← V_arg0 m c]
  refine congrArg (V m c main_arg0) (rect_at ((cfgA m).win (0 : Fin 10)) rfl t _ _ fun a => ?_)
  match a with
  | ⟨0, _⟩ =>
    show cc0_transform_0 (grid0.coords t) 0 * 1000 + r.val = 2000 * t.val + r.val
    rw [idx0]; show 2 * t.val * 1000 + r.val = _; omega
  | ⟨1, _⟩ =>
    show cc0_transform_0 (grid0.coords t) 1 * 512 + k.val = k.val
    rw [idx0]; exact Nat.zero_add _

theorem bX1_apply (c : Dev nD) (t : Fin grid0.N) (r : Fin 1000) (k : Fin 512) (h : 2000 * t.val + 1000 + r.val < 50000) :
    bX1 m c t (ValueIdx.ix2 r k) = m (c, Proc.devRef .tc main_arg0) (ValueIdx.ix2 ⟨2000 * t.val + 1000 + r.val, h⟩ k) := by
  rw [← V_arg0 m c]
  refine congrArg (V m c main_arg0) (rect_at ((cfgA m).win (1 : Fin 10)) rfl t _ _ fun a => ?_)
  match a with
  | ⟨0, _⟩ =>
    show cc0_transform_1 (grid0.coords t) 0 * 1000 + r.val = 2000 * t.val + 1000 + r.val
    rw [idx1]; show (2 * t.val + 1) * 1000 + r.val = _; omega
  | ⟨1, _⟩ =>
    show cc0_transform_1 (grid0.coords t) 1 * 512 + k.val = k.val
    rw [idx1]; exact Nat.zero_add _

theorem bI2_apply (c : Dev nD) (t : Fin grid0.N) (r : Fin 1000) (z : Fin 1) : (bI2 m c t (ValueIdx.ix2 r z)).toNat = gid (ids m c) (2000 * t.val + r.val) := by
  have ht : t.val < 25 := t.isLt.trans_eq N_0
  have h : 2000 * t.val + r.val < 50000 := by have := r.isLt; omega
  rw [gid_of_lt _ _ h, ← V_col m c _ z]
  refine congrArg (fun j => BitVec.toNat (V m c main_v0 j)) (rect_at ((cfgA m).win (2 : Fin 10)) rfl t _ _ fun a => ?_)
  match a with
  | ⟨0, _⟩ =>
    show cc0_transform_2 (grid0.coords t) 0 * 1000 + r.val = 2000 * t.val + r.val
    rw [idx2]; show 2 * t.val * 1000 + r.val = _; omega
  | ⟨1, _⟩ =>
    show cc0_transform_2 (grid0.coords t) 1 * 1 + z.val = z.val
    rw [idx2]; exact Nat.zero_add _

theorem bI3_apply (c : Dev nD) (t : Fin grid0.N) (h0 : t.val ≠ 0) (r : Fin 1000) (z : Fin 1) : (bI3 m c t (ValueIdx.ix2 r z)).toNat = gid (ids m c) (2000 * t.val - 1000 + r.val) := by
  have ht : t.val < 25 := t.isLt.trans_eq N_0
  have h : 2000 * t.val - 1000 + r.val < 50000 := by have := r.isLt; omega
  rw [gid_of_lt _ _ h, ← V_col m c _ z]
  refine congrArg (fun j => BitVec.toNat (V m c main_v0 j)) (rect_at ((cfgA m).win (3 : Fin 10)) rfl t _ _ fun a => ?_)
  match a with
  | ⟨0, _⟩ =>
    show cc0_transform_3 (grid0.coords t) 0 * 1000 + r.val = 2000 * t.val - 1000 + r.val
    rw [idx3]; show (2 * t.val - 1) * 1000 + r.val = _; omega
  | ⟨1, _⟩ =>
    show cc0_transform_3 (grid0.coords t) 1 * 1 + z.val = z.val
    rw [idx3]; exact Nat.zero_add _

theorem bI4_apply (c : Dev nD) (t : Fin grid0.N) (r : Fin 1000) (z : Fin 1) : (bI4 m c t (ValueIdx.ix2 r z)).toNat = gid (ids m c) (2000 * t.val + 1000 + r.val) := by
  have ht : t.val < 25 := t.isLt.trans_eq N_0
  have h : 2000 * t.val + 1000 + r.val < 50000 := by have := r.isLt; omega
  rw [gid_of_lt _ _ h, ← V_col m c _ z]
  refine congrArg (fun j => BitVec.toNat (V m c main_v0 j)) (rect_at ((cfgA m).win (4 : Fin 10)) rfl t _ _ fun a => ?_)
  match a with
  | ⟨0, _⟩ =>
    show cc0_transform_4 (grid0.coords t) 0 * 1000 + r.val = 2000 * t.val + 1000 + r.val
    rw [idx4]; show min (2 * t.val + 1) 49 * 1000 + r.val = _; omega
  | ⟨1, _⟩ =>
    show cc0_transform_4 (grid0.coords t) 1 * 1 + z.val = z.val
    rw [idx4]; exact Nat.zero_add _

/-- The weights and the biases are read whole at every point. -/
theorem bW5_apply (c : Dev nD) (t : Fin grid0.N) (j : Fin 512) (k : Fin 512) :
    bW5 m c t (ValueIdx.ix2 j k) = m (c, Proc.devRef .tc main_arg2) (ValueIdx.ix2 j k) := by
  rw [← V_arg2 m c]
  refine congrArg (V m c main_arg2) (rect_at ((cfgA m).win (5 : Fin 10)) rfl t _ _ fun a => ?_)
  match a with
  | ⟨0, _⟩ =>
    show cc0_transform_5 (grid0.coords t) 0 * 512 + j.val = j.val
    rw [idx5]; exact Nat.zero_add _
  | ⟨1, _⟩ =>
    show cc0_transform_5 (grid0.coords t) 1 * 512 + k.val = k.val
    rw [idx5]; exact Nat.zero_add _

theorem bB6_apply (c : Dev nD) (t : Fin grid0.N) (z : Fin 1) (k : Fin 512) :
    bB6 m c t (ValueIdx.ix2 z k) = m (c, Proc.devRef .tc main_arg3) (Shape.Idx.ofFin k) := by
  rw [← V_benc m c z]
  refine congrArg (V m c main_v25) (rect_at ((cfgA m).win (6 : Fin 10)) rfl t _ _ fun a => ?_)
  match a with
  | ⟨0, _⟩ =>
    show cc0_transform_6 (grid0.coords t) 0 * 1 + z.val = z.val
    rw [idx6]; exact Nat.zero_add _
  | ⟨1, _⟩ =>
    show cc0_transform_6 (grid0.coords t) 1 * 512 + k.val = k.val
    rw [idx6]; exact Nat.zero_add _

theorem bW7_apply (c : Dev nD) (t : Fin grid0.N) (j : Fin 512) (k : Fin 128) :
    bW7 m c t (ValueIdx.ix2 j k) = m (c, Proc.devRef .tc main_arg4) (ValueIdx.ix2 j k) := by
  rw [← V_arg4 m c]
  refine congrArg (V m c main_arg4) (rect_at ((cfgA m).win (7 : Fin 10)) rfl t _ _ fun a => ?_)
  match a with
  | ⟨0, _⟩ =>
    show cc0_transform_7 (grid0.coords t) 0 * 512 + j.val = j.val
    rw [idx7]; exact Nat.zero_add _
  | ⟨1, _⟩ =>
    show cc0_transform_7 (grid0.coords t) 1 * 128 + k.val = k.val
    rw [idx7]; exact Nat.zero_add _

theorem bB8_apply (c : Dev nD) (t : Fin grid0.N) (z : Fin 1) (k : Fin 128) :
    bB8 m c t (ValueIdx.ix2 z k) = m (c, Proc.devRef .tc main_arg5) (Shape.Idx.ofFin k) := by
  rw [← V_bout m c z]
  refine congrArg (V m c main_v26) (rect_at ((cfgA m).win (8 : Fin 10)) rfl t _ _ fun a => ?_)
  match a with
  | ⟨0, _⟩ =>
    show cc0_transform_8 (grid0.coords t) 0 * 1 + z.val = z.val
    rw [idx8]; exact Nat.zero_add _
  | ⟨1, _⟩ =>
    show cc0_transform_8 (grid0.coords t) 1 * 128 + k.val = k.val
    rw [idx8]; exact Nat.zero_add _

end Cert.KernelIdeal.Hand

end
-- ==== Proof.Value.Inv.lean ====
/-
  Hand-written. What the grid's points carry from one to the next: the pooled maxima of the rows seen so far, and the
  encoded rows of the block still to be pooled.
-/
module

public import proofs.«01_k».proof.Proof.Value.Block
public import proofs.«01_k».proof.Proof.Value.Reads
public import proofs.«01_k».proof.Proof.Final
public import Idealize.ShloMosaic.Lib.Pointwise

@[expose] public section

set_option maxRecDepth 16384

noncomputable section

namespace Cert.KernelIdeal.Hand

open Cert.KernelIdeal Cert.KernelIdeal.Gen Cert.Pool
open Idealize.ShloMosaic

variable (m : (ℓ : Loc nD τ sig) → Buf (Elt Ideal) ℓ)

/-- The encoded row: row `r` of the nodes times column `k` of the first weights. -/
def hrow (X : S50000x512.Idx → EReal) (W : S512x512.Idx → EReal) (k : Fin 512) (r : ℕ) : EReal :=
  if h : r < 50000 then ∑ j : Fin 512, X (ValueIdx.ix2 ⟨r, h⟩ j) * W (ValueIdx.ix2 j k) else 0
def Hrow (c : Dev nD) (k : Fin 512) (r : ℕ) : EReal :=
  hrow (m (c, Proc.devRef .tc main_arg0)) (m (c, Proc.devRef .tc main_arg2)) k r

theorem pay42_apply (X : Vec Ideal S1000x512 .f32) (W : Vec Ideal S512x512 .f32) (r : Fin 1000) (k : Fin 512) :
    k0_pay42 X W (ValueIdx.ix2 r k) = ∑ j : Fin 512, (X (ValueIdx.ix2 r j) : EReal) * W (ValueIdx.ix2 j k) := by
  pointwise [k0_pay42]
  rfl
theorem pay75_apply (X : Vec Ideal S1000x512 .f32) (W : Vec Ideal S512x512 .f32) (r : Fin 1000) (k : Fin 512) :
    k0_pay75 (k0_pay74 X W) (ValueIdx.ix2 r k) = ∑ j : Fin 512, (X (ValueIdx.ix2 r j) : EReal) * W (ValueIdx.ix2 j k) := by
  pointwise [k0_pay74, k0_pay75]
  rfl

theorem liveP_first : liveP (grid0.coords (⟨0, by decide⟩ : Fin grid0.N)) = 0#1 := by decide +kernel
theorem isFirst_first : isFirst (grid0.coords (⟨0, by decide⟩ : Fin grid0.N)) = 1#1 := by decide +kernel
theorem liveP_rest : ∀ t : Fin grid0.N, t.val ≠ 0 → liveP (grid0.coords t) = 1#1 := by decide +kernel
theorem isFirst_rest : ∀ t : Fin grid0.N, t.val ≠ 0 → isFirst (grid0.coords t) ≠ 1#1 := by decide +kernel
theorem liveC_all : ∀ t : Fin grid0.N, liveC (grid0.coords t) = 1#1 := by decide +kernel
theorem cond_rest : ∀ t : Fin grid0.N, t.val ≠ 24 → k0_cond32 (grid0.coords t) ≠ 1#1 := by decide +kernel

/-- The first block's encoded rows and the second's. -/
theorem rowsA (c : Dev nD) (t : Fin grid0.N) (k : Fin 512) (r : Fin 1000) :
    k0_pay42 (bX0 m c t) (bW5 m c t) (ValueIdx.ix2 r k) = Hrow m c k (2000 * t.val + r.val) := by
  have ht : t.val < 25 := t.isLt.trans_eq N_0
  have h : 2000 * t.val + r.val < 50000 := by have := r.isLt; omega
  rw [pay42_apply, Hrow, hrow, dif_pos h]
  exact Finset.sum_congr rfl fun j _ => by rw [bX0_apply m c t r j h, bW5_apply]
theorem rowsB (c : Dev nD) (t : Fin grid0.N) (k : Fin 512) (r : Fin 1000) :
    nextB m c t (ValueIdx.ix2 r k) = Hrow m c k (2000 * t.val + 1000 + r.val) := by
  have ht : t.val < 25 := t.isLt.trans_eq N_0
  have h : 2000 * t.val + 1000 + r.val < 50000 := by have := r.isLt; omega
  unfold nextB
  rw [pay75_apply, Hrow, hrow, dif_pos h]
  exact Finset.sum_congr rfl fun j _ => by rw [bX1_apply m c t r j h, bW5_apply]

/-- The pooled maxima of the rows below `n`. -/
def Pooled (c : Dev nD) (n : ℕ) (P : S136x512.Idx → EReal) : Prop :=
  ∀ g : Fin 136, g.val < 128 → ∀ k : Fin 512, P (ValueIdx.ix2 g k) = seg (gid (ids m c)) (Hrow m c k) g.val 0 n

/-- After point `t − 1`: the maxima of the rows below `2000 t − 1000`, and the thousand rows from there. -/
def Inv (c : Dev nD) (t : ℕ) (P : S136x512.Idx → EReal) (B : Vec Ideal S1000x512 .f32) : Prop :=
  0 < t → t < 25 → Pooled m c (2000 * t - 1000) P
    ∧ ∀ (k : Fin 512) (r : Fin 1000), B (ValueIdx.ix2 r k) = Hrow m c k (2000 * t - 1000 + r.val)

variable (hb : ∀ c, Graphs (ids m c))
include hb

theorem pre_pooled (c : Dev nD) (t : Fin grid0.N) (P : S136x512.Idx → EReal) (B : Vec Ideal S1000x512 .f32) (hI : Inv m c t.val P B) :
    Pooled m c (2000 * t.val) (poolPre (F := Ideal) (grid0.coords t) (tabOf m c) (bI3 m c t) B P) := by
  have ht : t.val < 25 := t.isLt.trans_eq N_0
  intro g hg k
  unfold poolPre
  by_cases h0 : t.val = 0
  · obtain rfl : t = ⟨0, by decide⟩ := Fin.ext h0
    rw [liveP_first, blkFn_dead _ _ _ _ _ g hg k, if_pos isFirst_first]
    exact bits_bot.trans seg_empty.symm
  · obtain ⟨hP, hB⟩ := hI (Nat.pos_of_ne_zero h0) ht
    rw [liveP_rest t h0, if_neg (isFirst_rest t h0)]
    have hn : ∀ j : Fin 5, 200 * preN (grid0.coords t) j = 2000 * t.val - 1000 + 200 * j.val := fun j => by
      unfold preN; rw [coord]; omega
    rw [blkFn_live (gid (ids m c)) (Hrow m c k) (2000 * t.val - 1000) _ _ k (hB k) (fun r => bI3_apply m c t h0 r _) (by omega)
      (fun r s hrs hs => gid_mono (hb c) hrs hs) _ _ (fun j => tab_lt m c (hb c) _ _ _)
      (fun j => (toNat_first m c _ _).trans (congrArg _ (hn j)))
      (fun j => (toNat_last m c _ _).trans (congrArg _ (congrArg (· + 199) (hn j)))) P g hg (hP g hg k)]
    rw [show 2000 * t.val - 1000 + 1000 = 2000 * t.val by omega]

theorem mid_pooled (c : Dev nD) (t : Fin grid0.N) (P : S136x512.Idx → EReal) (B : Vec Ideal S1000x512 .f32) (hI : Inv m c t.val P B) :
    Pooled m c (2000 * t.val + 1000) (midP (F := Ideal) m c t P B) := by
  have ht : t.val < 25 := t.isLt.trans_eq N_0
  intro g hg k
  unfold midP poolCur
  rw [liveC_all t]
  have hn : ∀ j : Fin 5, 200 * curN (grid0.coords t) j = 2000 * t.val + 200 * j.val := fun j => by
    unfold curN; rw [coord]; omega
  exact blkFn_live (gid (ids m c)) (Hrow m c k) (2000 * t.val) _ _ k (rowsA m c t k) (fun r => bI2_apply m c t r _) (by omega)
    (fun r s hrs hs => gid_mono (hb c) hrs hs) _ _ (fun j => tab_lt m c (hb c) _ _ _)
    (fun j => (toNat_first m c _ _).trans (congrArg _ (hn j)))
    (fun j => (toNat_last m c _ _).trans (congrArg _ (congrArg (· + 199) (hn j)))) _ g hg (pre_pooled m hb c t P B hI g hg k)

/-- The last point pools its own second block too. -/
theorem end_pooled (c : Dev nD) (P : S136x512.Idx → EReal) (B : Vec Ideal S1000x512 .f32) (hI : Inv m c 24 P B) :
    Pooled m c 50000 (endP (F := Ideal) m c tLast P B) := by
  intro g hg k
  unfold endP poolLast
  rw [liveC_all tLast]
  have hn : ∀ j : Fin 5, 200 * lastN j = 2000 * tLast.val + 1000 + 200 * j.val := fun j => by
    unfold lastN; show _ = 2000 * 24 + 1000 + 200 * j.val; omega
  exact blkFn_live (gid (ids m c)) (Hrow m c k) (2000 * tLast.val + 1000) _ _ k (rowsB m c tLast k) (fun r => bI4_apply m c tLast r _) (by decide)
    (fun r s hrs hs => gid_mono (hb c) hrs hs) _ _ (fun j => tab_lt m c (hb c) _ _ _)
    (fun j => (toNat_first m c _ _).trans (congrArg _ (hn j)))
    (fun j => (toNat_last m c _ _).trans (congrArg _ (congrArg (· + 199) (hn j)))) _ g hg (mid_pooled m hb c tLast P B hI g hg k)

/-- One point of the grid. -/
theorem step (c : Dev nD) (t : Fin grid0.N) (P : S136x512.Idx → EReal) (B : Vec Ideal S1000x512 .f32) (hI : Inv m c t.val P B) :
    Inv m c (t.val + 1) (nextP (F := Ideal) m c t P B) (nextB m c t) := by
  intro _ h25
  unfold nextP
  rw [if_neg (cond_rest t (by omega)), show 2000 * (t.val + 1) - 1000 = 2000 * t.val + 1000 by omega]
  exact ⟨mid_pooled m hb c t P B hI, rowsB m c t⟩

end Cert.KernelIdeal.Hand

end
-- ==== Proof.Value.Ref.lean ====
/-
  Hand-written. The reference's program: what its run leaves, read at an index.
-/
module

public import proofs.«01_k».proof.Defs
public import proofs.«01_k».proof.Proof.Gen.ReferenceIdeal
public import proofs.«01_k».proof.Proof.Value.Seg
public import Idealize.ShloMosaic.Adequacy
public import Idealize.ShloMosaic.Init
public import Idealize.ShloMosaic.Lib.StableHlo.RunHlo
public import Idealize.ShloMosaic.Lib.Claim
public import Idealize.ShloMosaic.Lib.Pointwise
public import Idealize.ShloMosaic.Lib.Pipeline.Frame

@[expose] public section

set_option maxRecDepth 16384

noncomputable section

namespace Cert.ReferenceIdeal.Hand

open Cert.ReferenceIdeal Cert.Pool
open Idealize.ShloMosaic Idealize.ShloMosaic.TcCoe Idealize.ShloMosaic.Tactic Idealize.ShloMosaic.StableHlo
open Idealize.SL.Sem

/-- The encoder: a linear map, a bias and the positive part. -/
def enc (A0 : FVec Ideal S50000x512 .f32) (A2 : FVec Ideal S512x512 .f32) (A3 : FVec Ideal S512 .f32) : FVec Ideal S50000x512 .f32 :=
  maximumf (addf (Host.dotGeneral dot_S50000x512_S512x512_S50000x512_1_0_0_1_n_n none (A0 : FVec Ideal S50000x512 .f32) A2)
      (broadcastInDim S50000x512 ![0, 1] Gen.bcast_S1x512_S50000x512_0_1 (broadcastInDim S1x512 ![1] Gen.bcast_S512_S1x512_1 A3)))
    (broadcastInDim S50000x512 ![] Gen.bcast_S_S50000x512 (constant (F := Ideal) S_ .f32 0x00000000#32))

/-- Every graph's copy of the encoded rows, the rows of other graphs at minus infinity. -/
def masked (A1 : S50000.Idx → BitVec 32) (E : FVec Ideal S50000x512 .f32) : FVec Ideal S128x50000x512 .f32 :=
  select (broadcastInDim S128x50000x512 ![0, 1, 2] Gen.bcast_S128x50000x1_S128x50000x512_0_1_2
      (cmpi .eq (broadcastInDim S128x50000x1 ![0, 1, 2] Gen.bcast_S1x50000x1_S128x50000x1_0_1_2 (broadcastInDim S1x50000x1 ![1] Gen.bcast_S50000_S1x50000x1_1 (A1 : S50000.Idx → BitVec 32)))
        (broadcastInDim S128x50000x1 ![0, 1, 2] Gen.bcast_S128x1x1_S128x50000x1_0_1_2 (broadcastInDim S128x1x1 ![0] Gen.bcast_S128_S128x1x1_0 (iotaInDim S128 32 0)))))
    (broadcastInDim S128x50000x512 ![0, 1, 2] Gen.bcast_S1x50000x512_S128x50000x512_0_1_2 (broadcastInDim S1x50000x512 ![1, 2] Gen.bcast_S50000x512_S1x50000x512_1_2 E))
    (broadcastInDim S128x50000x512 ![] Gen.bcast_S_S128x50000x512 (constant (F := Ideal) S_ .f32 0xFF800000#32))

/-- The pooled rows. -/
def pooled (M : FVec Ideal S128x50000x512 .f32) : FVec Ideal S128x512 .f32 :=
  Host.reduce FloatOps.maximumf M (constant (F := Ideal) S_ .f32 0xFF800000#32) Gen.reducesTo_S128x50000x512_S128x512_d1 Gen.h_S_

/-- The output layer. -/
def logits (P : FVec Ideal S128x512 .f32) (A4 : FVec Ideal S512x128 .f32) (A5 : FVec Ideal S128 .f32) : FVec Ideal S128x128 .f32 :=
  addf (Host.dotGeneral dot_S128x512_S512x128_S128x128_1_0_0_1_n_n none P (A4 : FVec Ideal S512x128 .f32))
    (broadcastInDim S128x128 ![0, 1] Gen.bcast_S1x128_S128x128_0_1 (broadcastInDim S1x128 ![1] Gen.bcast_S128_S1x128_1 A5))

/-- The logits less their row's largest. -/
def shifted (L : FVec Ideal S128x128 .f32) : FVec Ideal S128x128 .f32 :=
  subf L (broadcastInDim S128x128 ![0, 1] Gen.bcast_S128x1_S128x128_0_1 (broadcastInDim S128x1 ![0] Gen.bcast_S128_S128x1_0
    (maximumf (broadcastInDim S128 ![] Gen.bcast_S_S128 (constant (F := Ideal) S_ .f32 0xFF800000#32)) (Host.reduce FloatOps.maximumf L (constant (F := Ideal) S_ .f32 0xFF800000#32) Gen.reducesTo_S128x128_S128_d1 Gen.h_S_))))
def logSoftmax (L : FVec Ideal S128x128 .f32) : FVec Ideal S128x128 .f32 :=
  subf (shifted L) (broadcastInDim S128x128 ![0, 1] Gen.bcast_S128x1_S128x128_0_1
    (Host.log (broadcastInDim S128x1 ![0] Gen.bcast_S128_S128x1_0 (Host.reduceAdd (Host.exp (shifted L)) (constant (F := Ideal) S_ .f32 0x00000000#32) Gen.reducesTo_S128x128_S128_d1 Gen.h_S_))))

/-- The reference's result over its arguments. -/
def result (A0 : FVec Ideal S50000x512 .f32) (A1 : S50000.Idx → BitVec 32) (A2 : FVec Ideal S512x512 .f32) (A3 : FVec Ideal S512 .f32) (A4 : FVec Ideal S512x128 .f32) (A5 : FVec Ideal S128 .f32) : FVec Ideal S128x128 .f32 :=
  logSoftmax (logits (pooled (masked A1 (enc A0 A2 A3))) A4 A5)

theorem ix1_ofFin {n : ℕ} (k : Fin n) : (ix1 k : (⟨1, ![n]⟩ : Shape).Idx) = Shape.Idx.ofFin k := by
  funext a; match a with | ⟨0, _⟩ => rfl

theorem enc_apply (A0 : FVec Ideal S50000x512 .f32) (A2 : FVec Ideal S512x512 .f32) (A3 : FVec Ideal S512 .f32) (r : Fin 50000) (k : Fin 512) :
    enc A0 A2 A3 (ValueIdx.ix2 r k) = max ((∑ j : Fin 512, A0 (ValueIdx.ix2 r j) * A2 (ValueIdx.ix2 j k)) + A3 (Shape.Idx.ofFin k)) 0 := by
  rw [← ix1_ofFin]
  pointwise [enc]
  rfl

theorem pooled_apply (M : FVec Ideal S128x50000x512 .f32) (g : Fin 128) (k : Fin 512) :
    pooled M (ValueIdx.ix2 g k) = Finset.univ.sup fun r : Fin 50000 => (M (ValueIdx.ix3 g r k) : EReal) := by
  unfold pooled
  pointwise
  rw [bits_bot]
  rfl

theorem masked_apply (A1 : S50000.Idx → BitVec 32) (E : FVec Ideal S50000x512 .f32) (g : Fin 128) (r : Fin 50000) (k : Fin 512) :
    masked A1 E (ValueIdx.ix3 g r k) = if (A1 (Shape.Idx.ofFin r)).toNat = g.val then (E (ValueIdx.ix2 r k) : EReal) else ⊥ := by
  rw [← ix1_ofFin]
  unfold masked
  pointwise
  rw [bits_bot, select_eq]
  have hg : (BitVec.ofNat 32 g.val).toNat = g.val := BitVec.toNat_ofNat _ _ |>.trans (Nat.mod_eq_of_lt (by have := g.isLt; omega))
  have e : (A1 (ix1 r) = BitVec.ofNat 32 g.val) ↔ (A1 (ix1 r)).toNat = g.val :=
    ⟨fun h => by rw [h, hg], fun h => BitVec.eq_of_toNat_eq (h.trans hg.symm)⟩
  exact if_congr e rfl rfl

theorem logits_apply (P : FVec Ideal S128x512 .f32) (A4 : FVec Ideal S512x128 .f32) (A5 : FVec Ideal S128 .f32) (g j : Fin 128) :
    logits P A4 A5 (ValueIdx.ix2 g j) = (∑ k : Fin 512, P (ValueIdx.ix2 g k) * A4 (ValueIdx.ix2 k j)) + A5 (Shape.Idx.ofFin j) := by
  rw [← ix1_ofFin]
  unfold logits
  pointwise
  rfl

theorem shifted_apply (L : FVec Ideal S128x128 .f32) (g j : Fin 128) :
    shifted L (ValueIdx.ix2 g j) = (L (ValueIdx.ix2 g j) : EReal) - Finset.univ.fold max ⊥ fun l : Fin 128 => (L (ValueIdx.ix2 g l) : EReal) := by
  unfold shifted
  pointwise
  rw [bits_bot, max_eq_right bot_le]
  rfl

theorem logSoftmax_apply (L : FVec Ideal S128x128 .f32) (g j : Fin 128) :
    logSoftmax L (ValueIdx.ix2 g j) = (shifted L (ValueIdx.ix2 g j) : EReal) - Ideal.log (∑ l : Fin 128, Ideal.exp (shifted L (ValueIdx.ix2 g l) : EReal)) := by
  unfold logSoftmax
  pointwise
  rfl

section
variable {F : FTy → Type} [FloatOps F]

/-- The operations of the encoder. -/
def opsEnc : List (HloOp τ sig (Elt F)) :=
  [binary main_arg0 main_arg2 main_v0 ((fun l r => Host.dotGeneral dot_S50000x512_S512x512_S50000x512_1_0_0_1_n_n none l r) : (⟨S50000x512, .f32⟩ : BufTy).Contents (Elt F) → (⟨S512x512, .f32⟩ : BufTy).Contents (Elt F) → (⟨S50000x512, .f32⟩ : BufTy).Contents (Elt F)),
   unary main_arg3 main_v1 (broadcastInDim S1x512 ![1] Gen.bcast_S512_S1x512_1 : (⟨S512, .f32⟩ : BufTy).Contents (Elt F) → (⟨S1x512, .f32⟩ : BufTy).Contents (Elt F)),
   unary main_v1 main_v2 (broadcastInDim S50000x512 ![0, 1] Gen.bcast_S1x512_S50000x512_0_1 : (⟨S1x512, .f32⟩ : BufTy).Contents (Elt F) → (⟨S50000x512, .f32⟩ : BufTy).Contents (Elt F)),
   binary main_v0 main_v2 main_v3 (addf : (⟨S50000x512, .f32⟩ : BufTy).Contents (Elt F) → (⟨S50000x512, .f32⟩ : BufTy).Contents (Elt F) → (⟨S50000x512, .f32⟩ : BufTy).Contents (Elt F)),
   TRef.nullary main_call0.cst (constant S_ .f32 0x00000000#32),
   TRef.unary main_call0.cst main_call0.v0 (broadcastInDim S50000x512 ![] Gen.bcast_S_S50000x512),
   TRef.binary (.of main_v3 : TRef sig ⟨S50000x512, .f32⟩) main_call0.v0 main_call0.v1 maximumf]

/-- The operations of the masked copies. -/
def opsMask : List (HloOp τ sig (Elt F)) :=
  [unary main_arg1 main_v5 (broadcastInDim S1x50000x1 ![1] Gen.bcast_S50000_S1x50000x1_1 : (⟨S50000, .i32⟩ : BufTy).Contents (Elt F) → (⟨S1x50000x1, .i32⟩ : BufTy).Contents (Elt F)),
   nullary main_v6 (iotaInDim S128 32 0),
   unary main_v6 main_v7 (broadcastInDim S128x1x1 ![0] Gen.bcast_S128_S128x1x1_0 : (⟨S128, .i32⟩ : BufTy).Contents (Elt F) → (⟨S128x1x1, .i32⟩ : BufTy).Contents (Elt F)),
   unary main_v5 main_v8 (broadcastInDim S128x50000x1 ![0, 1, 2] Gen.bcast_S1x50000x1_S128x50000x1_0_1_2 : (⟨S1x50000x1, .i32⟩ : BufTy).Contents (Elt F) → (⟨S128x50000x1, .i32⟩ : BufTy).Contents (Elt F)),
   unary main_v7 main_v9 (broadcastInDim S128x50000x1 ![0, 1, 2] Gen.bcast_S128x1x1_S128x50000x1_0_1_2 : (⟨S128x1x1, .i32⟩ : BufTy).Contents (Elt F) → (⟨S128x50000x1, .i32⟩ : BufTy).Contents (Elt F)),
   binary main_v8 main_v9 main_v10 (cmpi .eq : (⟨S128x50000x1, .i32⟩ : BufTy).Contents (Elt F) → (⟨S128x50000x1, .i32⟩ : BufTy).Contents (Elt F) → (⟨S128x50000x1, .i1⟩ : BufTy).Contents (Elt F)),
   unary main_v4 main_v11 (broadcastInDim S1x50000x512 ![1, 2] Gen.bcast_S50000x512_S1x50000x512_1_2 : (⟨S50000x512, .f32⟩ : BufTy).Contents (Elt F) → (⟨S1x50000x512, .f32⟩ : BufTy).Contents (Elt F)),
   nullary main_cst (constant S_ .f32 0xFF800000#32),
   TRef.unary (.of main_cst : TRef sig ⟨S_, .f32⟩) main_call1.v0 id,
   TRef.unary (.of main_v10 : TRef sig ⟨S128x50000x1, .i1⟩) main_call1.v1 (broadcastInDim S128x50000x512 ![0, 1, 2] Gen.bcast_S128x50000x1_S128x50000x512_0_1_2),
   TRef.unary (.of main_v11 : TRef sig ⟨S1x50000x512, .f32⟩) main_call1.v2 (broadcastInDim S128x50000x512 ![0, 1, 2] Gen.bcast_S1x50000x512_S128x50000x512_0_1_2),
   TRef.unary main_call1.v0 main_call1.v3 (broadcastInDim S128x50000x512 ![] Gen.bcast_S_S128x50000x512),
   TRef.ternary main_call1.v1 main_call1.v2 main_call1.v3 main_call1.v4 select]

/-- The operations of the pooling and the output layer. -/
def opsOut : List (HloOp τ sig (Elt F)) :=
  [nullary main_cst_0 (constant S_ .f32 0xFF800000#32),
   binary main_v12 main_cst_0 main_v13 ((fun x v => Host.reduce FloatOps.maximumf x v Gen.reducesTo_S128x50000x512_S128x512_d1 Gen.h_S_) : (⟨S128x50000x512, .f32⟩ : BufTy).Contents (Elt F) → (⟨S_, .f32⟩ : BufTy).Contents (Elt F) → (⟨S128x512, .f32⟩ : BufTy).Contents (Elt F)),
   binary main_v13 main_arg4 main_v14 ((fun l r => Host.dotGeneral dot_S128x512_S512x128_S128x128_1_0_0_1_n_n none l r) : (⟨S128x512, .f32⟩ : BufTy).Contents (Elt F) → (⟨S512x128, .f32⟩ : BufTy).Contents (Elt F) → (⟨S128x128, .f32⟩ : BufTy).Contents (Elt F)),
   unary main_arg5 main_v15 (broadcastInDim S1x128 ![1] Gen.bcast_S128_S1x128_1 : (⟨S128, .f32⟩ : BufTy).Contents (Elt F) → (⟨S1x128, .f32⟩ : BufTy).Contents (Elt F)),
   unary main_v15 main_v16 (broadcastInDim S128x128 ![0, 1] Gen.bcast_S1x128_S128x128_0_1 : (⟨S1x128, .f32⟩ : BufTy).Contents (Elt F) → (⟨S128x128, .f32⟩ : BufTy).Contents (Elt F)),
   binary main_v14 main_v16 main_v17 (addf : (⟨S128x128, .f32⟩ : BufTy).Contents (Elt F) → (⟨S128x128, .f32⟩ : BufTy).Contents (Elt F) → (⟨S128x128, .f32⟩ : BufTy).Contents (Elt F))]

/-- The operations of the log-softmax. -/
def opsSoft : List (HloOp τ sig (Elt F)) :=
  [TRef.nullary main_call2.cst (constant S_ .f32 0xFF800000#32),
   TRef.binary (.of main_v17 : TRef sig ⟨S128x128, .f32⟩) main_call2.cst main_call2.v0 (fun x v => Host.reduce FloatOps.maximumf x v Gen.reducesTo_S128x128_S128_d1 Gen.h_S_),
   TRef.nullary main_call2.cst_0 (constant S_ .f32 0xFF800000#32),
   TRef.unary main_call2.cst_0 main_call2.v1 (broadcastInDim S128 ![] Gen.bcast_S_S128),
   TRef.binary main_call2.v1 main_call2.v0 main_call2.v2 maximumf,
   TRef.unary main_call2.v2 main_call2.v3 (broadcastInDim S128x1 ![0] Gen.bcast_S128_S128x1_0),
   TRef.unary main_call2.v3 main_call2.v4 (broadcastInDim S128x128 ![0, 1] Gen.bcast_S128x1_S128x128_0_1),
   TRef.binary (.of main_v17 : TRef sig ⟨S128x128, .f32⟩) main_call2.v4 main_call2.v5 subf,
   TRef.unary main_call2.v5 main_call2.v6 Host.exp,
   TRef.nullary main_call2.cst_1 (constant S_ .f32 0x00000000#32),
   TRef.binary main_call2.v6 main_call2.cst_1 main_call2.v7 (fun x v => Host.reduceAdd x v Gen.reducesTo_S128x128_S128_d1 Gen.h_S_),
   TRef.unary main_call2.v7 main_call2.v8 (broadcastInDim S128x1 ![0] Gen.bcast_S128_S128x1_0),
   TRef.unary main_call2.v8 main_call2.v9 Host.log,
   TRef.unary main_call2.v9 main_call2.v10 (broadcastInDim S128x128 ![0, 1] Gen.bcast_S128x1_S128x128_0_1),
   TRef.binary main_call2.v5 main_call2.v10 main_call2.v11 subf]

end

theorem seqAll (d : Dev nD) : IsSeq (main (F := Ideal) d) (opsEnc ++ (opsMask ++ (opsOut ++ opsSoft))) := by
  have h : ∃ ops, IsSeq (main (F := Ideal) d) ops ∧ ops = opsEnc ++ (opsMask ++ (opsOut ++ opsSoft)) := ⟨_, by hlo_seq, rfl⟩
  obtain ⟨_, h, rfl⟩ := h
  exact h

variable (V : Valuation τ sig (Elt Ideal))

theorem soft_v18 : after opsSoft V (Proc.devRef .tc main_v18) = logSoftmax (V (Proc.devRef .tc main_v17)) := by
  unfold opsSoft; after_results; simp only [TRef.ofBuf_toBuf]; rfl
theorem out_v17 : after opsOut V (Proc.devRef .tc main_v17) = logits (pooled (V (Proc.devRef .tc main_v12))) (V (Proc.devRef .tc main_arg4)) (V (Proc.devRef .tc main_arg5)) := by
  unfold opsOut; after_results; rfl
theorem mask_v12 : after opsMask V (Proc.devRef .tc main_v12) = masked (V (Proc.devRef .tc main_arg1)) (V (Proc.devRef .tc main_v4)) := by
  unfold opsMask; after_results; rfl
theorem mask_arg4 : after opsMask V (Proc.devRef .tc main_arg4) = V (Proc.devRef .tc main_arg4) := by
  unfold opsMask; after_results
theorem mask_arg5 : after opsMask V (Proc.devRef .tc main_arg5) = V (Proc.devRef .tc main_arg5) := by
  unfold opsMask; after_results
theorem enc_v4 : after opsEnc V (Proc.devRef .tc main_v4) = enc (V (Proc.devRef .tc main_arg0)) (V (Proc.devRef .tc main_arg2)) (V (Proc.devRef .tc main_arg3)) := by
  unfold opsEnc; after_results; rfl
theorem enc_arg1 : after opsEnc V (Proc.devRef .tc main_arg1) = V (Proc.devRef .tc main_arg1) := by
  unfold opsEnc; after_results
theorem enc_arg4 : after opsEnc V (Proc.devRef .tc main_arg4) = V (Proc.devRef .tc main_arg4) := by
  unfold opsEnc; after_results
theorem enc_arg5 : after opsEnc V (Proc.devRef .tc main_arg5) = V (Proc.devRef .tc main_arg5) := by
  unfold opsEnc; after_results

/-- What every run of the reference leaves. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v18) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine θ_run_mono (run_hlo _ _ seqAll (by decide) (by decide) (by simp [opsEnc, opsMask, opsOut, opsSoft])
      (by intro _ h; (repeat (cases h with | head => rfl | tail _ h => ?_)); exact nomatch h) m g) fun r h c => ?_
  rw [h c main_v18, after_append, after_append, after_append, soft_v18, out_v17, mask_v12, mask_arg4, mask_arg5, enc_v4, enc_arg1, enc_arg4, enc_arg5]
  rfl

end Cert.ReferenceIdeal.Hand

end
-- ==== Proof.Value.Out.lean ====
/-
  Hand-written. The output the last point writes is the reference's result.
-/
module

public import proofs.«01_k».proof.Proof.Value.Inv
public import proofs.«01_k».proof.Proof.Value.Ref

@[expose] public section

set_option maxRecDepth 16384

noncomputable section

namespace Cert.KernelIdeal.Hand

open Cert.KernelIdeal Cert.KernelIdeal.Gen Cert.Pool
open Idealize.ShloMosaic Idealize.ShloMosaic.TcCoe
open Idealize.ShloMosaic.Pipeline (RDat)
open Idealize.SL.Sem

variable (m : (ℓ : Loc nD τ sig) → Buf (Elt Ideal) ℓ)

/-- Adding a bias and taking the positive part goes through the maximum over a graph's rows, as every graph has one. -/
theorem sup_relu (b : SRows.Idx → BitVec 32) (hb : Graphs b) (H : ℕ → EReal) (g : ℕ) (hg : g < 128) (β : EReal) :
    (Finset.univ.sup fun r : Fin 50000 => if gid b r.val = g then max (H r.val + β) 0 else ⊥) = max (seg (gid b) H g 0 50000 + β) 0 := by
  obtain ⟨r0, h0, e0⟩ := gid_surj hb g hg
  refine le_antisymm (Finset.sup_le fun r _ => ?_) ?_
  · split
    · next h =>
      refine max_le_max (add_le_add ?_ le_rfl) le_rfl
      refine le_trans ?_ (Finset.le_sup (f := fun r => if gid b r = g then H r else ⊥) (Finset.mem_Ico.mpr ⟨Nat.zero_le _, r.isLt⟩))
      exact le_of_eq (if_pos h).symm
    · exact bot_le
  · have hne : (Finset.Ico 0 50000).Nonempty := ⟨0, Finset.mem_Ico.mpr ⟨le_rfl, by decide⟩⟩
    obtain ⟨i, hi, e⟩ := Finset.exists_mem_eq_sup _ hne (fun r => if gid b r = g then H r else ⊥)
    unfold seg
    rw [e]
    have key : ∀ r (h : r < 50000), gid b r = g → max (H r + β) 0 ≤ Finset.univ.sup fun r : Fin 50000 => if gid b r.val = g then max (H r.val + β) 0 else ⊥ := fun r h e => by
      refine le_trans ?_ (Finset.le_sup (f := fun r : Fin 50000 => if gid b r.val = g then max (H r.val + β) 0 else ⊥) (Finset.mem_univ ⟨r, h⟩))
      exact le_of_eq (if_pos e).symm
    by_cases h : gid b i = g
    · rw [if_pos h]; exact key i (Finset.mem_Ico.mp hi).2 h
    · rw [if_neg h, EReal.bot_add, max_eq_right bot_le]
      exact le_trans (le_max_right _ _) (key r0 h0 e0)

theorem ld_apply (P : Vec Ideal S136x512 .f32) (g : Fin 128) (k : Fin 512) :
    ld (Rect.unit (s := S136x512) ![0, 0] S128x512.size inb_S136x512_S128x512_0_0).toLoadRect P (ValueIdx.ix2 g k) = P (ValueIdx.ix2 ⟨g.val, g.isLt.trans (by decide)⟩ k) := by
  unfold ld
  congr 1
  funext a; refine Fin.ext ?_
  match a with
  | ⟨0, _⟩ => exact (Updates.emb_val (o := (0, 0)) rfl inb_S136x512_S128x512_0_0 (ValueIdx.ix2 g k)).1.trans (Nat.zero_add _)
  | ⟨1, _⟩ => exact (Updates.emb_val (o := (0, 0)) rfl inb_S136x512_S128x512_0_0 (ValueIdx.ix2 g k)).2.trans (Nat.zero_add _)

theorem pay39_apply (Q : Vec Ideal S128x512 .f32) (b : Vec Ideal S1x512 .f32) (W : Vec Ideal S512x128 .f32) (bo : Vec Ideal S1x128 .f32) (L : Fin 128 → Fin 128 → EReal)
    (hL : ∀ g j, (∑ k : Fin 512, max ((Q (ValueIdx.ix2 g k) : EReal) + b (ValueIdx.ix2 ⟨0, Nat.one_pos⟩ k)) 0 * W (ValueIdx.ix2 k j)) + bo (ValueIdx.ix2 ⟨0, Nat.one_pos⟩ j) = L g j) (g j : Fin 128) :
    k0_pay39 Q b W bo (ValueIdx.ix2 g j) = L g j - Finset.univ.fold max (⊥ : EReal) fun l : Fin 128 => L g l := by
  unfold k0_pay39
  pointwise
  rw [bits_bot]
  simp only [← hL]
  rfl

theorem pay40_apply (Q : Vec Ideal S128x512 .f32) (b : Vec Ideal S1x512 .f32) (W : Vec Ideal S512x128 .f32) (bo : Vec Ideal S1x128 .f32) (g j : Fin 128) :
    k0_pay40 Q b W bo (ValueIdx.ix2 g j) = Ideal.log (∑ l : Fin 128, Ideal.exp (k0_pay39 Q b W bo (ValueIdx.ix2 g l) : EReal)) := by
  unfold k0_pay40
  pointwise
  rfl

open Cert.ReferenceIdeal.Hand (enc masked pooled logits shifted logSoftmax result enc_apply masked_apply pooled_apply logits_apply shifted_apply logSoftmax_apply)

/-- The reference's result over the kernel's arguments. -/
def want (c : Dev nD) : S128x128.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

variable (hb : ∀ c, Graphs (ids m c))
include hb

/-- The reference's pooled rows, from the maxima of the rows before the bias. -/
theorem pooled_eq (c : Dev nD) (g : Fin 128) (k : Fin 512) :
    pooled (masked (ids m c) (enc (m ((c : Thread nD τ).loc main_arg0)) (m ((c : Thread nD τ).loc main_arg2)) (m ((c : Thread nD τ).loc main_arg3)))) (ValueIdx.ix2 g k)
      = max (seg (gid (ids m c)) (Hrow m c k) g.val 0 50000 + m ((c : Thread nD τ).loc main_arg3) (Shape.Idx.ofFin k)) 0 := by
  rw [pooled_apply, ← sup_relu (ids m c) (hb c) (Hrow m c k) g.val g.isLt]
  refine Finset.sup_congr rfl fun r _ => ?_
  rw [masked_apply, gid_of_lt _ _ r.isLt, enc_apply, Hrow, hrow, dif_pos r.isLt]

/-- The last point's output is the reference's result. -/
theorem last_apply (c : Dev nD) (P : S136x512.Idx → EReal) (B : Vec Ideal S1000x512 .f32) (hI : Inv m c 24 P B) (g j : Fin 128) :
    lastO (F := Ideal) m c tLast P B (ValueIdx.ix2 g j) = want m c (ValueIdx.ix2 g j) := by
  have hP := end_pooled m hb c P B hI
  have h39 := pay39_apply (ld (Rect.unit (s := S136x512) ![0, 0] S128x512.size inb_S136x512_S128x512_0_0).toLoadRect (endP (F := Ideal) m c tLast P B)) (bB6 m c tLast) (bW7 m c tLast) (bB8 m c tLast)
    (fun g j => logits (pooled (masked (ids m c) (enc (m ((c : Thread nD τ).loc main_arg0)) (m ((c : Thread nD τ).loc main_arg2)) (m ((c : Thread nD τ).loc main_arg3))))) (m ((c : Thread nD τ).loc main_arg4)) (m ((c : Thread nD τ).loc main_arg5)) (ValueIdx.ix2 g j)) fun g j => by
    rw [logits_apply, bB8_apply]
    refine congrArg (· + _) (Finset.sum_congr rfl fun k _ => ?_)
    rw [ld_apply, hP _ g.isLt k, bB6_apply, bW7_apply, pooled_eq m hb c g k]
  have e : lastO (F := Ideal) m c tLast P B (ValueIdx.ix2 g j)
      = (k0_pay39 (ld (Rect.unit (s := S136x512) ![0, 0] S128x512.size inb_S136x512_S128x512_0_0).toLoadRect (endP (F := Ideal) m c tLast P B)) (bB6 m c tLast) (bW7 m c tLast) (bB8 m c tLast) (ValueIdx.ix2 g j) : EReal)
        - k0_pay40 (ld (Rect.unit (s := S136x512) ![0, 0] S128x512.size inb_S136x512_S128x512_0_0).toLoadRect (endP (F := Ideal) m c tLast P B)) (bB6 m c tLast) (bW7 m c tLast) (bB8 m c tLast) (ValueIdx.ix2 g j) := by
    unfold lastO outFn
    pointwise [k0_pay7]
  rw [e, pay40_apply]
  simp only [h39]
  unfold want result
  rw [logSoftmax_apply]
  simp only [shifted_apply]

theorem last_eq (c : Dev nD) (P : S136x512.Idx → EReal) (B : Vec Ideal S1000x512 .f32) (hI : Inv m c 24 P B) :
    lastO (F := Ideal) m c tLast P B = want m c := by
  funext i
  obtain ⟨g, j, rfl⟩ : ∃ (g j : Fin 128), i = ValueIdx.ix2 g j := ⟨i 0, i 1, ValueIdx.eq_ix2 i⟩
  exact last_apply m hb c P B hI g j

/-- What every run of the kernel's program leaves: the reference's result, and its arguments as given. -/
theorem run_value (ρ : Dev nD → PrngReg) :
    θ_run defs (onTc (τ := τ) (main (F := Ideal))) (s₀ m ρ) (fun r => ∀ c : Dev nD,
      r.2.mem ((c : Thread nD τ).loc main_v27) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => by
      obtain ⟨P, B, hI, e⟩ := out_of_post m (Inv m) r h.1 c
      exact ⟨e.trans (last_eq m hb c P B hI), args_of_post m (Inv m) r h.1 c⟩)
    (run_main m ρ (Inv m) (fun c => tab_lt m c (hb c)) (fun _ _ _ h _ => absurd h (lt_irrefl 0)) (step m hb))

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_graphs
public import proofs.«01_k».proof.Proof.Final
public import proofs.«01_k».proof.Proof.Word.Final
public import proofs.«01_k».proof.Proof.Value.Out
public import Idealize.ShloMosaic.Adequacy
public import Idealize.ShloMosaic.Init
public import Idealize.ShloMosaic.Lib.StableHlo.RunHlo
public import Idealize.ShloMosaic.Lib.Claim

@[expose] public section

noncomputable section

namespace Cert.Proof

open Idealize.ShloMosaic Idealize.SL.Sem Cert.Kernel

/-- The reference declares no semaphore, so any assignment of counters is the zero one. -/
theorem noSem (f : GSem Cert.ReferenceIdeal.nD Cert.ReferenceIdeal.τ Cert.ReferenceIdeal.sig → Int) : f = fun _ => 0 := by
  funext ⟨_, sm⟩
  exact match sm with
    | .reg s => absurd s.isLt (Nat.not_lt_zero _)
    | .dma s => absurd s.isLt (Nat.not_lt_zero _)

set_option maxHeartbeats 2000000 in
theorem frame_ReferenceIdeal : Cert.quiescent_ReferenceIdeal := by
  unfold Cert.quiescent_ReferenceIdeal
  intro m g _
  refine θ_run_mono (Q := fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) ?_
    fun r hr => ⟨hr, noSem r.2.sem⟩
  hlo_run

set_option maxHeartbeats 2000000 in
theorem frame_Kernel : Cert.quiescent_Kernel := by
  intro m g h
  have hb : ∀ c, Cert.Pool.Graphs (Cert.Kernel.Hand.ids m c) := by
    intro c
    have hc := h c
    exact Cert.Pool.graphs_of_fn (F := Bits) _ _ _ _ _ _ hc
  exact Cert.Kernel.Hand.frame (F := Bits) m g hb

theorem graphs_KernelIdeal {m : (ℓ : Loc Cert.KernelIdeal.nD Cert.KernelIdeal.τ Cert.KernelIdeal.sig) → Buf (Elt Ideal) ℓ}
    (h : Cert.Pre_KernelIdeal m) (c : Dev Cert.KernelIdeal.nD) : Cert.Pool.Graphs (Cert.KernelIdeal.Hand.ids m c) := by
  have hc := h c
  exact Cert.Pool.graphs_of_fn (F := Ideal) _ _ _ _ _ _ hc

set_option maxHeartbeats 2000000 in
theorem frame_KernelIdeal : Cert.quiescent_KernelIdeal := by
  intro m g h
  exact Cert.KernelIdeal.Hand.frame (F := Ideal) m g (graphs_KernelIdeal h)

theorem frame_ReferenceIdeal_graphs : Cert.quiescent_ReferenceIdeal_pre_graphs :=
  fun m g _ => frame_ReferenceIdeal m g trivial

/-- Over the reals extended by the infinities the kernel computes the reference's result: both are the log-softmax of
    the same logits. -/
theorem algebraic : Cert.algebraic_KernelIdeal_ReferenceIdeal := by
  intro m g m' g' hpre hagree
  refine ⟨fun c => Cert.KernelIdeal.Hand.want m c, Cert.KernelIdeal.Hand.run_value m (graphs_KernelIdeal hpre) g,
    θ_run_mono (θ_run_and (Cert.ReferenceIdeal.Hand.run m' g') (frame_ReferenceIdeal m' g' trivial)) fun r hr c => ⟨(hr.1 c).trans ?_, hr.2.1 c⟩⟩
  obtain ⟨e0, e1, e2, e3, e4, e5⟩ := hagree c
  rw [e0, e1, e2, e3, e4, e5]
  rfl

theorem claim : Cert.Claim :=
  ⟨Cert.Kernel.Gen.facts, Cert.KernelIdeal.Gen.facts, Cert.ReferenceIdeal.Gen.facts, Cert.Pre_graphs.Gen.facts,
    frame_Kernel, frame_KernelIdeal, frame_ReferenceIdeal, frame_ReferenceIdeal_graphs, trivial, algebraic⟩

end Cert.Proof

end
